-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_counts_in_range : Cert.Pre_counts_in_range.Facts] (m : (ℓ : Loc Cert.Kernel4.nD Cert.Kernel4.τ Cert.Kernel4.sig) → Buf (Elt Bits) ℓ) : Prop :=
  ∀ c : Dev Cert.Kernel4.nD,
    (Cert.Pre_counts_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))).1 = (fun _ => 1#1)
    ∧ (Cert.Pre_counts_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))).2 = (fun _ => 1#1)

def Pre_Kernel4Ideal [hPre_counts_in_range : Cert.Pre_counts_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_counts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_counts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_counts_in_range [hPre_counts_in_range : Cert.Pre_counts_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_counts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_counts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_counts_in_range : Cert.Pre_counts_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_counts_in_range : Cert.Pre_counts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_counts_in_range [hReference4Ideal : Cert.Reference4Ideal.Facts] [hPre_counts_in_range : Cert.Pre_counts_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_counts_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_counts_in_range : Cert.Pre_counts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v129)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v129) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_counts_in_range : Cert.Pre_counts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_counts_in_range := hPre_counts_in_range)
    ∧ quiescent_Kernel4Ideal (hKernel4Ideal := hKernel4Ideal) (hPre_counts_in_range := hPre_counts_in_range)
    ∧ quiescent_Reference4Ideal (hReference4Ideal := hReference4Ideal)
    ∧ quiescent_Reference4Ideal_pre_counts_in_range (hReference4Ideal := hReference4Ideal) (hPre_counts_in_range := hPre_counts_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_counts_in_range := hPre_counts_in_range)
-- ==== Pre_counts_in_range.lean ====
abbrev S8 : Shape := ⟨1, ![8]⟩
abbrev S18432x2048 : Shape := ⟨2, ![18432, 2048]⟩
abbrev S1x8x2048x7168 : Shape := ⟨4, ![1, 8, 2048, 7168]⟩
abbrev S1x8x7168x2048 : Shape := ⟨4, ![1, 8, 7168, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S18432x2048 .bf16) (main_arg2 : FVec F S1x8x2048x7168 .f32) (main_arg3 : FVec F S1x8x2048x7168 .f32) (main_arg4 : FVec F S1x8x7168x2048 .f32) : IVec S_ 1 × IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 16384#32
  let main_v3 : IVec S8 32 := broadcastInDim S8 ![] bcast_S_S8 main_c_1
  let main_v4 : IVec S8 1 := cmpi .sle main_arg0 main_v3
  let main_c_2 : IVec S_ 1 := constantI S_ 1 1#1
  let main_v5 : IVec S_ 1 := (fun x v => Host.reduce IntOp.andi x v reducesTo_S8_S_d0 h_S_) main_v4 main_c_2
  (main_v2, main_v5)
-- ==== Kernel.lean ====
abbrev S2x4096x2048 : Shape := ⟨3, ![2, 4096, 2048]⟩
abbrev S2x2048 : Shape := ⟨2, ![2, 2048]⟩
abbrev S2x2048x8640 : Shape := ⟨3, ![2, 2048, 8640]⟩
abbrev S1x2048x64 : Shape := ⟨3, ![1, 2048, 64]⟩
abbrev S17 : Shape := ⟨1, ![17]⟩
abbrev S8192x2048 : Shape := ⟨2, ![8192, 2048]⟩
abbrev S2x8640x2048 : Shape := ⟨3, ![2, 8640, 2048]⟩
abbrev S_ : Shape := ⟨0, ![]⟩
abbrev S2048x448 : Shape := ⟨2, ![2048, 448]⟩
abbrev S2048x64 : Shape := ⟨2, ![2048, 64]⟩
abbrev S2048x512 : Shape := ⟨2, ![2048, 512]⟩
abbrev S1x2048 : Shape := ⟨2, ![1, 2048]⟩
abbrev S2048 : Shape := ⟨1, ![2048]⟩
abbrev S8192x8704 : Shape := ⟨2, ![8192, 8704]⟩
abbrev S2048x2048 : Shape := ⟨2, ![2048, 2048]⟩
abbrev S1x512x2048 : Shape := ⟨3, ![1, 512, 2048]⟩
abbrev S1 : Shape := ⟨1, ![1]⟩
abbrev S2048x1 : Shape := ⟨2, ![2048, 1]⟩
abbrev S512x2048 : Shape := ⟨2, ![512, 2048]⟩

abbrev nBuf : Space → Nat
  | .hbm => 15
  | .vmem => 8
  | .smem => 1
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x8640, .f32⟩
  | .hbm, ⟨3, _⟩ => ⟨S1x2048x64, .f32⟩
  | .hbm, ⟨4, _⟩ => ⟨S8192x2048, .f32⟩
  | .hbm, ⟨5, _⟩ => ⟨S2x8640x2048, .f32⟩
  | .hbm, ⟨6, _⟩ => ⟨S_, .f32⟩
  | .hbm, ⟨7, _⟩ => ⟨S2048x448, .f32⟩
  | .hbm, ⟨8, _⟩ => ⟨S2048x64, .f32⟩
  | .hbm, ⟨9, _⟩ => ⟨S2048x512, .f32⟩
  | .hbm, ⟨10, _⟩ => ⟨S2048x512, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x8704, .f32⟩
  | .local _ .vmem, ⟨0, _⟩ => ⟨S1x2048, .f32⟩
  | .local _ .vmem, ⟨1, _⟩ => ⟨S2048x2048, .f32⟩
  | .local _ .vmem, ⟨2, _⟩ => ⟨S1x512x2048, .f32⟩
  | .local _ .vmem, ⟨3, _⟩ => ⟨S1x512x2048, .f32⟩
  | .local _ .vmem, ⟨4, _⟩ => ⟨S2048x512, .bf16⟩
  | .local _ .vmem, ⟨5, _⟩ => ⟨S2048x512, .f32⟩
  | .local _ .vmem, ⟨6, _⟩ => ⟨S2048x512, .f32⟩
  | .local _ .vmem, ⟨7, _⟩ => ⟨S2048x2048, .bf16⟩
  | .local _ .smem, ⟨0, _⟩ => ⟨S17, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 17], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c32_i32 : BitVec 32 := 32#32
  let v2 : BitVec 32 := Scalar.muli v1 c32_i32
  v2

def k0_cond2 (i : grid0.Coords) : BitVec 1 :=
  let arg1 : BitVec 32 := BitVec.ofNat 32 (i 1).val
  let c16_i32 : BitVec 32 := 16#32
  let v8 : BitVec 1 := Scalar.cmpi .slt arg1 c16_i32
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c16_i32_6 : BitVec 32 := 16#32
  let v11 : BitVec 1 := Scalar.cmpi .eq arg1 c16_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c32_i32 : BitVec 32 := 32#32
  let v2 : BitVec 32 := Scalar.muli v1 c32_i32
  let v3 : BitVec 32 := v2
  let c1_i32 : BitVec 32 := 1#32
  let c0_i32 : BitVec 32 := 0#32
  let c0_i32_0 : BitVec 32 := 0#32
  ![c1_i32.toNat, v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4096x2048 : Shape := ⟨3, ![2, 4096, 2048]⟩
abbrev S2x2048 : Shape := ⟨2, ![2, 2048]⟩
abbrev S2x2048x8640 : Shape := ⟨3, ![2, 2048, 8640]⟩
abbrev S1x2048x64 : Shape := ⟨3, ![1, 2048, 64]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8640 : Shape := ⟨3, ![1, 2048, 8640]⟩
abbrev S2048x8640 : Shape := ⟨2, ![2048, 8640]⟩
abbrev S2x4096x8640 : Shape := ⟨3, ![2, 4096, 8640]⟩
abbrev S2x4096x3072 : Shape := ⟨3, ![2, 4096, 3072]⟩
abbrev S2x4096x448 : Shape := ⟨3, ![2, 4096, 448]⟩
abbrev S2x4096x5120 : Shape := ⟨3, ![2, 4096, 5120]⟩
abbrev S2048x64 : Shape := ⟨2, ![2048, 64]⟩
abbrev S2x4096x64 : Shape := ⟨3, ![2, 4096, 64]⟩
abbrev S2x4096x8704 : Shape := ⟨3, ![2, 4096, 8704]⟩
abbrev S8192x8704 : Shape := ⟨2, ![8192, 8704]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x8640, .f32⟩
  | .hbm, ⟨3, _⟩ => ⟨S1x2048x64, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S1x2048x8640, .f32⟩
  | .hbm, ⟨23, _⟩ => ⟨S2048x8640, .f32⟩
  | .hbm, ⟨24, _⟩ => ⟨S2x4096x8640, .f32⟩
  | .hbm, ⟨25, _⟩ => ⟨S2x4096x3072, .f32⟩
  | .hbm, ⟨26, _⟩ => ⟨S2x4096x448, .f32⟩
  | .hbm, ⟨27, _⟩ => ⟨S2x4096x5120, .f32⟩
  | .hbm, ⟨28, _⟩ => ⟨S2048x64, .f32⟩
  | .hbm, ⟨29, _⟩ => ⟨S2x4096x64, .f32⟩
  | .hbm, ⟨30, _⟩ => ⟨S2x4096x8704, .f32⟩
  | .hbm, ⟨31, _⟩ => ⟨S8192x8704, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x2048 : Shape := ⟨2, ![2, 2048]⟩
abbrev S1x2048x5632 : Shape := ⟨3, ![1, 2048, 5632]⟩
abbrev S8192x2048 : Shape := ⟨2, ![8192, 2048]⟩
abbrev S1x2048 : Shape := ⟨2, ![1, 2048]⟩
abbrev S2048 : Shape := ⟨1, ![2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x5632, .f32⟩
  | .hbm, ⟨3, _⟩ => ⟨S1x2048x5632, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x4096x2048 : Shape := ⟨3, ![2, 4096, 2048]⟩
abbrev S2x2048 : Shape := ⟨2, ![2, 2048]⟩
abbrev S1x2048x5632 : Shape := ⟨3, ![1, 2048, 5632]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S2x4096x5632 : Shape := ⟨3, ![2, 4096, 5632]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x5632, .f32⟩
  | .hbm, ⟨3, _⟩ => ⟨S1x2048x5632, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S_, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2048x5632, .f32⟩
  | .hbm, ⟨34, _⟩ => ⟨S2x4096x5632, .f32⟩
  | .hbm, ⟨35, _⟩ => ⟨S2x4096x5632, .f32⟩
  | .hbm, ⟨36, _⟩ => ⟨S8192x5632, .f32⟩
  | .hbm, ⟨37, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Kernel3.lean ====
abbrev S2x4096x2048 : Shape := ⟨3, ![2, 4096, 2048]⟩
abbrev S8192x5632 : Shape := ⟨2, ![8192, 5632]⟩
abbrev S1x5632x2048 : Shape := ⟨3, ![1, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 5
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S8192x5632, .bf16⟩
  | .hbm, ⟨2, _⟩ => ⟨S1x5632x2048, .f32⟩
  | .hbm, ⟨3, _⟩ => ⟨S8192x2048, .f32⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4096x2048 : Shape := ⟨3, ![2, 4096, 2048]⟩
abbrev S8192x5632 : Shape := ⟨2, ![8192, 5632]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x5632, .bf16⟩
  | .hbm, ⟨2, _⟩ => ⟨S1x5632x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S2x4096x2048, .f32⟩
  | .hbm, ⟨7, _⟩ => ⟨S2x4096x2048, .f32⟩
  | .hbm, ⟨8, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8 : Shape := ⟨1, ![8]⟩
abbrev S18432x2048 : Shape := ⟨2, ![18432, 2048]⟩
abbrev S1x8x2048x7168 : Shape := ⟨4, ![1, 8, 2048, 7168]⟩
abbrev S1x8x7168x2048 : Shape := ⟨4, ![1, 8, 7168, 2048]⟩
abbrev S_ : Shape := ⟨0, ![]⟩
abbrev S1 : Shape := ⟨1, ![1]⟩
abbrev S18 : Shape := ⟨1, ![18]⟩
abbrev S18x1 : Shape := ⟨2, ![18, 1]⟩
abbrev S1x8 : Shape := ⟨2, ![1, 8]⟩
abbrev S18x8 : Shape := ⟨2, ![18, 8]⟩
abbrev S144 : Shape := ⟨1, ![144]⟩
abbrev S26 : Shape := ⟨1, ![26]⟩
abbrev S144x1 : Shape := ⟨2, ![144, 1]⟩
abbrev S182 : Shape := ⟨1, ![182]⟩
abbrev S8x2048x7168 : Shape := ⟨3, ![8, 2048, 7168]⟩
abbrev S8x7168x2048 : Shape := ⟨3, ![8, 7168, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S256x256 : Shape := ⟨2, ![256, 256]⟩
abbrev S512x2048 : Shape := ⟨2, ![512, 2048]⟩
abbrev S512x256 : Shape := ⟨2, ![512, 256]⟩
abbrev S768x2048 : Shape := ⟨2, ![768, 2048]⟩
abbrev S768x256 : Shape := ⟨2, ![768, 256]⟩
abbrev S1024x256 : Shape := ⟨2, ![1024, 256]⟩

abbrev nBuf : Space → Nat
  | .hbm => 237
  | .vmem => 10
  | .smem => 1
  | _ => 0

abbrev hbmTy0_0 (i : Nat) : BufTy := match i % 128 with
  | 0 => ⟨S8, .i32⟩
  | 1 => ⟨S18432x2048, .bf16⟩
  | 2 => ⟨S1x8x2048x7168, .f32⟩
  | 3 => ⟨S1x8x2048x7168, .f32⟩
  | 4 => ⟨S1x8x7168x2048, .f32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S_, .i32⟩
  | 12 => ⟨S_, .i32⟩
  | 13 => ⟨S8, .i32⟩
  | 14 => ⟨S8, .i32⟩
  | 15 => ⟨S8, .i32⟩
  | 16 => ⟨S_, .i32⟩
  | 17 => ⟨S8, .i32⟩
  | 18 => ⟨S8, .i1⟩
  | 19 => ⟨S8, .i32⟩
  | 20 => ⟨S8, .i32⟩
  | 21 => ⟨S_, .i32⟩
  | 22 => ⟨S8, .i32⟩
  | 23 => ⟨S8, .i1⟩
  | 24 => ⟨S8, .i1⟩
  | 25 => ⟨S_, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S1, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i1⟩
  | 51 => ⟨S_, .i1⟩
  | 52 => ⟨S_, .i32⟩
  | 53 => ⟨S_, .i32⟩
  | 54 => ⟨S_, .i32⟩
  | 55 => ⟨S18, .i32⟩
  | 56 => ⟨S_, .i32⟩
  | 57 => ⟨S18, .i32⟩
  | 58 => ⟨S18, .i32⟩
  | 59 => ⟨S18x1, .i32⟩
  | 60 => ⟨S1x8, .i32⟩
  | 61 => ⟨S18x8, .i32⟩
  | 62 => ⟨S18x8, .i32⟩
  | 63 => ⟨S18x8, .i32⟩
  | 64 => ⟨S1x8, .i32⟩
  | 65 => ⟨S_, .i32⟩
  | 66 => ⟨S18x1, .i32⟩
  | 67 => ⟨S18x1, .i32⟩
  | 68 => ⟨S18x8, .i32⟩
  | 69 => ⟨S18x8, .i32⟩
  | 70 => ⟨S18x8, .i32⟩
  | 71 => ⟨S18x8, .i1⟩
  | 72 => ⟨S144, .i1⟩
  | 73 => ⟨S144, .i32⟩
  | 74 => ⟨S_, .i32⟩
  | 75 => ⟨S_, .i32⟩
  | 76 => ⟨S144, .i32⟩
  | 77 => ⟨S_, .i32⟩
  | 78 => ⟨S_, .i32⟩
  | 79 => ⟨S144, .i32⟩
  | 80 => ⟨S_, .i32⟩
  | 81 => ⟨S144, .i32⟩
  | 82 => ⟨S144, .i32⟩
  | 83 => ⟨S_, .i32⟩
  | 84 => ⟨S_, .i32⟩
  | 85 => ⟨S144, .i32⟩
  | 86 => ⟨S144, .i32⟩
  | 87 => ⟨S18, .i32⟩
  | 88 => ⟨S18x1, .i32⟩
  | 89 => ⟨S18x8, .i32⟩
  | 90 => ⟨S_, .i32⟩
  | 91 => ⟨S26, .i32⟩
  | 92 => ⟨S144, .i32⟩
  | 93 => ⟨S_, .i32⟩
  | 94 => ⟨S144, .i32⟩
  | 95 => ⟨S144, .i1⟩
  | 96 => ⟨S_, .i32⟩
  | 97 => ⟨S144, .i32⟩
  | 98 => ⟨S144, .i32⟩
  | 99 => ⟨S144, .i32⟩
  | 100 => ⟨S144x1, .i32⟩
  | 101 => ⟨S26, .i32⟩
  | 102 => ⟨S8, .i32⟩
  | 103 => ⟨S1x8, .i32⟩
  | 104 => ⟨S18x8, .i32⟩
  | 105 => ⟨S_, .i32⟩
  | 106 => ⟨S26, .i32⟩
  | 107 => ⟨S144, .i32⟩
  | 108 => ⟨S_, .i32⟩
  | 109 => ⟨S144, .i32⟩
  | 110 => ⟨S144, .i1⟩
  | 111 => ⟨S_, .i32⟩
  | 112 => ⟨S144, .i32⟩
  | 113 => ⟨S144, .i32⟩
  | 114 => ⟨S144, .i32⟩
  | 115 => ⟨S144x1, .i32⟩
  | 116 => ⟨S26, .i32⟩
  | 117 => ⟨S18x8, .i32⟩
  | 118 => ⟨S18x8, .i32⟩
  | 119 => ⟨S_, .i32⟩
  | 120 => ⟨S_, .i32⟩
  | 121 => ⟨S18x8, .i32⟩
  | 122 => ⟨S18x8, .i32⟩
  | 123 => ⟨S18x8, .i32⟩
  | 124 => ⟨S_, .i32⟩
  | 125 => ⟨S18x8, .i32⟩
  | 126 => ⟨S18x8, .i1⟩
  | 127 => ⟨S18x8, .i32⟩
  | _ => ⟨S8, .i32⟩

abbrev hbmTy0_1 (i : Nat) : BufTy := match i % 128 with
  | 0 => ⟨S18x8, .i32⟩
  | 1 => ⟨S_, .i32⟩
  | 2 => ⟨S18x8, .i32⟩
  | 3 => ⟨S18x8, .i1⟩
  | 4 => ⟨S18x8, .i1⟩
  | 5 => ⟨S_, .i32⟩
  | 6 => ⟨S18x8, .i32⟩
  | 7 => ⟨S18x8, .i32⟩
  | 8 => ⟨S18x8, .i32⟩
  | 9 => ⟨S_, .i32⟩
  | 10 => ⟨S26, .i32⟩
  | 11 => ⟨S144, .i32⟩
  | 12 => ⟨S_, .i32⟩
  | 13 => ⟨S144, .i32⟩
  | 14 => ⟨S144, .i1⟩
  | 15 => ⟨S_, .i32⟩
  | 16 => ⟨S144, .i32⟩
  | 17 => ⟨S144, .i32⟩
  | 18 => ⟨S144, .i32⟩
  | 19 => ⟨S144x1, .i32⟩
  | 20 => ⟨S26, .i32⟩
  | 21 => ⟨S18x8, .i32⟩
  | 22 => ⟨S18x8, .i32⟩
  | 23 => ⟨S_, .i32⟩
  | 24 => ⟨S_, .i32⟩
  | 25 => ⟨S18x8, .i32⟩
  | 26 => ⟨S18x8, .i32⟩
  | 27 => ⟨S18x8, .i32⟩
  | 28 => ⟨S_, .i32⟩
  | 29 => ⟨S18x8, .i32⟩
  | 30 => ⟨S18x8, .i1⟩
  | 31 => ⟨S18x8, .i32⟩
  | 32 => ⟨S18x8, .i32⟩
  | 33 => ⟨S_, .i32⟩
  | 34 => ⟨S18x8, .i32⟩
  | 35 => ⟨S18x8, .i1⟩
  | 36 => ⟨S18x8, .i1⟩
  | 37 => ⟨S_, .i32⟩
  | 38 => ⟨S18x8, .i32⟩
  | 39 => ⟨S18x8, .i32⟩
  | 40 => ⟨S18x8, .i32⟩
  | 41 => ⟨S_, .i32⟩
  | 42 => ⟨S26, .i32⟩
  | 43 => ⟨S144, .i32⟩
  | 44 => ⟨S_, .i32⟩
  | 45 => ⟨S144, .i32⟩
  | 46 => ⟨S144, .i1⟩
  | 47 => ⟨S_, .i32⟩
  | 48 => ⟨S144, .i32⟩
  | 49 => ⟨S144, .i32⟩
  | 50 => ⟨S144, .i32⟩
  | 51 => ⟨S144x1, .i32⟩
  | 52 => ⟨S26, .i32⟩
  | 53 => ⟨S18x8, .i32⟩
  | 54 => ⟨S18x8, .i1⟩
  | 55 => ⟨S_, .i32⟩
  | 56 => ⟨S26, .i32⟩
  | 57 => ⟨S144, .i1⟩
  | 58 => ⟨S144, .i32⟩
  | 59 => ⟨S_, .i32⟩
  | 60 => ⟨S144, .i32⟩
  | 61 => ⟨S144, .i1⟩
  | 62 => ⟨S_, .i32⟩
  | 63 => ⟨S144, .i32⟩
  | 64 => ⟨S144, .i32⟩
  | 65 => ⟨S144, .i32⟩
  | 66 => ⟨S144x1, .i32⟩
  | 67 => ⟨S26, .i32⟩
  | 68 => ⟨S26, .i32⟩
  | 69 => ⟨S26, .i32⟩
  | 70 => ⟨S26, .i1⟩
  | 71 => ⟨S26, .i32⟩
  | 72 => ⟨S26, .i32⟩
  | 73 => ⟨S26, .i32⟩
  | 74 => ⟨S26, .i32⟩
  | 75 => ⟨S_, .i32⟩
  | 76 => ⟨S_, .i32⟩
  | 77 => ⟨S_, .i32⟩
  | 78 => ⟨S26, .i32⟩
  | 79 => ⟨S26, .i32⟩
  | 80 => ⟨S26, .i32⟩
  | 81 => ⟨S_, .i32⟩
  | 82 => ⟨S_, .i1⟩
  | 83 => ⟨S_, .i32⟩
  | 84 => ⟨S_, .i32⟩
  | 85 => ⟨S_, .i32⟩
  | 86 => ⟨S1, .i32⟩
  | 87 => ⟨S_, .i32⟩
  | 88 => ⟨S26, .i32⟩
  | 89 => ⟨S26, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S_, .i32⟩
  | 97 => ⟨S26, .i32⟩
  | 98 => ⟨S26, .i32⟩
  | 99 => ⟨S_, .i32⟩
  | 100 => ⟨S26, .i32⟩
  | 101 => ⟨S26, .i1⟩
  | 102 => ⟨S26, .i32⟩
  | 103 => ⟨S26, .i32⟩
  | 104 => ⟨S26, .i32⟩
  | 105 => ⟨S8x2048x7168, .f32⟩
  | 106 => ⟨S8x2048x7168, .f32⟩
  | 107 => ⟨S8x7168x2048, .f32⟩
  | 108 => ⟨S18432x2048, .f32⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .f32⟩
  | .local _ .vmem, ⟨9, _⟩ => ⟨S1024x2048, .f32⟩
  | .local _ .smem, ⟨0, _⟩ => ⟨S182, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_c_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c : Ref sig .tc := ⟨.hbm, 49, rfl⟩
abbrev main_call2_v6 : Ref sig .tc := ⟨.hbm, 50, rfl⟩
abbrev main_call2_v7 : Ref sig .tc := ⟨.hbm, 51, rfl⟩
abbrev main_call2_c_0 : Ref sig .tc := ⟨.hbm, 52, rfl⟩
abbrev main_call2_v8 : Ref sig .tc := ⟨.hbm, 53, rfl⟩
abbrev main_v13 : Ref sig .tc := ⟨.hbm, 54, rfl⟩
abbrev main_v14 : Ref sig .tc := ⟨.hbm, 55, rfl⟩
abbrev main_c_6 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_7 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_8 : Ref sig .tc := ⟨.hbm, 74, rfl⟩
abbrev main_v31 : Ref sig .tc := ⟨.hbm, 75, rfl⟩
abbrev main_v32 : Ref sig .tc := ⟨.hbm, 76, rfl⟩
abbrev main_call3_call0_c : Ref sig .tc := ⟨.hbm, 77, rfl⟩
abbrev main_call3_call0_v0 : Ref sig .tc := ⟨.hbm, 78, rfl⟩
abbrev main_v33 : Ref sig .tc := ⟨.hbm, 79, rfl⟩
abbrev main_c_9 : Ref sig .tc := ⟨.hbm, 80, rfl⟩
abbrev main_v34 : Ref sig .tc := ⟨.hbm, 81, rfl⟩
abbrev main_v35 : Ref sig .tc := ⟨.hbm, 82, rfl⟩
abbrev main_c_10 : Ref sig .tc := ⟨.hbm, 83, rfl⟩
abbrev main_call4_v0 : Ref sig .tc := ⟨.hbm, 84, rfl⟩
abbrev main_call4_v1 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_c_11 : Ref sig .tc := ⟨.hbm, 90, rfl⟩
abbrev main_v40 : Ref sig .tc := ⟨.hbm, 91, rfl⟩
abbrev main_v41 : Ref sig .tc := ⟨.hbm, 92, rfl⟩
abbrev main_c_12 : Ref sig .tc := ⟨.hbm, 93, rfl⟩
abbrev main_v42 : Ref sig .tc := ⟨.hbm, 94, rfl⟩
abbrev main_v43 : Ref sig .tc := ⟨.hbm, 95, rfl⟩
abbrev main_c_13 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_14 : Ref sig .tc := ⟨.hbm, 105, rfl⟩
abbrev main_v52 : Ref sig .tc := ⟨.hbm, 106, rfl⟩
abbrev main_v53 : Ref sig .tc := ⟨.hbm, 107, rfl⟩
abbrev main_c_15 : Ref sig .tc := ⟨.hbm, 108, rfl⟩
abbrev main_v54 : Ref sig .tc := ⟨.hbm, 109, rfl⟩
abbrev main_v55 : Ref sig .tc := ⟨.hbm, 110, rfl⟩
abbrev main_c_16 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_17 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_c : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_c_0 : Ref sig .tc := ⟨.hbm, 133, rfl⟩
abbrev main_call5_v12 : Ref sig .tc := ⟨.hbm, 134, rfl⟩
abbrev main_call5_v13 : Ref sig .tc := ⟨.hbm, 135, rfl⟩
abbrev main_v63 : Ref sig .tc := ⟨.hbm, 136, rfl⟩
abbrev main_c_18 : Ref sig .tc := ⟨.hbm, 137, rfl⟩
abbrev main_v64 : Ref sig .tc := ⟨.hbm, 138, rfl⟩
abbrev main_v65 : Ref sig .tc := ⟨.hbm, 139, rfl⟩
abbrev main_c_19 : Ref sig .tc := ⟨.hbm, 140, rfl⟩
abbrev main_v66 : Ref sig .tc := ⟨.hbm, 141, rfl⟩
abbrev main_v67 : Ref sig .tc := ⟨.hbm, 142, rfl⟩
abbrev main_c_20 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_c_21 : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_c : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_c_0 : Ref sig .tc := ⟨.hbm, 165, rfl⟩
abbrev main_call6_v12 : Ref sig .tc := ⟨.hbm, 166, rfl⟩
abbrev main_call6_v13 : Ref sig .tc := ⟨.hbm, 167, rfl⟩
abbrev main_v75 : Ref sig .tc := ⟨.hbm, 168, rfl⟩
abbrev main_c_22 : Ref sig .tc := ⟨.hbm, 169, rfl⟩
abbrev main_v76 : Ref sig .tc := ⟨.hbm, 170, rfl⟩
abbrev main_v77 : Ref sig .tc := ⟨.hbm, 171, rfl⟩
abbrev main_c_23 : Ref sig .tc := ⟨.hbm, 172, rfl⟩
abbrev main_v78 : Ref sig .tc := ⟨.hbm, 173, rfl⟩
abbrev main_v79 : Ref sig .tc := ⟨.hbm, 174, rfl⟩
abbrev main_c_24 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_c_25 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_c_26 : Ref sig .tc := ⟨.hbm, 187, rfl⟩
abbrev main_v90 : Ref sig .tc := ⟨.hbm, 188, rfl⟩
abbrev main_v91 : Ref sig .tc := ⟨.hbm, 189, rfl⟩
abbrev main_c_27 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_c_28 : Ref sig .tc := ⟨.hbm, 203, rfl⟩
abbrev main_v104 : Ref sig .tc := ⟨.hbm, 204, rfl⟩
abbrev main_c_29 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_c_30 : Ref sig .tc := ⟨.hbm, 209, rfl⟩
abbrev main_v108 : Ref sig .tc := ⟨.hbm, 210, rfl⟩
abbrev main_c_31 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_call8_v0 : Ref sig .tc := ⟨.hbm, 216, rfl⟩
abbrev main_v113 : Ref sig .tc := ⟨.hbm, 217, rfl⟩
abbrev main_c_32 : Ref sig .tc := ⟨.hbm, 218, rfl⟩
abbrev main_v114 : Ref sig .tc := ⟨.hbm, 219, rfl⟩
abbrev main_c_33 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_call9_v0 : Ref sig .tc := ⟨.hbm, 225, rfl⟩
abbrev main_v119 : Ref sig .tc := ⟨.hbm, 226, rfl⟩
abbrev main_c_34 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v125 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![26, 28], ![false, false]⟩

abbrev pre0 : Pipeline.Prefetch sig := ⟨1, ![main_v125.idx], fun | 0 => main_v125.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c26_i32 : BitVec 32) : Fin 1 → Nat :=
  let arg0 : BitVec 32 := BitVec.ofNat 32 (i 0).val
  let v0 : BitVec 32 := Scalar.addi c26_i32 arg0
  let v1 : Index := Scalar.indexCast v0
  ![v1.toNat]
def k0_cond1 (i : grid0.Coords) (v8 : BitVec 32) : BitVec 1 :=
  let c1_i32 : BitVec 32 := 1#32
  let v12 : BitVec 1 := Scalar.cmpi .eq v8 c1_i32
  let arg1 : BitVec 32 := BitVec.ofNat 32 (i 1).val
  let c0_i32 : BitVec 32 := 0#32
  let v13 : BitVec 1 := Scalar.cmpi .eq arg1 c0_i32
  let v14 : BitVec 1 := Scalar.andi v12 v13
  let v15 : BitVec 32 := Scalar.extui v14
  let c0_i32_0 : BitVec 32 := 0#32
  let v16 : BitVec 1 := Scalar.cmpi .ne v15 c0_i32_0
  v16

def k0_cond2 (v2 : BitVec 32) (v5 : BitVec 32) (v11 : BitVec 32) : BitVec 1 :=
  let c1_i32_1 : BitVec 32 := 1#32
  let v17 : BitVec 1 := Scalar.cmpi .eq v11 c1_i32_1
  let c0_i32_2 : BitVec 32 := 0#32
  let v18 : BitVec 1 := Scalar.cmpi .eq v2 c0_i32_2
  let c1_i32_3 : BitVec 32 := 1#32
  let v19 : BitVec 1 := Scalar.cmpi .eq v5 c1_i32_3
  let v20 : BitVec 1 := Scalar.andi v18 v19
  let v21 : BitVec 1 := Scalar.andi v17 v20
  let v22 : BitVec 32 := Scalar.extui v21
  let c0_i32_4 : BitVec 32 := 0#32
  let v23 : BitVec 1 := Scalar.cmpi .ne v22 c0_i32_4
  v23

def k0_cond3 (v2 : BitVec 32) (v5 : BitVec 32) (v11 : BitVec 32) : BitVec 1 :=
  let c1_i32_5 : BitVec 32 := 1#32
  let v24 : BitVec 1 := Scalar.cmpi .eq v11 c1_i32_5
  let c0_i32_6 : BitVec 32 := 0#32
  let v25 : BitVec 1 := Scalar.cmpi .eq v2 c0_i32_6
  let c2_i32 : BitVec 32 := 2#32
  let v26 : BitVec 1 := Scalar.cmpi .eq v5 c2_i32
  let v27 : BitVec 1 := Scalar.andi v25 v26
  let v28 : BitVec 1 := Scalar.andi v24 v27
  let v29 : BitVec 32 := Scalar.extui v28
  let c0_i32_7 : BitVec 32 := 0#32
  let v30 : BitVec 1 := Scalar.cmpi .ne v29 c0_i32_7
  v30

def k0_cond4 (v2 : BitVec 32) (v5 : BitVec 32) (v11 : BitVec 32) : BitVec 1 :=
  let c1_i32_8 : BitVec 32 := 1#32
  let v31 : BitVec 1 := Scalar.cmpi .eq v11 c1_i32_8
  let c0_i32_9 : BitVec 32 := 0#32
  let v32 : BitVec 1 := Scalar.cmpi .eq v2 c0_i32_9
  let c3_i32 : BitVec 32 := 3#32
  let v33 : BitVec 1 := Scalar.cmpi .eq v5 c3_i32
  let v34 : BitVec 1 := Scalar.andi v32 v33
  let v35 : BitVec 1 := Scalar.andi v31 v34
  let v36 : BitVec 32 := Scalar.extui v35
  let c0_i32_10 : BitVec 32 := 0#32
  let v37 : BitVec 1 := Scalar.cmpi .ne v36 c0_i32_10
  v37

def k0_cond5 (v2 : BitVec 32) (v5 : BitVec 32) (v11 : BitVec 32) : BitVec 1 :=
  let c1_i32_11 : BitVec 32 := 1#32
  let v38 : BitVec 1 := Scalar.cmpi .eq v11 c1_i32_11
  let c0_i32_12 : BitVec 32 := 0#32
  let v39 : BitVec 1 := Scalar.cmpi .eq v2 c0_i32_12
  let c4_i32 : BitVec 32 := 4#32
  let v40 : BitVec 1 := Scalar.cmpi .eq v5 c4_i32
  let v41 : BitVec 1 := Scalar.andi v39 v40
  let v42 : BitVec 1 := Scalar.andi v38 v41
  let v43 : BitVec 32 := Scalar.extui v42
  let c0_i32_13 : BitVec 32 := 0#32
  let v44 : BitVec 1 := Scalar.cmpi .ne v43 c0_i32_13
  v44

def k0_cond6 (v2 : BitVec 32) (v5 : BitVec 32) (v11 : BitVec 32) : BitVec 1 :=
  let c1_i32_14 : BitVec 32 := 1#32
  let v45 : BitVec 1 := Scalar.cmpi .eq v11 c1_i32_14
  let c1_i32_15 : BitVec 32 := 1#32
  let v46 : BitVec 1 := Scalar.cmpi .eq v2 c1_i32_15
  let c2_i32_16 : BitVec 32 := 2#32
  let v47 : BitVec 1 := Scalar.cmpi .eq v5 c2_i32_16
  let v48 : BitVec 1 := Scalar.andi v46 v47
  let v49 : BitVec 1 := Scalar.andi v45 v48
  let v50 : BitVec 32 := Scalar.extui v49
  let c0_i32_17 : BitVec 32 := 0#32
  let v51 : BitVec 1 := Scalar.cmpi .ne v50 c0_i32_17
  v51

def k0_cond7 (v2 : BitVec 32) (v5 : BitVec 32) (v11 : BitVec 32) : BitVec 1 :=
  let c1_i32_18 : BitVec 32 := 1#32
  let v52 : BitVec 1 := Scalar.cmpi .eq v11 c1_i32_18
  let c1_i32_19 : BitVec 32 := 1#32
  let v53 : BitVec 1 := Scalar.cmpi .eq v2 c1_i32_19
  let c3_i32_20 : BitVec 32 := 3#32
  let v54 : BitVec 1 := Scalar.cmpi .eq v5 c3_i32_20
  let v55 : BitVec 1 := Scalar.andi v53 v54
  let v56 : BitVec 1 := Scalar.andi v52 v55
  let v57 : BitVec 32 := Scalar.extui v56
  let c0_i32_21 : BitVec 32 := 0#32
  let v58 : BitVec 1 := Scalar.cmpi .ne v57 c0_i32_21
  v58

def k0_cond8 (v2 : BitVec 32) (v5 : BitVec 32) (v11 : BitVec 32) : BitVec 1 :=
  let c1_i32_22 : BitVec 32 := 1#32
  let v59 : BitVec 1 := Scalar.cmpi .eq v11 c1_i32_22
  let c1_i32_23 : BitVec 32 := 1#32
  let v60 : BitVec 1 := Scalar.cmpi .eq v2 c1_i32_23
  let c4_i32_24 : BitVec 32 := 4#32
  let v61 : BitVec 1 := Scalar.cmpi .eq v5 c4_i32_24
  let v62 : BitVec 1 := Scalar.andi v60 v61
  let v63 : BitVec 1 := Scalar.andi v59 v62
  let v64 : BitVec 32 := Scalar.extui v63
  let c0_i32_25 : BitVec 32 := 0#32
  let v65 : BitVec 1 := Scalar.cmpi .ne v64 c0_i32_25
  v65

def k0_cond9 (v2 : BitVec 32) (v5 : BitVec 32) (v11 : BitVec 32) : BitVec 1 :=
  let c1_i32_26 : BitVec 32 := 1#32
  let v66 : BitVec 1 := Scalar.cmpi .eq v11 c1_i32_26
  let c2_i32_27 : BitVec 32 := 2#32
  let v67 : BitVec 1 := Scalar.cmpi .eq v2 c2_i32_27
  let c3_i32_28 : BitVec 32 := 3#32
  let v68 : BitVec 1 := Scalar.cmpi .eq v5 c3_i32_28
  let v69 : BitVec 1 := Scalar.andi v67 v68
  let v70 : BitVec 1 := Scalar.andi v66 v69
  let v71 : BitVec 32 := Scalar.extui v70
  let c0_i32_29 : BitVec 32 := 0#32
  let v72 : BitVec 1 := Scalar.cmpi .ne v71 c0_i32_29
  v72

def k0_cond10 (v2 : BitVec 32) (v5 : BitVec 32) (v11 : BitVec 32) : BitVec 1 :=
  let c1_i32_30 : BitVec 32 := 1#32
  let v73 : BitVec 1 := Scalar.cmpi .eq v11 c1_i32_30
  let c2_i32_31 : BitVec 32 := 2#32
  let v74 : BitVec 1 := Scalar.cmpi .eq v2 c2_i32_31
  let c4_i32_32 : BitVec 32 := 4#32
  let v75 : BitVec 1 := Scalar.cmpi .eq v5 c4_i32_32
  let v76 : BitVec 1 := Scalar.andi v74 v75
  let v77 : BitVec 1 := Scalar.andi v73 v76
  let v78 : BitVec 32 := Scalar.extui v77
  let c0_i32_33 : BitVec 32 := 0#32
  let v79 : BitVec 1 := Scalar.cmpi .ne v78 c0_i32_33
  v79

def k0_cond11 (v2 : BitVec 32) (v5 : BitVec 32) (v11 : BitVec 32) : BitVec 1 :=
  let c1_i32_34 : BitVec 32 := 1#32
  let v80 : BitVec 1 := Scalar.cmpi .eq v11 c1_i32_34
  let c3_i32_35 : BitVec 32 := 3#32
  let v81 : BitVec 1 := Scalar.cmpi .eq v2 c3_i32_35
  let c4_i32_36 : BitVec 32 := 4#32
  let v82 : BitVec 1 := Scalar.cmpi .eq v5 c4_i32_36
  let v83 : BitVec 1 := Scalar.andi v81 v82
  let v84 : BitVec 1 := Scalar.andi v80 v83
  let v85 : BitVec 32 := Scalar.extui v84
  let c0_i32_37 : BitVec 32 := 0#32
  let v86 : BitVec 1 := Scalar.cmpi .ne v85 c0_i32_37
  v86

def cc0_transform_0 (k0_off1_inb : ∀ i : grid0.Coords, ∀ (r : Fin 7), ∀ a, (k0_off1 i (BitVec.ofNat 32 (26 * r.val))) a + S1.size a ≤ S182.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let v1 : Index := Scalar.indexCast v0
  let v2 : BitVec 32 := pf.at 0 (Rect.unit (s := S182) ![v1.toNat] S1.size (k0_off1_inb i 1)) numel1_S1
  let c0_i32 : BitVec 32 := 0#32
  let c0_i32_0 : BitVec 32 := 0#32
  ![v2.toNat, c0_i32.toNat]

def cc0_transform_1 (k0_off1_inb : ∀ i : grid0.Coords, ∀ (r : Fin 7), ∀ a, (k0_off1 i (BitVec.ofNat 32 (26 * r.val))) a + S1.size a ≤ S182.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let v1 : Index := Scalar.indexCast v0
  let v2 : BitVec 32 := pf.at 0 (Rect.unit (s := S182) ![v1.toNat] S1.size (k0_off1_inb i 2)) numel1_S1
  let c156_i32 : BitVec 32 := 156#32
  let v3 : BitVec 32 := Scalar.addi c156_i32 arg0
  let v4 : Index := Scalar.indexCast v3
  let v5 : BitVec 32 := pf.at 0 (Rect.unit (s := S182) ![v4.toNat] S1.size (k0_off1_inb i 6)) numel1_S1
  let c1_i32 : BitVec 32 := 1#32
  let v6 : BitVec 1 := Scalar.cmpi .eq v5 c1_i32
  let c27_i32 : BitVec 32 := 27#32
  let v7 : BitVec 32 := Scalar.select v6 arg1 c27_i32
  let c0_i32 : BitVec 32 := 0#32
  let c0_i32_0 : BitVec 32 := 0#32
  ![v2.toNat, c0_i32.toNat, v7.toNat]

def cc0_transform_2 (k0_off1_inb : ∀ i : grid0.Coords, ∀ (r : Fin 7), ∀ a, (k0_off1 i (BitVec.ofNat 32 (26 * r.val))) a + S1.size a ≤ S182.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let v1 : Index := Scalar.indexCast v0
  let v2 : BitVec 32 := pf.at 0 (Rect.unit (s := S182) ![v1.toNat] S1.size (k0_off1_inb i 2)) numel1_S1
  let c156_i32 : BitVec 32 := 156#32
  let v3 : BitVec 32 := Scalar.addi c156_i32 arg0
  let v4 : Index := Scalar.indexCast v3
  let v5 : BitVec 32 := pf.at 0 (Rect.unit (s := S182) ![v4.toNat] S1.size (k0_off1_inb i 6)) numel1_S1
  let c1_i32 : BitVec 32 := 1#32
  let v6 : BitVec 1 := Scalar.cmpi .eq v5 c1_i32
  let c27_i32 : BitVec 32 := 27#32
  let v7 : BitVec 32 := Scalar.select v6 arg1 c27_i32
  let c0_i32 : BitVec 32 := 0#32
  let c0_i32_0 : BitVec 32 := 0#32
  ![v2.toNat, c0_i32.toNat, v7.toNat]

def cc0_transform_3 (k0_off1_inb : ∀ i : grid0.Coords, ∀ (r : Fin 7), ∀ a, (k0_off1 i (BitVec.ofNat 32 (26 * r.val))) a + S1.size a ≤ S182.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let v1 : Index := Scalar.indexCast v0
  let v2 : BitVec 32 := pf.at 0 (Rect.unit (s := S182) ![v1.toNat] S1.size (k0_off1_inb i 2)) numel1_S1
  let c156_i32 : BitVec 32 := 156#32
  let v3 : BitVec 32 := Scalar.addi c156_i32 arg0
  let v4 : Index := Scalar.indexCast v3
  let v5 : BitVec 32 := pf.at 0 (Rect.unit (s := S182) ![v4.toNat] S1.size (k0_off1_inb i 6)) numel1_S1
  let c1_i32 : BitVec 32 := 1#32
  let v6 : BitVec 1 := Scalar.cmpi .eq v5 c1_i32
  let c27_i32 : BitVec 32 := 27#32
  let v7 : BitVec 32 := Scalar.select v6 arg1 c27_i32
  let c0_i32 : BitVec 32 := 0#32
  let c0_i32_0 : BitVec 32 := 0#32
  ![v2.toNat, v7.toNat, c0_i32.toNat]

def cc0_transform_4 (k0_off1_inb : ∀ i : grid0.Coords, ∀ (r : Fin 7), ∀ a, (k0_off1 i (BitVec.ofNat 32 (26 * r.val))) a + S1.size a ≤ S182.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast v0
  let v2 : BitVec 32 := pf.at 0 (Rect.unit (s := S182) ![v1.toNat] S1.size (k0_off1_inb i 0)) numel1_S1
  let c0_i32_0 : BitVec 32 := 0#32
  let c0_i32_1 : BitVec 32 := 0#32
  ![v2.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8 : Shape := ⟨1, ![8]⟩
abbrev S18432x2048 : Shape := ⟨2, ![18432, 2048]⟩
abbrev S1x8x2048x7168 : Shape := ⟨4, ![1, 8, 2048, 7168]⟩
abbrev S1x8x7168x2048 : Shape := ⟨4, ![1, 8, 7168, 2048]⟩
abbrev S_ : Shape := ⟨0, ![]⟩
abbrev S18432 : Shape := ⟨1, ![18432]⟩
abbrev S8x2048x7168 : Shape := ⟨3, ![8, 2048, 7168]⟩
abbrev S8x7168x18432 : Shape := ⟨3, ![8, 7168, 18432]⟩
abbrev S8x18432x7168 : Shape := ⟨3, ![8, 18432, 7168]⟩
abbrev S8x7168x2048 : Shape := ⟨3, ![8, 7168, 2048]⟩
abbrev S8x18432x2048 : Shape := ⟨3, ![8, 18432, 2048]⟩
abbrev S8x1 : Shape := ⟨2, ![8, 1]⟩
abbrev S1x18432 : Shape := ⟨2, ![1, 18432]⟩
abbrev S8x18432 : Shape := ⟨2, ![8, 18432]⟩
abbrev S8x18432x1 : Shape := ⟨3, ![8, 18432, 1]⟩

abbrev nBuf : Space → Nat
  | .hbm => 75
  | .vmem => 0
  | .smem => 0
  | _ => 0

abbrev bufTy : (tb : Table) → Fin (tcTables nBuf tb) → BufTy
  | .hbm, ⟨0, _⟩ => ⟨S8, .i32⟩
  | .hbm, ⟨1, _⟩ => ⟨S18432x2048, .bf16⟩
  | .hbm, ⟨2, _⟩ => ⟨S1x8x2048x7168, .f32⟩
  | .hbm, ⟨3, _⟩ => ⟨S1x8x2048x7168, .f32⟩
  | .hbm, ⟨4, _⟩ => ⟨S1x8x7168x2048, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S18432, .i32⟩
  | .hbm, ⟨37, _⟩ => ⟨S18432x2048, .f32⟩
  | .hbm, ⟨38, _⟩ => ⟨S8x2048x7168, .f32⟩
  | .hbm, ⟨39, _⟩ => ⟨S8x7168x18432, .f32⟩
  | .hbm, ⟨40, _⟩ => ⟨S8x18432x7168, .f32⟩
  | .hbm, ⟨41, _⟩ => ⟨S8x18432x7168, .f32⟩
  | .hbm, ⟨42, _⟩ => ⟨S8x18432x7168, .f32⟩
  | .hbm, ⟨43, _⟩ => ⟨S_, .f32⟩
  | .hbm, ⟨44, _⟩ => ⟨S8x18432x7168, .f32⟩
  | .hbm, ⟨45, _⟩ => ⟨S8x18432x7168, .f32⟩
  | .hbm, ⟨46, _⟩ => ⟨S_, .f32⟩
  | .hbm, ⟨47, _⟩ => ⟨S8x18432x7168, .f32⟩
  | .hbm, ⟨48, _⟩ => ⟨S8x18432x7168, .f32⟩
  | .hbm, ⟨49, _⟩ => ⟨S8x18432x7168, .f32⟩
  | .hbm, ⟨50, _⟩ => ⟨S8x2048x7168, .f32⟩
  | .hbm, ⟨51, _⟩ => ⟨S8x7168x18432, .f32⟩
  | .hbm, ⟨52, _⟩ => ⟨S8x18432x7168, .f32⟩
  | .hbm, ⟨53, _⟩ => ⟨S8x18432x7168, .f32⟩
  | .hbm, ⟨54, _⟩ => ⟨S8x7168x2048, .f32⟩
  | .hbm, ⟨55, _⟩ => ⟨S8x18432x2048, .f32⟩
  | .hbm, ⟨56, _⟩ => ⟨S8x1, .i32⟩
  | .hbm, ⟨57, _⟩ => ⟨S1x18432, .i32⟩
  | .hbm, ⟨58, _⟩ => ⟨S8x18432, .i32⟩
  | .hbm, ⟨59, _⟩ => ⟨S8x18432, .i32⟩
  | .hbm, ⟨60, _⟩ => ⟨S8x18432, .i1⟩
  | .hbm, ⟨61, _⟩ => ⟨S1x18432, .i32⟩
  | .hbm, ⟨62, _⟩ => ⟨S8x1, .i32⟩
  | .hbm, ⟨63, _⟩ => ⟨S8x18432, .i32⟩
  | .hbm, ⟨64, _⟩ => ⟨S8x18432, .i32⟩
  | .hbm, ⟨65, _⟩ => ⟨S8x18432, .i1⟩
  | .hbm, ⟨66, _⟩ => ⟨S8x18432, .i1⟩
  | .hbm, ⟨67, _⟩ => ⟨S8x18432x1, .i1⟩
  | .hbm, ⟨68, _⟩ => ⟨S_, .f32⟩
  | .hbm, ⟨69, _⟩ => ⟨S_, .f32⟩
  | .hbm, ⟨70, _⟩ => ⟨S8x18432x2048, .i1⟩
  | .hbm, ⟨71, _⟩ => ⟨S8x18432x2048, .f32⟩
  | .hbm, ⟨72, _⟩ => ⟨S8x18432x2048, .f32⟩
  | .hbm, ⟨73, _⟩ => ⟨S_, .f32⟩
  | .hbm, ⟨74, _⟩ => ⟨S18432x2048, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v33 : Ref sig .tc := ⟨.hbm, 72, rfl⟩
abbrev main_cst_3 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== Proof.InProj.Table.lean ====
/- The projection's prefetched table: seventeen literal words, the first row of each output tile's weight block in units of
   32 rows. Read here once per printed program, the pipeline's side condition on it is decided. -/
module

public import proofs.«01_k».proof.Proof.Gen.Kernel.Frame
public import proofs.«01_k».proof.Proof.Gen.KernelIdeal.Frame
public import Idealize.ShloMosaic.PureOps.BitExact

@[expose] public section

set_option maxRecDepth 16384

noncomputable section

namespace Cert.Proof.InProj

open Idealize.ShloMosaic Idealize.ShloMosaic.TcCoe

/-- The first weight row of output tile `j`. -/
def row : Fin 17 → ℕ :=
  ![0, 512, 1024, 1536, 2048, 2560, 3520, 4032, 4544, 5056, 5568, 6080, 6592, 7104, 7616, 8128, 3072]

section Machine
open Cert.Kernel Cert.Kernel.Gen

variable {F : FTy → Type} [FloatOps F] (m : (ℓ : Loc nD τ sig) → Buf (Elt F) ℓ)

/-- The literal table, as prefetched contents. -/
def lit_machine (F : FTy → Type) : pre0.Contents (Elt F) := fun j => match j with | 0 => fun i => Cert.Kernel.lit0 (S17.rowMajor i)

/-- The table as the region finds it is the literal. -/
theorem tbl_machine : Cert.Kernel.Gen.tbl m = lit_machine F := by
  funext j
  fin_cases j
  unfold Cert.Kernel.Gen.tbl
  show StableHlo.after hostOps0 (fun b => m ((0 : Dev nD), b)) (Proc.devRef .tc main_c) = _
  after_results
  rfl

/-- The stated multiple of 32 holds at every point. -/
theorem mult_machine (i : grid0.Coords) : (32 : Int) ∣ (k0_mult1 (lit_machine F) i).toInt := by
  have e : k0_mult1 (lit_machine F) i = k0_mult1 (lit_machine Bits) i := rfl
  rw [e]
  exact (by decide +kernel : ∀ i : grid0.Coords, (32 : Int) ∣ (k0_mult1 (lit_machine Bits) i).toInt) i

/-- The weight window's offset at a grid point, at the literal table: layer 1, the tile's first row, lane 0. -/
theorem offset_lit_machine (i : grid0.Coords) :
    cc0_transform_2 k0_off1_inb numel1_S1 (lit_machine F) i = ![1, row (i 1), 0] := by
  have e : cc0_transform_2 k0_off1_inb numel1_S1 (lit_machine F) i = cc0_transform_2 k0_off1_inb numel1_S1 (lit_machine Bits) i := rfl
  rw [e]
  exact (by decide +kernel : ∀ i : grid0.Coords,
    cc0_transform_2 k0_off1_inb numel1_S1 (lit_machine Bits) i = ![1, row (i 1), 0]) i

/-- The weight block of every tile lies inside the array. -/
theorem inb_machine : ∀ (i : grid0.Coords) (a : Fin 3),
    (![1, row (i 1), 0] : Fin 3 → ℕ) a + S1x512x2048.size a ≤ S2x8640x2048.size a := by decide +kernel

/-- The side condition on the table holds. -/
theorem ok_machine : Cert.Kernel.Gen.Ok m := by
  unfold Cert.Kernel.Gen.Ok
  rw [tbl_machine m]
  refine ⟨mult_machine, fun i => ⟨?_, .inl rfl⟩⟩
  rw [offset_lit_machine]
  exact inb_machine i

/-- The weight window's offset at a grid point. -/
theorem offset_machine (i : grid0.Coords) :
    cc0_transform_2 k0_off1_inb numel1_S1 (Cert.Kernel.Gen.tbl m) i = ![1, row (i 1), 0] := by
  rw [tbl_machine m, offset_lit_machine]

end Machine

section AtIdeal
open Cert.KernelIdeal Cert.KernelIdeal.Gen

variable {F : FTy → Type} [FloatOps F] (m : (ℓ : Loc nD τ sig) → Buf (Elt F) ℓ)

/-- The literal table, as prefetched contents. -/
def lit_ideal (F : FTy → Type) : pre0.Contents (Elt F) := fun j => match j with | 0 => fun i => Cert.KernelIdeal.lit0 (S17.rowMajor i)

/-- The table as the region finds it is the literal. -/
theorem tbl_ideal : Cert.KernelIdeal.Gen.tbl m = lit_ideal F := by
  funext j
  fin_cases j
  unfold Cert.KernelIdeal.Gen.tbl
  show StableHlo.after hostOps0 (fun b => m ((0 : Dev nD), b)) (Proc.devRef .tc main_c) = _
  after_results
  rfl

/-- The stated multiple of 32 holds at every point. -/
theorem mult_ideal (i : grid0.Coords) : (32 : Int) ∣ (k0_mult1 (lit_ideal F) i).toInt := by
  have e : k0_mult1 (lit_ideal F) i = k0_mult1 (lit_ideal Bits) i := rfl
  rw [e]
  exact (by decide +kernel : ∀ i : grid0.Coords, (32 : Int) ∣ (k0_mult1 (lit_ideal Bits) i).toInt) i

/-- The weight window's offset at a grid point, at the literal table: layer 1, the tile's first row, lane 0. -/
theorem offset_lit_ideal (i : grid0.Coords) :
    cc0_transform_2 k0_off1_inb numel1_S1 (lit_ideal F) i = ![1, row (i 1), 0] := by
  have e : cc0_transform_2 k0_off1_inb numel1_S1 (lit_ideal F) i = cc0_transform_2 k0_off1_inb numel1_S1 (lit_ideal Bits) i := rfl
  rw [e]
  exact (by decide +kernel : ∀ i : grid0.Coords,
    cc0_transform_2 k0_off1_inb numel1_S1 (lit_ideal Bits) i = ![1, row (i 1), 0]) i

/-- The weight block of every tile lies inside the array. -/
theorem inb_ideal : ∀ (i : grid0.Coords) (a : Fin 3),
    (![1, row (i 1), 0] : Fin 3 → ℕ) a + S1x512x2048.size a ≤ S2x8640x2048.size a := by decide +kernel

/-- The side condition on the table holds. -/
theorem ok_ideal : Cert.KernelIdeal.Gen.Ok m := by
  unfold Cert.KernelIdeal.Gen.Ok
  rw [tbl_ideal m]
  refine ⟨mult_ideal, fun i => ⟨?_, .inl rfl⟩⟩
  rw [offset_lit_ideal]
  exact inb_ideal i

/-- The weight window's offset at a grid point. -/
theorem offset_ideal (i : grid0.Coords) :
    cc0_transform_2 k0_off1_inb numel1_S1 (Cert.KernelIdeal.Gen.tbl m) i = ![1, row (i 1), 0] := by
  rw [tbl_ideal m, offset_lit_ideal]

end AtIdeal

end Cert.Proof.InProj

end
-- ==== Proof.InProj.Block.lean ====
/- What one grid point of the projection leaves: its output block and the normalised rows it keeps. -/
module

public import proofs.«01_k».proof.Proof.InProj.Table
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe Cert.KernelIdeal Cert.KernelIdeal.Gen

variable {F : FTy → Type} [FloatOps F] (m : (ℓ : Loc nD τ sig) → Buf (Elt F) ℓ) (hO : Ok m) (c : Dev nD)

/-- At the first tile of a row block the point keeps the normalised rows and stores their product with the weight block. -/
theorem at_first (t : Fin (cfgM m hO).N) (h : t.val % 17 = 0) :
    outsAt0 m hO c t.val t.isLt
      = (k0_pay2 (k0_pay1 (iblk m hO c 1 t) (iblk m hO c 0 t)) (iblk m hO c 2 t), k0_pay1 (iblk m hO c 1 t) (iblk m hO c 0 t)) := by
  rw [outsAt0_A m hO c t h (by omega) (by omega)]
  refine Prod.ext ?_ ?_
  · dsimp only
    frame_out
    exact congrArg₂ k0_pay2 (congrArg₂ k0_pay1 ((hs0_1 m hO t).read_unread _) ((hs0_0 m hO t).read_unread _)) ((hs0_2 m hO t).read_unread _)
  · dsimp only
    frame_out
    exact congrArg₂ k0_pay1 ((hs0_1 m hO t).read_unread _) ((hs0_0 m hO t).read_unread _)

/-- At an inner tile the point keeps what it found and stores its product with the weight block. -/
theorem at_inner (t : Fin (cfgM m hO).N) (h : ¬ t.val % 17 = 0) (h' : ¬ t.val % 17 = 16) :
    outsAt0 m hO c t.val t.isLt
      = (k0_pay2 (outsAt0 m hO c (t.val - 1) (Nat.lt_of_le_of_lt (Nat.sub_le _ _) t.isLt)).2 (iblk m hO c 2 t),
         (outsAt0 m hO c (t.val - 1) (Nat.lt_of_le_of_lt (Nat.sub_le _ _) t.isLt)).2) := by
  rw [outsAt0_B m hO c t h (by omega) h']
  refine Prod.ext ?_ ?_
  · dsimp only
    frame_out
    rw [read_unread_whole]
    exact congrArg (k0_pay2 _) ((hs0_2 m hO t).read_unread _)
  · rfl

/-- At the last tile the point masks the lanes from 448 on and adds the product with the value-residual block. -/
theorem at_last (t : Fin (cfgM m hO).N) (h : t.val % 17 = 16) :
    outsAt0 m hO c t.val t.isLt
      = (k0_pay3 (outsAt0 m hO c (t.val - 1) (Nat.lt_of_le_of_lt (Nat.sub_le _ _) t.isLt)).2 (iblk m hO c 2 t) (iblk m hO c 3 t),
         (outsAt0 m hO c (t.val - 1) (Nat.lt_of_le_of_lt (Nat.sub_le _ _) t.isLt)).2) := by
  rw [outsAt0_C m hO c t (by omega) (by omega) h]
  refine Prod.ext ?_ ?_
  · dsimp only
    frame_out
    rw [read_unread_whole]
    exact congrArg₂ (k0_pay3 _) ((hs0_2 m hO t).read_unread _) ((hs0_3 m hO t).read_unread _)
  · rfl

end Cert.Proof.InProj

end
-- ==== Proof.InProj.Array.lean ====
module

public import proofs.«01_k».proof.Proof.InProj.Block
public import proofs.«01_k».proof.Proof.InProj.Table
public import Idealize.ShloMosaic.Lib.Pointwise
public import Idealize.ShloMosaic.Lib.Pipeline.Covers

/-! What the projection's output array holds after the run: the normalised rows held in the scratch, and each tile's product. -/

@[expose] public section

set_option maxRecDepth 16384

noncomputable section

namespace Cert.Proof.InProj

open Idealize.ShloMosaic Idealize.ShloMosaic.TcCoe Cert.KernelIdeal Cert.KernelIdeal.Gen

/-- One element of the normalised residual: the element times the reciprocal root of its row's mean square plus epsilon,
    times the gain of its column. -/
def normed (X : Vec Ideal S8192x2048 .f32) (g : Vec Ideal S1x2048 .f32) (r : Fin 8192) (k : Fin 2048) : EReal :=
  X (ix2 r k) * Ideal.rsqrt (Ideal.div (∑ j, X (ix2 r j) * X (ix2 r j)) (Ideal.ofBits FTy.f32 1157627904#32)
    + Ideal.ofBits FTy.f32 897988541#32) * g (ix2 0 k)

/-- The stored block of normalised rows, from a block that is rows `2048 q …` of the array. -/
theorem pay1_apply {X : Vec Ideal S8192x2048 .f32} (x : Vec Ideal S2048x2048 .f32) (g : Vec Ideal S1x2048 .f32)
    (q : ℕ) (hq : q < 4)
    (hx : ∀ r k, x (ix2 r k) = X (ix2 ⟨q * 2048 + r.val, by have := r.isLt; omega⟩ k)) (r k : Fin 2048) :
    k0_pay1 (F := Ideal) x g (ix2 r k) = normed X g ⟨q * 2048 + r.val, by have := r.isLt; omega⟩ k := by
  pointwise [k0_pay1, normed]
  simp only [hx]

/-- A plain column tile: each element is the inner product of a row of the block and a row of the weights' tile. -/
theorem pay2_apply (h : Vec Ideal S2048x2048 .bf16) (w : Vec Ideal S1x512x2048 .f32) (r : Fin 2048) (l : Fin 512) :
    k0_pay2 (F := Ideal) h w (ix2 r l) = ∑ k, h (ix2 r k) * w (ix3 0 l k) := by
  pointwise [k0_pay2]

/-- The last column tile: the first 448 lanes take the product with the weights' tile, and every lane adds the product with
    the extra weights. -/
theorem pay3_apply (h : Vec Ideal S2048x2048 .bf16) (w : Vec Ideal S1x512x2048 .f32) (e : Vec Ideal S2048x512 .bf16)
    (r : Fin 2048) (l : Fin 512) :
    k0_pay3 (F := Ideal) h w e (ix2 r l)
      = (if l.val < 448 then ∑ k, h (ix2 r k) * w (ix3 0 l k) else 0) + ∑ k, h (ix2 r k) * e (ix2 k l) := by
  have hl : IntOp.cmpi CmpIPredicate.slt (BitVec.ofNat 32 l.val) 448#32 = if l.val < 448 then 1#1 else 0#1 := by
    revert l; decide +kernel
  pointwise [k0_pay3, k0_pay2]
  rw [hl]
  split <;> rfl

variable (m : (ℓ : Loc nD τ sig) → Buf (Elt Ideal) ℓ) (hO : Ok m) (c : Dev nD)

/-- The gain's window stays at its one block. -/
theorem idx0 (t : Fin (cfgM m hO).N) : ((cfgM m hO).win 0).index t = ![0, 0] :=
  (by decide +kernel : ∀ t : Fin grid0.N, cc0_transform_0 (grid0.coords t) = ![0, 0]) t

/-- The residual's window moves with the row block. -/
theorem idx1 (t : Fin (cfgM m hO).N) : ((cfgM m hO).win 1).index t = ![t.val / 17, 0] :=
  (by decide +kernel : ∀ t : Fin grid0.N, cc0_transform_1 (grid0.coords t) = ![t.val / 17, 0]) t

/-- The weights' window lies where the table says. -/
theorem idx2 (t : Fin (cfgM m hO).N) : ((cfgM m hO).win 2).index t = ![1, row (grid0.coords t 1), 0] :=
  offset_ideal m _

/-- The extra weights' window stays at its one block. -/
theorem idx3 (t : Fin (cfgM m hO).N) : ((cfgM m hO).win 3).index t = ![0, 0] :=
  (by decide +kernel : ∀ t : Fin grid0.N, cc0_transform_3 (grid0.coords t) = ![0, 0]) t

/-- The output's window takes every tile once. -/
theorem idx4 (t : Fin (cfgM m hO).N) : ((cfgM m hO).win 4).index t = ![t.val / 17, t.val % 17] :=
  (by decide +kernel : ∀ t : Fin grid0.N, cc0_transform_4 (grid0.coords t) = ![t.val / 17, t.val % 17]) t

/-- The second grid coordinate of a point. -/
theorem row_t (t : Fin (cfgM m hO).N) (n : Fin 17) (h : t.val % 17 = n.val) : grid0.coords t 1 = n :=
  Fin.ext (((by decide +kernel : ∀ t : Fin grid0.N, (grid0.coords t 1).val = t.val % 17) t).trans h)

/-- The gain's block is the whole gain. -/
theorem iblk0 (t : Fin (cfgM m hO).N) : iblk m hO c 0 t = V m c main_v8 := by
  funext y
  blk_simp [iblk]
  congr 1
  funext a
  refine Fin.ext ((Pipeline.Window.rect_emb_val ..).trans ?_)
  rw [idx0]
  fin_cases a <;> exact (congrArg (· + _) (Nat.zero_mul _)).trans (Nat.zero_add _)

/-- The extra weights' block is all of them. -/
theorem iblk3 (t : Fin (cfgM m hO).N) : iblk m hO c 3 t = V m c main_v5 := by
  funext y
  blk_simp [iblk]
  congr 1
  funext a
  refine Fin.ext ((Pipeline.Window.rect_emb_val ..).trans ?_)
  rw [idx3]
  fin_cases a <;> exact (congrArg (· + _) (Nat.zero_mul _)).trans (Nat.zero_add _)

/-- There are four row blocks. -/
theorem lt4 (t : Fin (cfgM m hO).N) : t.val / 17 < 4 := by
  have : t.val < 68 := t.isLt
  omega

/-- The residual's block at a point is the rows of its row block. -/
theorem iblk1 (t : Fin (cfgM m hO).N) (r k : Fin 2048) :
    iblk m hO c 1 t (ix2 r k) = V m c main_v0 (ix2 ⟨t.val / 17 * 2048 + r.val, by have := lt4 m hO t; omega⟩ k) := by
  blk_simp [iblk]
  congr 1
  funext a
  refine Fin.ext ((Pipeline.Window.rect_emb_val ..).trans ?_)
  rw [idx1]
  fin_cases a
  · rfl
  · exact (congrArg (· + _) (Nat.zero_mul _)).trans (Nat.zero_add _)

/-- Every tile of the weights lies inside them. -/
theorem row_le (n : Fin 17) : row n ≤ 8128 := by revert n; decide

/-- The weights' block at a point of column tile `n` begins at row `row n`. -/
theorem iblk2 (t : Fin (cfgM m hO).N) (n : Fin 17) (h : t.val % 17 = n.val) (l : Fin 512) (k : Fin 2048) :
    iblk m hO c 2 t (ix3 0 l k)
      = V m c main_v1 (ix3 1 ⟨row n + l.val, by have := row_le n; omega⟩ k) := by
  blk_simp [iblk]
  congr 1
  funext a
  refine Fin.ext ((Pipeline.Window.rect_emb_val_off ..).trans ?_)
  have hi : ((cfgM m hO).win 2).index t = ![1, row n, 0] := by rw [← row_t m hO t n h]; exact idx2 m hO t
  rw [hi]
  fin_cases a <;> first | rfl | exact Nat.zero_add _

/-- The normalised rows held over the seventeen points of a row of blocks: at each of them the scratch holds the rows of the
    row's block of the residual. -/
theorem held (t : Fin (cfgM m hO).N) (r k : Fin 2048) :
    (outsAt0 m hO c t.val t.isLt).2 (ix2 r k)
      = normed (V m c main_v0) (V m c main_v8) ⟨t.val / 17 * 2048 + r.val, by have := lt4 m hO t; omega⟩ k := by
  obtain ⟨n, hn⟩ := t
  induction n using Nat.strong_induction_on with
  | _ n ih =>
    by_cases h : n % 17 = 0
    · rw [at_first m hO c ⟨n, hn⟩ h]
      refine (pay1_apply (X := V m c main_v0) _ _ (n / 17) (lt4 m hO ⟨n, hn⟩) (iblk1 m hO c ⟨n, hn⟩) r k).trans ?_
      rw [iblk0]
    · have e : (n - 1) / 17 = n / 17 := by omega
      have hs : (outsAt0 m hO c n hn).2 = (outsAt0 m hO c (n - 1) (by omega)).2 := by
        by_cases h' : n % 17 = 16
        · exact (congrArg Prod.snd (at_last m hO c ⟨n, hn⟩ h')).trans rfl
        · exact (congrArg Prod.snd (at_inner m hO c ⟨n, hn⟩ h h')).trans rfl
      refine (congrFun hs _).trans ((ih (n - 1) (by omega) (by omega)).trans ?_)
      simp only [e]

/-- What the call writes at a row and a column: a column below 8640 is the inner product of the normalised row with the
    weights' row that the column's tile is taken from, and a later one that with a column of the extra weights. Column
    `j` lies in tile `j / 512`, whose rows begin at `row (j / 512)`. -/
def out (X : Vec Ideal S8192x2048 .f32) (g : Vec Ideal S1x2048 .f32) (W : Vec Ideal S2x8640x2048 .f32)
    (E : Vec Ideal S2048x512 .bf16) (r : Fin 8192) (j : Fin 8704) : EReal :=
  (if h : j.val < 8640 then ∑ k, normed X g r k * W (ix3 1 ⟨row ⟨j.val / 512, by omega⟩ + j.val % 512, by
      have := row_le ⟨j.val / 512, by omega⟩; omega⟩ k) else 0)
    + if h : 8192 ≤ j.val then ∑ k, normed X g r k * E (ix2 k ⟨j.val - 8192, by omega⟩) else 0

/-- The output's tiles cover its array. -/
theorem covers4 : ((cfgM m hO).win 4).Covers := by
  refine ((cfgM m hO).win 4).covers_of_index_surj rfl (by decide : ∀ a : Fin 2, 0 < S2048x512.size a) fun β => ?_
  have h0 : (β (0 : Fin 2)).val < 4 := (β (0 : Fin 2)).isLt.trans_eq (show (8192 + 2048 - 1) / 2048 = 4 by decide)
  have h1 : (β (1 : Fin 2)).val < 17 := (β (1 : Fin 2)).isLt.trans_eq (show (8704 + 512 - 1) / 512 = 17 by decide)
  have ht : 17 * (β (0 : Fin 2)).val + (β (1 : Fin 2)).val < 68 := by omega
  refine ⟨⟨_, ht⟩, (fun a => ?_ : ∀ a : Fin 2, _)⟩
  rw [idx4]
  fin_cases a
  · exact (by omega : (17 * (β (0 : Fin 2)).val + (β (1 : Fin 2)).val) / 17 = (β (0 : Fin 2)).val)
  · exact (by omega : (17 * (β (0 : Fin 2)).val + (β (1 : Fin 2)).val) % 17 = (β (1 : Fin 2)).val)

/-- The tile of the weights that a point reads. -/
abbrev wts (t : Fin (cfgM m hO).N) : Vec Ideal S1x512x2048 .f32 := iblk m hO c 2 t

/-- What a point of the grid writes at an element of its tile. -/
theorem tile (t : Fin (cfgM m hO).N) (r : Fin 2048) (l : Fin 512) :
    (outsAt0 m hO c t.val t.isLt).1 (ix2 r l)
      = out (V m c main_v0) (V m c main_v8) (V m c main_v1) (V m c main_v5)
          ⟨t.val / 17 * 2048 + r.val, by have := lt4 m hO t; omega⟩ ⟨t.val % 17 * 512 + l.val, by omega⟩ := by
  have hlt : t.val % 17 < 17 := Nat.mod_lt _ (by omega)
  have e1 : (t.val % 17 * 512 + l.val) / 512 = t.val % 17 := by omega
  have e2 : (t.val % 17 * 512 + l.val) % 512 = l.val := by omega
  have hw : ∀ k, wts m hO c t (ix3 0 l k) = _ := iblk2 m hO c t ⟨t.val % 17, hlt⟩ rfl l
  have h0 := held m hO c t r
  unfold out
  simp only [e1, e2]
  by_cases h16 : t.val % 17 = 16
  · rw [at_last m hO c t h16] at h0 ⊢
    dsimp only at h0 ⊢
    refine (pay3_apply _ (wts m hO c t) _ r l).trans (congrArg₂ (· + ·) ?_ ?_)
    · by_cases hl : l.val < 448
      · rw [if_pos hl, dif_pos (by omega)]
        exact Finset.sum_congr rfl fun k _ => congrArg₂ (· * ·) (h0 k) (hw k)
      · rw [if_neg hl, dif_neg (by omega)]
    · rw [dif_pos (by omega)]
      refine Finset.sum_congr rfl fun k _ => congrArg₂ (· * ·) (h0 k) ((congrFun (iblk3 m hO c t) _).trans ?_)
      exact congrArg (V m c main_v5) (congrArg (ix2 k) (Fin.ext (by simp only [h16]; omega)))
  · have hp : (outsAt0 m hO c t.val t.isLt).1 (ix2 r l)
        = ∑ k, (outsAt0 m hO c t.val t.isLt).2 (ix2 r k) * wts m hO c t (ix3 0 l k) := by
      by_cases h : t.val % 17 = 0
      · rw [at_first m hO c t h]; exact pay2_apply ..
      · rw [at_inner m hO c t h h16]; exact pay2_apply ..
    rw [hp, dif_pos (by omega), dif_neg (by omega), add_zero]
    exact Finset.sum_congr rfl fun k _ => congrArg₂ (· * ·) (h0 k) (hw k)

/-- The array of every element the call writes. -/
def outs : Vec Ideal S8192x8704 .f32 := fun i =>
  out (V m c main_v0) (V m c main_v8) (V m c main_v1) (V m c main_v5) (i 0) (i 1)

/-- The array the call writes, after the run. -/
theorem array : (dats m hO 0 c).arrAt 4 (cfgM m hO).N = outs m c := by
  refine (dats m hO 0 c).arrAt_eq_of_covers 4 _ (covers4 m hO) fun t hf y => ?_
  blk_simp
  rw [after0_4]
  revert y
  suffices H : ∀ y : S2048x512.Idx, (outsAt0 m hO c t.val t.isLt).1 y = outs m c ((((cfgM m hO).win 4).blk t).view.emb y) from H
  intro y
  idx_vars y
  refine (tile m hO c t _ _).trans ?_
  refine congrArg₂ (out _ _ _ _) (Fin.ext (Eq.symm ?_)) (Fin.ext (Eq.symm ?_))
  · refine (Pipeline.Window.rect_emb_val ((cfgM m hO).win 4) t _ (0 : Fin 2)).trans ?_
    rw [idx4]
    rfl
  · refine (Pipeline.Window.rect_emb_val ((cfgM m hO).win 4) t _ (1 : Fin 2)).trans ?_
    rw [idx4]
    rfl

end Cert.Proof.InProj

end
-- ==== Proof.InProj.Reference.lean ====
module

public import proofs.«01_k».proof.Proof.Gen.ReferenceIdeal.Run
public import Idealize.ShloMosaic.Lib.Pointwise
public import Idealize.ShloMosaic.Lib.Tactic.CleanTypes

/-! What the reference of the input projection computes, read at an element of its result. -/

@[expose] public section

set_option maxRecDepth 16384

noncomputable section

namespace Cert.Proof.InProj

open Idealize.ShloMosaic Idealize.ShloMosaic.TcCoe Cert.ReferenceIdeal Cert.ReferenceIdeal.Gen Cert.ReferenceIdeal.Value

/-- One element of the normalised residual stream, from the residual and the gains of both layers; row `r` counts through
    the batches. -/
def normal (x : Vec Ideal S2x4096x2048 .f32) (g : Vec Ideal S2x2048 .f32) (r : Fin 8192) (k : Fin 2048) : EReal :=
  x (ix3 ⟨r.val / 4096, by omega⟩ ⟨r.val % 4096, by omega⟩ k)
    * Ideal.rsqrt (Ideal.div (∑ j, x (ix3 ⟨r.val / 4096, by omega⟩ ⟨r.val % 4096, by omega⟩ j)
        * x (ix3 ⟨r.val / 4096, by omega⟩ ⟨r.val % 4096, by omega⟩ j)) (Ideal.ofBits FTy.f32 1157627904#32)
      + Ideal.ofBits FTy.f32 897988541#32) * g (ix2 1 k)

/-- The projection at a row and a column of the result: the columns 3072 to 3519 of the product come after the later ones,
    and the product with the extra weights last. -/
def proj (x : Vec Ideal S2x4096x2048 .f32) (g : Vec Ideal S2x2048 .f32) (w : Vec Ideal S2x2048x8640 .f32)
    (v : Vec Ideal S1x2048x64 .f32) (r : Fin 8192) (j : Fin 8704) : EReal :=
  if h : j.val < 3072 then ∑ k, normal x g r k * w (ix3 1 k ⟨j.val, by omega⟩)
  else if h' : j.val - 3072 < 5120 then ∑ k, normal x g r k * w (ix3 1 k ⟨3520 + (j.val - 3072), by omega⟩)
  else if h'' : j.val - 3072 - 5120 < 448 then
    ∑ k, normal x g r k * w (ix3 1 k ⟨3072 + (j.val - 3072 - 5120), by omega⟩)
  else ∑ k, normal x g r k * v (ix3 0 k ⟨j.val - 3072 - 5120 - 448, by omega⟩)

variable (m : (ℓ : Loc nD τ sig) → Buf (Elt Ideal) ℓ) (c : Dev nD)

/-- The reference's result at an element. -/
theorem reference_apply (r : Fin 8192) (j : Fin 8704) :
    (res_out0 m c : Vec Ideal S8192x8704 .f32) (ix2 r j)
      = proj (m (c.tc.loc main_arg0)) (m (c.tc.loc main_arg1)) (m (c.tc.loc main_arg2)) (m (c.tc.loc main_arg3)) r j := by
  unfold res_out0 res_main_v24
  clean_types
  pointwise []
  rfl

end Cert.Proof.InProj

end
-- ==== Proof.InProj.Equation.lean ====
module

public import proofs.«01_k».proof.Proof.InProj.Array
public import proofs.«01_k».proof.Proof.InProj.Reference

/-! The input projection: what the call writes is what the reference computes. -/

@[expose] public section

set_option maxRecDepth 16384

noncomputable section

namespace Cert.Proof.InProj

open Idealize.ShloMosaic Idealize.ShloMosaic.TcCoe Cert.KernelIdeal Cert.KernelIdeal.Gen

variable (m : (ℓ : Loc nD τ sig) → Buf (Elt Ideal) ℓ) (c : Dev nD)

/-- The residual's rows that the call reads. -/
theorem rows_apply (r : Fin 8192) (k : Fin 2048) :
    (V m c main_v0 : Vec Ideal S8192x2048 .f32) (ix2 r k)
      = (m (c.tc.loc main_arg0) : Vec Ideal S2x4096x2048 .f32) (ix3 ⟨r.val / 4096, by omega⟩ ⟨r.val % 4096, by omega⟩ k) := by
  unfold_abbrev_sides
  after_results
  pointwise []

/-- The gain that the call reads. -/
theorem gain_apply (k : Fin 2048) :
    (V m c main_v8 : Vec Ideal S1x2048 .f32) (ix2 0 k) = (m (c.tc.loc main_arg1) : Vec Ideal S2x2048 .f32) (ix2 1 k) := by
  unfold_abbrev_sides
  after_results
  pointwise []

/-- The weights that the call reads are the transposed ones. -/
theorem weights_apply (j : Fin 8640) (k : Fin 2048) :
    (V m c main_v1 : Vec Ideal S2x8640x2048 .f32) (ix3 1 j k)
      = (m (c.tc.loc main_arg2) : Vec Ideal S2x2048x8640 .f32) (ix3 1 k j) := by
  unfold_abbrev_sides
  after_results
  pointwise []

/-- The extra weights that the call reads: 448 columns of zeros, then the given ones. -/
theorem extra_apply (k : Fin 2048) (l : Fin 512) :
    (V m c main_v5 : Vec Ideal S2048x512 .bf16) (ix2 k l)
      = if h : l.val < 448 then (0 : EReal)
        else (m (c.tc.loc main_arg3) : Vec Ideal S1x2048x64 .f32) (ix3 0 k ⟨l.val - 448, by omega⟩) := by
  unfold_abbrev_sides
  after_results
  pointwise []

/-- Where each tile of the result takes its columns from. -/
theorem row_eq (n : Fin 17) :
    row n = if n.val < 6 then 512 * n.val else if n.val < 16 then 3520 + 512 * (n.val - 6) else 3072 := by
  revert n; decide

/-- What the call writes, from arrays that hold the arguments' elements in the call's layout, is the projection. -/
theorem out_eq_proj {X : Vec Ideal S8192x2048 .f32} {G : Vec Ideal S1x2048 .f32} {W : Vec Ideal S2x8640x2048 .f32}
    {E : Vec Ideal S2048x512 .bf16} {x : Vec Ideal S2x4096x2048 .f32} {g : Vec Ideal S2x2048 .f32}
    {w : Vec Ideal S2x2048x8640 .f32} {v : Vec Ideal S1x2048x64 .f32}
    (hX : ∀ r k, X (ix2 r k) = x (ix3 ⟨r.val / 4096, by omega⟩ ⟨r.val % 4096, by omega⟩ k))
    (hG : ∀ k, G (ix2 0 k) = g (ix2 1 k)) (hW : ∀ j k, W (ix3 1 j k) = w (ix3 1 k j))
    (hE : ∀ k l, E (ix2 k l) = if h : l.val < 448 then (0 : EReal) else v (ix3 0 k ⟨l.val - 448, by omega⟩))
    (r : Fin 8192) (j : Fin 8704) : out X G W E r j = proj x g w v r j := by
  have hn : ∀ k, normed X G r k = normal x g r k := fun k => by
    unfold normed normal
    simp only [hX, hG]
  have hr := row_eq ⟨j.val / 512, by omega⟩
  unfold out proj
  simp only [hn, hW, hE]
  by_cases h1 : j.val < 3072
  · rw [dif_pos (by omega), dif_neg (by omega), dif_pos h1, add_zero]
    refine Finset.sum_congr rfl fun k _ => congrArg _ (congrArg _ (congrArg _ (Fin.ext ?_)))
    rw [if_pos (by dsimp only; omega)] at hr
    dsimp only at hr ⊢
    omega
  rw [dif_neg h1]
  by_cases h2 : j.val - 3072 < 5120
  · rw [dif_pos (by omega), dif_neg (by omega), dif_pos h2, add_zero]
    refine Finset.sum_congr rfl fun k _ => congrArg _ (congrArg _ (congrArg _ (Fin.ext ?_)))
    rw [if_neg (by dsimp only; omega), if_pos (by dsimp only; omega)] at hr
    dsimp only at hr ⊢
    omega
  rw [dif_neg h2]
  by_cases h3 : j.val - 3072 - 5120 < 448
  · rw [dif_pos (by omega), dif_pos (by omega), dif_pos h3]
    refine (congrArg₂ (· + ·) ?_ (Finset.sum_eq_zero fun k _ => ?_)).trans (add_zero _)
    swap
    · rw [dif_pos (by omega), mul_zero]
    refine Finset.sum_congr rfl fun k _ => congrArg _ (congrArg _ (congrArg _ (Fin.ext ?_)))
    rw [if_neg (by dsimp only; omega), if_neg (by dsimp only; omega)] at hr
    dsimp only at hr ⊢
    omega
  · rw [dif_neg (by omega), dif_pos (by omega), dif_neg h3, zero_add]
    refine Finset.sum_congr rfl fun k _ => congrArg _ ?_
    rw [dif_neg (by omega)]
    exact congrArg _ (congrArg _ (Fin.ext (by dsimp only; omega)))

/-- The array that the call writes is the reference's result, where the two programs' arguments agree. -/
theorem outs_eq (m' : (ℓ : Loc Cert.ReferenceIdeal.nD Cert.ReferenceIdeal.τ Cert.ReferenceIdeal.sig) → Buf (Elt Ideal) ℓ)
    (c' : Dev Cert.ReferenceIdeal.nD)
    (h0 : m' (c'.tc.loc Cert.ReferenceIdeal.main_arg0) = m (c.tc.loc main_arg0))
    (h1 : m' (c'.tc.loc Cert.ReferenceIdeal.main_arg1) = m (c.tc.loc main_arg1))
    (h2 : m' (c'.tc.loc Cert.ReferenceIdeal.main_arg2) = m (c.tc.loc main_arg2))
    (h3 : m' (c'.tc.loc Cert.ReferenceIdeal.main_arg3) = m (c.tc.loc main_arg3)) :
    outs m c = Cert.ReferenceIdeal.Value.res_out0 m' c' := by
  funext i
  idx_vars i
  refine (out_eq_proj (rows_apply m c) (gain_apply m c) (weights_apply m c) (extra_apply m c) _ _).trans ?_
  rw [← h0, ← h1, ← h2, ← h3]
  exact (reference_apply m' c' _ _).symm

end Cert.Proof.InProj

end
-- ==== Proof.InProj.Claims.lean ====
module

public import proofs.«01_k».proof.Defs
public import proofs.«01_k».proof.Proof.InProj.Equation
public import proofs.«01_k».proof.Proof.Gen.Kernel.Frame
public import Idealize.ShloMosaic.Lib.Claim
public import Idealize.ShloMosaic.Lib.Quiescent

/-! The claims about the input projection. -/

@[expose] public section

set_option maxRecDepth 16384

noncomputable section

namespace Cert.Proof.InProj

open Idealize.ShloMosaic Idealize.ShloMosaic.TcCoe Idealize.SL.Sem

/-- The call on the machine's floats ends, on every device, with its arguments unchanged and its counters at zero. -/
theorem quiescent_kernel : Cert.quiescent_Kernel := fun m g _ => Cert.Kernel.Gen.frame m g (ok_machine m)

/-- The same of the call on the ideal numbers. -/
theorem quiescent_kernelIdeal : Cert.quiescent_KernelIdeal := fun m g _ => Cert.KernelIdeal.Gen.frame m g (ok_ideal m)

/-- The same of the reference. -/
theorem quiescent_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- On the ideal numbers the call and the reference end with the same array, and with their arguments unchanged. -/
theorem algebraic : Cert.algebraic_KernelIdeal_ReferenceIdeal := by
  intro m g m' g' _ hagree
  refine ⟨fun c => outs m c, ?_, ?_⟩
  · run_from Cert.KernelIdeal.Gen.run_main m g (ok_ideal m) & Cert.KernelIdeal.Gen.unchanged m g (ok_ideal m)
    exact array m (ok_ideal m) c
  · run_from Cert.ReferenceIdeal.Value.run m' g'
    obtain ⟨h0, h1, h2, h3⟩ := hagree c
    exact (outs_eq m c m' c h0 h1 h2 h3).symm

end Cert.Proof.InProj

end
-- ==== Proof.Ffn.HiddenBlock.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.Lib.Pipeline.Covers

/-! What one grid point of the gated hidden rows' call leaves: the normalised rows it keeps and the block it stores. -/

@[expose] public section

set_option maxRecDepth 16384

noncomputable section

namespace Cert.Proof.Ffn.Hidden

open Idealize.ShloMosaic Idealize.ShloMosaic.TcCoe Cert.Kernel2Ideal Cert.Kernel2Ideal.Gen

section AnyFloat

variable {F : FTy → Type} [FloatOps F] (m : (ℓ : Loc nD τ sig) → Buf (Elt F) ℓ) (c : Dev nD)

/-- At the first column tile of a row block the point keeps the normalised rows and stores their gated products. -/
theorem at_first (t : Fin cfg0.N) (h : t.val % 11 = 0) :
    outsAt0 m c t.val t.isLt
      = (k0_pay2 (k0_pay1 (iblk m c 0 t) (iblk m c 1 t)) (iblk m c 2 t) (iblk m c 3 t), k0_pay1 (iblk m c 0 t) (iblk m c 1 t)) := by
  rw [outsAt0_A m c t h]
  refine Prod.ext ?_ ?_
  · dsimp only
    frame_out
  · dsimp only
    frame_out

/-- At a later column tile the point keeps what it found and stores the gated products of that. -/
theorem at_later (t : Fin cfg0.N) (h : ¬ t.val % 11 = 0) :
    outsAt0 m c t.val t.isLt
      = (k0_pay2 (outsAt0 m c (t.val - 1) (Nat.lt_of_le_of_lt (Nat.sub_le _ _) t.isLt)).2 (iblk m c 2 t) (iblk m c 3 t),
         (outsAt0 m c (t.val - 1) (Nat.lt_of_le_of_lt (Nat.sub_le _ _) t.isLt)).2) := by
  rw [outsAt0_B m c t h]
  refine Prod.ext ?_ ?_
  · dsimp only
    frame_out
    rw [read_unread_whole]
  · rfl

end AnyFloat

/-- One element of the normalised rows: the element times the reciprocal root of its row's mean square plus epsilon, times
    the gain of its column. -/
def normed (X : Vec Ideal S8192x2048 .f32) (g : Vec Ideal S1x2048 .f32) (r : Fin 8192) (k : Fin 2048) : EReal :=
  X (ix2 r k) * Ideal.rsqrt (Ideal.div (∑ j, X (ix2 r j) * X (ix2 r j)) (Ideal.ofBits FTy.f32 1157627904#32)
    + Ideal.ofBits FTy.f32 897988541#32) * g (ix2 0 k)

/-- The kept block of normalised rows, from a block that is rows `1024 q …` of the array. -/
theorem pay1_apply {X : Vec Ideal S8192x2048 .f32} (x : Vec Ideal S1024x2048 .f32) (g : Vec Ideal S1x2048 .f32)
    (q : ℕ) (hq : q < 8)
    (hx : ∀ r k, x (ix2 r k) = X (ix2 ⟨q * 1024 + r.val, by have := r.isLt; omega⟩ k)) (r : Fin 1024) (k : Fin 2048) :
    k0_pay1 (F := Ideal) x g (ix2 r k) = normed X g ⟨q * 1024 + r.val, by have := r.isLt; omega⟩ k := by
  pointwise [k0_pay1, normed]
  simp only [hx]

/-- The gated product of two inner products: the first times its logistic value, times the second. -/
def gated (a b : EReal) : EReal :=
  a * Ideal.div 1 (1 + Ideal.exp (-a)) * b

/-- The stored block: each element is the gated product of the row's inner products with the two weights' columns. -/
theorem pay2_apply (h : Vec Ideal S1024x2048 .bf16) (w v : Vec Ideal S1x2048x512 .f32) (r : Fin 1024) (l : Fin 512) :
    k0_pay2 (F := Ideal) h w v (ix2 r l)
      = gated (∑ k, h (ix2 r k) * w (ix3 0 k l)) (∑ k, h (ix2 r k) * v (ix3 0 k l)) := by
  pointwise [k0_pay2, gated]
  simp only [zero_sub]

end Cert.Proof.Ffn.Hidden

end
-- ==== Proof.Ffn.HiddenArray.lean ====
module

public import proofs.«01_k».proof.Proof.Ffn.HiddenBlock

/-! What the gated hidden rows' array holds after the run. -/

@[expose] public section

set_option maxRecDepth 16384

noncomputable section

namespace Cert.Proof.Ffn.Hidden

open Idealize.ShloMosaic Idealize.ShloMosaic.TcCoe Cert.Kernel2Ideal Cert.Kernel2Ideal.Gen

variable (m : (ℓ : Loc nD τ sig) → Buf (Elt Ideal) ℓ) (c : Dev nD)

/-- The residual's window moves with the row block. -/
theorem idx0 (t : Fin cfg0.N) : (cfg0.win 0).index t = ![t.val / 11, 0] :=
  (by decide +kernel : ∀ t : Fin grid0.N, cc0_transform_0 (grid0.coords t) = ![t.val / 11, 0]) t

/-- The gain's window stays at its one block. -/
theorem idx1 (t : Fin cfg0.N) : (cfg0.win 1).index t = ![0, 0] :=
  (by decide +kernel : ∀ t : Fin grid0.N, cc0_transform_1 (grid0.coords t) = ![0, 0]) t

/-- The gate weights' window moves with the column tile. -/
theorem idx2 (t : Fin cfg0.N) : (cfg0.win 2).index t = ![0, 0, t.val % 11] :=
  (by decide +kernel : ∀ t : Fin grid0.N, cc0_transform_2 (grid0.coords t) = ![0, 0, t.val % 11]) t

/-- The up weights' window moves with the column tile. -/
theorem idx3 (t : Fin cfg0.N) : (cfg0.win 3).index t = ![0, 0, t.val % 11] :=
  (by decide +kernel : ∀ t : Fin grid0.N, cc0_transform_3 (grid0.coords t) = ![0, 0, t.val % 11]) t

/-- The output's window takes every tile once. -/
theorem idx4 (t : Fin cfg0.N) : (cfg0.win 4).index t = ![t.val / 11, t.val % 11] :=
  (by decide +kernel : ∀ t : Fin grid0.N, cc0_transform_4 (grid0.coords t) = ![t.val / 11, t.val % 11]) t

/-- There are eight row blocks. -/
theorem lt8 (t : Fin cfg0.N) : t.val / 11 < 8 := by
  have : t.val < 88 := t.isLt
  omega

/-- The residual's block at a point is the rows of its row block. -/
theorem iblk0 (t : Fin cfg0.N) (r : Fin 1024) (k : Fin 2048) :
    iblk m c 0 t (ix2 r k) = V m c main_v0 (ix2 ⟨t.val / 11 * 1024 + r.val, by have := lt8 t; omega⟩ k) := by
  blk_simp [iblk]
  congr 1
  funext a
  refine Fin.ext ((Pipeline.Window.rect_emb_val ..).trans ?_)
  rw [idx0]
  fin_cases a
  · rfl
  · exact (congrArg (· + _) (Nat.zero_mul _)).trans (Nat.zero_add _)

/-- The gain's block is the whole gain. -/
theorem iblk1 (t : Fin cfg0.N) : iblk m c 1 t = V m c main_v3 := by
  funext y
  blk_simp [iblk]
  congr 1
  funext a
  refine Fin.ext ((Pipeline.Window.rect_emb_val ..).trans ?_)
  rw [idx1]
  fin_cases a <;> exact (congrArg (· + _) (Nat.zero_mul _)).trans (Nat.zero_add _)

/-- The gate weights' block at a point is the columns of its column tile. -/
theorem iblk2 (t : Fin cfg0.N) (k : Fin 2048) (l : Fin 512) :
    iblk m c 2 t (ix3 0 k l) = V m c main_arg2 (ix3 0 k ⟨t.val % 11 * 512 + l.val, by omega⟩) := by
  blk_simp [iblk]
  congr 1
  funext a
  refine Fin.ext ((Pipeline.Window.rect_emb_val ..).trans ?_)
  rw [idx2]
  fin_cases a
  · exact (congrArg (· + _) (Nat.zero_mul _)).trans (Nat.zero_add _)
  · exact (congrArg (· + _) (Nat.zero_mul _)).trans (Nat.zero_add _)
  · rfl

/-- The up weights' block at a point is the columns of its column tile. -/
theorem iblk3 (t : Fin cfg0.N) (k : Fin 2048) (l : Fin 512) :
    iblk m c 3 t (ix3 0 k l) = V m c main_arg3 (ix3 0 k ⟨t.val % 11 * 512 + l.val, by omega⟩) := by
  blk_simp [iblk]
  congr 1
  funext a
  refine Fin.ext ((Pipeline.Window.rect_emb_val ..).trans ?_)
  rw [idx3]
  fin_cases a
  · exact (congrArg (· + _) (Nat.zero_mul _)).trans (Nat.zero_add _)
  · exact (congrArg (· + _) (Nat.zero_mul _)).trans (Nat.zero_add _)
  · rfl

/-- The normalised rows held over the eleven points of a row block. -/
theorem held (t : Fin cfg0.N) (r : Fin 1024) (k : Fin 2048) :
    (outsAt0 m c t.val t.isLt).2 (ix2 r k)
      = normed (V m c main_v0) (V m c main_v3) ⟨t.val / 11 * 1024 + r.val, by have := lt8 t; omega⟩ k := by
  obtain ⟨n, hn⟩ := t
  induction n using Nat.strong_induction_on with
  | _ n ih =>
    by_cases h : n % 11 = 0
    · rw [at_first m c ⟨n, hn⟩ h]
      refine (pay1_apply (X := V m c main_v0) _ _ (n / 11) (lt8 ⟨n, hn⟩) (iblk0 m c ⟨n, hn⟩) r k).trans ?_
      rw [iblk1]
    · have e : (n - 1) / 11 = n / 11 := by omega
      have hs : (outsAt0 m c n hn).2 = (outsAt0 m c (n - 1) (by omega)).2 :=
        (congrArg Prod.snd (at_later m c ⟨n, hn⟩ h)).trans rfl
      refine (congrFun hs _).trans ((ih (n - 1) (by omega) (by omega)).trans ?_)
      simp only [e]

/-- What the call writes at a row and a column: the gated product of the normalised row's inner products with the two
    weights' columns. -/
def out (X : Vec Ideal S8192x2048 .f32) (g : Vec Ideal S1x2048 .f32) (W U : Vec Ideal S1x2048x5632 .f32)
    (r : Fin 8192) (j : Fin 5632) : EReal :=
  gated (∑ k, normed X g r k * W (ix3 0 k j)) (∑ k, normed X g r k * U (ix3 0 k j))

/-- The output's tiles cover its array. -/
theorem covers4 : (cfg0.win 4).Covers := by
  refine (cfg0.win 4).covers_of_index_surj rfl (by decide : ∀ a : Fin 2, 0 < S1024x512.size a) fun β => ?_
  have h0 : (β (0 : Fin 2)).val < 8 := (β (0 : Fin 2)).isLt.trans_eq (show (8192 + 1024 - 1) / 1024 = 8 by decide)
  have h1 : (β (1 : Fin 2)).val < 11 := (β (1 : Fin 2)).isLt.trans_eq (show (5632 + 512 - 1) / 512 = 11 by decide)
  have ht : 11 * (β (0 : Fin 2)).val + (β (1 : Fin 2)).val < 88 := by omega
  refine ⟨⟨_, ht⟩, (fun a => ?_ : ∀ a : Fin 2, _)⟩
  rw [idx4]
  fin_cases a
  · exact (by omega : (11 * (β (0 : Fin 2)).val + (β (1 : Fin 2)).val) / 11 = (β (0 : Fin 2)).val)
  · exact (by omega : (11 * (β (0 : Fin 2)).val + (β (1 : Fin 2)).val) % 11 = (β (1 : Fin 2)).val)

/-- The tile of the gate weights that a point reads. -/
abbrev gates (t : Fin cfg0.N) : Vec Ideal S1x2048x512 .f32 := iblk m c 2 t

/-- The tile of the up weights that a point reads. -/
abbrev ups (t : Fin cfg0.N) : Vec Ideal S1x2048x512 .f32 := iblk m c 3 t

/-- What a point of the grid writes at an element of its tile. -/
theorem tile (t : Fin cfg0.N) (r : Fin 1024) (l : Fin 512) :
    (outsAt0 m c t.val t.isLt).1 (ix2 r l)
      = out (V m c main_v0) (V m c main_v3) (V m c main_arg2) (V m c main_arg3)
          ⟨t.val / 11 * 1024 + r.val, by have := lt8 t; omega⟩ ⟨t.val % 11 * 512 + l.val, by omega⟩ := by
  have hw : ∀ k, gates m c t (ix3 0 k l) = _ := fun k => iblk2 m c t k l
  have hu : ∀ k, ups m c t (ix3 0 k l) = _ := fun k => iblk3 m c t k l
  have h0 := held m c t r
  have hp : (outsAt0 m c t.val t.isLt).1 (ix2 r l)
      = gated (∑ k, (outsAt0 m c t.val t.isLt).2 (ix2 r k) * gates m c t (ix3 0 k l))
          (∑ k, (outsAt0 m c t.val t.isLt).2 (ix2 r k) * ups m c t (ix3 0 k l)) := by
    by_cases h : t.val % 11 = 0
    · rw [at_first m c t h]; exact pay2_apply ..
    · rw [at_later m c t h]; exact pay2_apply ..
  rw [hp]
  exact congrArg₂ gated (Finset.sum_congr rfl fun k _ => congrArg₂ (· * ·) (h0 k) (hw k))
    (Finset.sum_congr rfl fun k _ => congrArg₂ (· * ·) (h0 k) (hu k))

/-- The array of every element the call writes. -/
def outs : Vec Ideal S8192x5632 .bf16 := fun i =>
  out (V m c main_v0) (V m c main_v3) (V m c main_arg2) (V m c main_arg3) (i 0) (i 1)

/-- The array the call writes, after the run. -/
theorem array : (dats m 0 c).arrAt 4 cfg0.N = outs m c := by
  refine (dats m 0 c).arrAt_eq_of_covers 4 _ covers4 fun t hf y => ?_
  blk_simp
  rw [after0_4]
  revert y
  suffices H : ∀ y : S1024x512.Idx, (outsAt0 m c t.val t.isLt).1 y = outs m c (((cfg0.win 4).blk t).view.emb y) from H
  intro y
  idx_vars y
  refine (tile m c t _ _).trans ?_
  refine congrArg₂ (out _ _ _ _) (Fin.ext (Eq.symm ?_)) (Fin.ext (Eq.symm ?_))
  · refine (Pipeline.Window.rect_emb_val (cfg0.win 4) t _ (0 : Fin 2)).trans ?_
    rw [idx4]
    rfl
  · refine (Pipeline.Window.rect_emb_val (cfg0.win 4) t _ (1 : Fin 2)).trans ?_
    rw [idx4]
    rfl

end Cert.Proof.Ffn.Hidden

end
-- ==== Proof.Ffn.HiddenEquation.lean ====
module

public import proofs.«01_k».proof.Proof.Ffn.HiddenArray
public import proofs.«01_k».proof.Proof.Gen.Reference2Ideal.Run
public import Idealize.ShloMosaic.Lib.Tactic.CleanTypes

/-! The gated hidden rows: what the call writes is what the reference computes. -/

@[expose] public section

set_option maxRecDepth 16384

noncomputable section

namespace Cert.Proof.Ffn.Hidden

open Idealize.ShloMosaic Idealize.ShloMosaic.TcCoe Idealize.SL.Sem

section Reference
open Cert.Reference2Ideal Cert.Reference2Ideal.Gen

/-- One element of the normalised residual stream, from the residual and the gains of both layers; row `r` counts through
    the batches. -/
def normal (x : Vec Ideal S2x4096x2048 .f32) (g : Vec Ideal S2x2048 .f32) (r : Fin 8192) (k : Fin 2048) : EReal :=
  x (ix3 ⟨r.val / 4096, by omega⟩ ⟨r.val % 4096, by omega⟩ k)
    * Ideal.rsqrt (Ideal.div (∑ j, x (ix3 ⟨r.val / 4096, by omega⟩ ⟨r.val % 4096, by omega⟩ j)
        * x (ix3 ⟨r.val / 4096, by omega⟩ ⟨r.val % 4096, by omega⟩ j)) (Ideal.ofBits FTy.f32 1157627904#32)
      + Ideal.ofBits FTy.f32 897988541#32) * g (ix2 0 k)

/-- The reference's hidden rows: `silu` of the first product times the second. -/
def hidden (x : Vec Ideal S2x4096x2048 .f32) (g : Vec Ideal S2x2048 .f32) (w u : Vec Ideal S1x2048x5632 .f32) :
    Vec Ideal S8192x5632 .bf16 := fun i =>
  gated (∑ k, normal x g (i 0) k * w (ix3 0 k (i 1))) (∑ k, normal x g (i 0) k * u (ix3 0 k (i 1)))

/-- The hidden rows of equal arguments are equal. -/
theorem hidden_congr {x x' : Vec Ideal S2x4096x2048 .f32} {g g' : Vec Ideal S2x2048 .f32}
    {w w' u u' : Vec Ideal S1x2048x5632 .f32} (hx : x = x') (hg : g = g') (hw : w = w') (hu : u = u') :
    hidden x g w u = hidden x' g' w' u' := by rw [hx, hg, hw, hu]

/-- The reference ends with the hidden rows of its arguments, which it leaves as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = hidden (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  clean_types
  funext i
  idx_vars i
  pointwise [hidden, gated, normal]

end Reference

section Kernel
open Cert.Kernel2Ideal Cert.Kernel2Ideal.Gen

variable (m : (ℓ : Loc nD τ sig) → Buf (Elt Ideal) ℓ) (c : Dev nD)

/-- The residual's rows that the call reads. -/
theorem rows_apply (r : Fin 8192) (k : Fin 2048) :
    (V m c main_v0 : Vec Ideal S8192x2048 .f32) (ix2 r k)
      = (m (c.tc.loc main_arg0) : Vec Ideal S2x4096x2048 .f32) (ix3 ⟨r.val / 4096, by omega⟩ ⟨r.val % 4096, by omega⟩ k) := by
  unfold_abbrev_sides
  after_results
  pointwise []

/-- The gain that the call reads. -/
theorem gain_apply (k : Fin 2048) :
    (V m c main_v3 : Vec Ideal S1x2048 .f32) (ix2 0 k) = (m (c.tc.loc main_arg1) : Vec Ideal S2x2048 .f32) (ix2 0 k) := by
  unfold_abbrev_sides
  after_results
  pointwise []

/-- The gate weights are read as given. -/
theorem gate_eq : V m c main_arg2 = m (c.tc.loc main_arg2) := by
  unfold_abbrev_sides
  after_results

/-- The up weights are read as given. -/
theorem up_eq : V m c main_arg3 = m (c.tc.loc main_arg3) := by
  unfold_abbrev_sides
  after_results

/-- What the call writes, from arrays that hold the arguments' elements in the call's layout, is the reference's. -/
theorem out_eq_hidden {X : Vec Ideal S8192x2048 .f32} {G : Vec Ideal S1x2048 .f32} {W U : Vec Ideal S1x2048x5632 .f32}
    {x : Vec Ideal S2x4096x2048 .f32} {g : Vec Ideal S2x2048 .f32} {w u : Vec Ideal S1x2048x5632 .f32}
    (hX : ∀ r k, X (ix2 r k) = x (ix3 ⟨r.val / 4096, by omega⟩ ⟨r.val % 4096, by omega⟩ k))
    (hG : ∀ k, G (ix2 0 k) = g (ix2 0 k)) (hW : W = w) (hU : U = u) (r : Fin 8192) (j : Fin 5632) :
    out X G W U r j = hidden x g w u (ix2 r j) := by
  have hn : ∀ k, normed X G r k = normal x g r k := fun k => by
    unfold normed normal
    simp only [hX, hG]
  subst hW hU
  unfold out hidden
  simp only [hn]
  rfl

/-- The array that the call writes is the reference's, of the call's arguments. -/
theorem outs_eq :
    outs m c = hidden (m (c.tc.loc main_arg0)) (m (c.tc.loc main_arg1)) (m (c.tc.loc main_arg2)) (m (c.tc.loc main_arg3)) := by
  funext i
  idx_vars i
  exact out_eq_hidden (rows_apply m c) (gain_apply m c) (gate_eq m c) (up_eq m c) _ _

end Kernel

end Cert.Proof.Ffn.Hidden

end
-- ==== Proof.Ffn.DownArray.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.Lib.Pipeline.Covers

/-! The down projection: what one grid point leaves, and what the array holds after the run. -/

@[expose] public section

set_option maxRecDepth 16384

noncomputable section

namespace Cert.Proof.Ffn.Down

open Idealize.ShloMosaic Idealize.ShloMosaic.TcCoe Cert.Kernel3Ideal Cert.Kernel3Ideal.Gen

section AnyFloat

variable {F : FTy → Type} [FloatOps F] (m : (ℓ : Loc nD τ sig) → Buf (Elt F) ℓ) (c : Dev nD)

/-- At the first row block of a column tile the point keeps the tile of the weights and stores the residual plus the
    product with it. -/
theorem at_first (t : Fin cfg0.N) (h : t.val % 16 = 0) :
    outsAt0 m c t.val t.isLt
      = (k0_pay2 (iblk m c 2 t) (iblk m c 0 t) (k0_pay1 (iblk m c 1 t)), k0_pay1 (iblk m c 1 t)) := by
  rw [outsAt0_A m c t h]
  refine Prod.ext ?_ ?_
  · dsimp only
    frame_out
  · dsimp only
    frame_out

/-- At a later row block the point keeps what it found and stores the residual plus the product with that. -/
theorem at_later (t : Fin cfg0.N) (h : ¬ t.val % 16 = 0) :
    outsAt0 m c t.val t.isLt
      = (k0_pay2 (iblk m c 2 t) (iblk m c 0 t) (outsAt0 m c (t.val - 1) (Nat.lt_of_le_of_lt (Nat.sub_le _ _) t.isLt)).2,
         (outsAt0 m c (t.val - 1) (Nat.lt_of_le_of_lt (Nat.sub_le _ _) t.isLt)).2) := by
  rw [outsAt0_B m c t h]
  refine Prod.ext ?_ ?_
  · dsimp only
    frame_out
    rw [read_unread_whole]
  · rfl

end AnyFloat

/-- The kept weights are those of the tile. -/
theorem pay1_apply (w : Vec Ideal S1x5632x512 .f32) (k : Fin 5632) (l : Fin 512) :
    k0_pay1 (F := Ideal) w (ix2 k l) = w (ix3 0 k l) := by
  pointwise [k0_pay1]

/-- The stored block: the residual plus the inner product of the hidden row and the kept column. -/
theorem pay2_apply (x : Vec Ideal S512x512 .f32) (a : Vec Ideal S512x5632 .bf16) (w : Vec Ideal S5632x512 .bf16)
    (r l : Fin 512) :
    k0_pay2 (F := Ideal) x a w (ix2 r l) = x (ix2 r l) + ∑ k, a (ix2 r k) * w (ix2 k l) := by
  pointwise [k0_pay2]

variable (m : (ℓ : Loc nD τ sig) → Buf (Elt Ideal) ℓ) (c : Dev nD)

/-- The hidden rows' window moves with the row block. -/
theorem idx0 (t : Fin cfg0.N) : (cfg0.win 0).index t = ![t.val % 16, 0] :=
  (by decide +kernel : ∀ t : Fin grid0.N, cc0_transform_0 (grid0.coords t) = ![t.val % 16, 0]) t

/-- The weights' window moves with the column tile. -/
theorem idx1 (t : Fin cfg0.N) : (cfg0.win 1).index t = ![0, 0, t.val / 16] :=
  (by decide +kernel : ∀ t : Fin grid0.N, cc0_transform_1 (grid0.coords t) = ![0, 0, t.val / 16]) t

/-- The residual's window takes every tile once. -/
theorem idx2 (t : Fin cfg0.N) : (cfg0.win 2).index t = ![t.val % 16, t.val / 16] :=
  (by decide +kernel : ∀ t : Fin grid0.N, cc0_transform_2 (grid0.coords t) = ![t.val % 16, t.val / 16]) t

/-- The output's window takes every tile once. -/
theorem idx3 (t : Fin cfg0.N) : (cfg0.win 3).index t = ![t.val % 16, t.val / 16] :=
  (by decide +kernel : ∀ t : Fin grid0.N, cc0_transform_3 (grid0.coords t) = ![t.val % 16, t.val / 16]) t

/-- There are four column tiles. -/
theorem lt4 (t : Fin cfg0.N) : t.val / 16 < 4 := by
  have : t.val < 64 := t.isLt
  omega

/-- The hidden rows' block at a point is the rows of its row block. -/
theorem iblk0 (t : Fin cfg0.N) (r : Fin 512) (k : Fin 5632) :
    iblk m c 0 t (ix2 r k) = V m c main_arg1 (ix2 ⟨t.val % 16 * 512 + r.val, by omega⟩ k) := by
  blk_simp [iblk]
  congr 1
  funext a
  refine Fin.ext ((Pipeline.Window.rect_emb_val ..).trans ?_)
  rw [idx0]
  fin_cases a
  · rfl
  · exact (congrArg (· + _) (Nat.zero_mul _)).trans (Nat.zero_add _)

/-- The weights' block at a point is the columns of its column tile. -/
theorem iblk1 (t : Fin cfg0.N) (k : Fin 5632) (l : Fin 512) :
    iblk m c 1 t (ix3 0 k l) = V m c main_arg2 (ix3 0 k ⟨t.val / 16 * 512 + l.val, by have := lt4 t; omega⟩) := by
  blk_simp [iblk]
  congr 1
  funext a
  refine Fin.ext ((Pipeline.Window.rect_emb_val ..).trans ?_)
  rw [idx1]
  fin_cases a
  · exact (congrArg (· + _) (Nat.zero_mul _)).trans (Nat.zero_add _)
  · exact (congrArg (· + _) (Nat.zero_mul _)).trans (Nat.zero_add _)
  · rfl

/-- The residual's block at a point. -/
theorem iblk2 (t : Fin cfg0.N) (r l : Fin 512) :
    iblk m c 2 t (ix2 r l)
      = V m c main_v0 (ix2 ⟨t.val % 16 * 512 + r.val, by omega⟩ ⟨t.val / 16 * 512 + l.val, by have := lt4 t; omega⟩) := by
  blk_simp [iblk]
  congr 1
  funext a
  refine Fin.ext ((Pipeline.Window.rect_emb_val ..).trans ?_)
  rw [idx2]
  fin_cases a <;> rfl

/-- The tile of the weights that a point reads. -/
abbrev wts (t : Fin cfg0.N) : Vec Ideal S1x5632x512 .f32 := iblk m c 1 t

/-- The tile kept at the first row block. -/
theorem held_first (t : Fin cfg0.N) (h : t.val % 16 = 0) (k : Fin 5632) (l : Fin 512) :
    (outsAt0 m c t.val t.isLt).2 (ix2 k l)
      = V m c main_arg2 (ix3 0 k ⟨t.val / 16 * 512 + l.val, by have := lt4 t; omega⟩) := by
  have e := iblk1 m c t k l
  have p := pay1_apply (wts m c t) k l
  rw [at_first m c t h]
  exact p.trans e

/-- The tile of the weights held over the sixteen points of a column tile. -/
theorem held (t : Fin cfg0.N) (k : Fin 5632) (l : Fin 512) :
    (outsAt0 m c t.val t.isLt).2 (ix2 k l)
      = V m c main_arg2 (ix3 0 k ⟨t.val / 16 * 512 + l.val, by have := lt4 t; omega⟩) := by
  obtain ⟨n, hn⟩ := t
  induction n using Nat.strong_induction_on with
  | _ n ih =>
    by_cases h : n % 16 = 0
    · exact held_first m c ⟨n, hn⟩ h k l
    · have e : (n - 1) / 16 = n / 16 := by omega
      have hs : (outsAt0 m c n hn).2 = (outsAt0 m c (n - 1) (by omega)).2 :=
        (congrArg Prod.snd (at_later m c ⟨n, hn⟩ h)).trans rfl
      refine (congrFun hs _).trans ((ih (n - 1) (by omega) (by omega)).trans ?_)
      simp only [e]

/-- What the call writes at a row and a column: the residual plus the inner product of the hidden row with the weights'
    column. -/
def out (X : Vec Ideal S8192x2048 .f32) (H : Vec Ideal S8192x5632 .bf16) (W : Vec Ideal S1x5632x2048 .f32)
    (r : Fin 8192) (j : Fin 2048) : EReal :=
  X (ix2 r j) + ∑ k, H (ix2 r k) * W (ix3 0 k j)

/-- The output's tiles cover its array. -/
theorem covers3 : (cfg0.win 3).Covers := by
  refine (cfg0.win 3).covers_of_index_surj rfl (by decide : ∀ a : Fin 2, 0 < S512x512.size a) fun β => ?_
  have h0 : (β (0 : Fin 2)).val < 16 := (β (0 : Fin 2)).isLt.trans_eq (show (8192 + 512 - 1) / 512 = 16 by decide)
  have h1 : (β (1 : Fin 2)).val < 4 := (β (1 : Fin 2)).isLt.trans_eq (show (2048 + 512 - 1) / 512 = 4 by decide)
  have ht : 16 * (β (1 : Fin 2)).val + (β (0 : Fin 2)).val < 64 := by omega
  refine ⟨⟨_, ht⟩, (fun a => ?_ : ∀ a : Fin 2, _)⟩
  rw [idx3]
  fin_cases a
  · exact (by omega : (16 * (β (1 : Fin 2)).val + (β (0 : Fin 2)).val) % 16 = (β (0 : Fin 2)).val)
  · exact (by omega : (16 * (β (1 : Fin 2)).val + (β (0 : Fin 2)).val) / 16 = (β (1 : Fin 2)).val)

/-- The block of the hidden rows that a point reads. -/
abbrev hid (t : Fin cfg0.N) : Vec Ideal S512x5632 .bf16 := iblk m c 0 t

/-- The block of the residual that a point reads. -/
abbrev res (t : Fin cfg0.N) : Vec Ideal S512x512 .f32 := iblk m c 2 t

/-- What a point of the grid writes at an element of its tile. -/
theorem tile (t : Fin cfg0.N) (r l : Fin 512) :
    (outsAt0 m c t.val t.isLt).1 (ix2 r l)
      = out (V m c main_v0) (V m c main_arg1) (V m c main_arg2)
          ⟨t.val % 16 * 512 + r.val, by omega⟩ ⟨t.val / 16 * 512 + l.val, by have := lt4 t; omega⟩ := by
  have ha : ∀ k, hid m c t (ix2 r k) = _ := fun k => iblk0 m c t r k
  have h0 := fun k => held m c t k l
  have hp : (outsAt0 m c t.val t.isLt).1 (ix2 r l)
      = res m c t (ix2 r l) + ∑ k, hid m c t (ix2 r k) * (outsAt0 m c t.val t.isLt).2 (ix2 k l) := by
    by_cases h : t.val % 16 = 0
    · rw [at_first m c t h]; exact pay2_apply ..
    · rw [at_later m c t h]; exact pay2_apply ..
  rw [hp]
  exact congrArg₂ (· + ·) (iblk2 m c t r l) (Finset.sum_congr rfl fun k _ => congrArg₂ (· * ·) (ha k) (h0 k))

/-- The array of every element the call writes. -/
def outs : Vec Ideal S8192x2048 .f32 := fun i => out (V m c main_v0) (V m c main_arg1) (V m c main_arg2) (i 0) (i 1)

/-- The array the call writes, after the run. -/
theorem array : (dats m 0 c).arrAt 3 cfg0.N = outs m c := by
  refine (dats m 0 c).arrAt_eq_of_covers 3 _ covers3 fun t hf y => ?_
  blk_simp
  rw [after0_3]
  revert y
  suffices H : ∀ y : S512x512.Idx, (outsAt0 m c t.val t.isLt).1 y = outs m c (((cfg0.win 3).blk t).view.emb y) from H
  intro y
  idx_vars y
  refine (tile m c t _ _).trans ?_
  refine congrArg₂ (out _ _ _) (Fin.ext (Eq.symm ?_)) (Fin.ext (Eq.symm ?_))
  · refine (Pipeline.Window.rect_emb_val (cfg0.win 3) t _ (0 : Fin 2)).trans ?_
    rw [idx3]
    rfl
  · refine (Pipeline.Window.rect_emb_val (cfg0.win 3) t _ (1 : Fin 2)).trans ?_
    rw [idx3]
    rfl

end Cert.Proof.Ffn.Down

end
-- ==== Proof.Ffn.DownEquation.lean ====
module

public import proofs.«01_k».proof.Proof.Ffn.DownArray
public import proofs.«01_k».proof.Proof.Gen.Reference3Ideal.Run
public import Idealize.ShloMosaic.Lib.Tactic.CleanTypes

/-! The down projection: what the call writes is what the reference computes. -/

@[expose] public section

set_option maxRecDepth 16384

noncomputable section

namespace Cert.Proof.Ffn.Down

open Idealize.ShloMosaic Idealize.ShloMosaic.TcCoe Idealize.SL.Sem

section Reference
open Cert.Reference3Ideal Cert.Reference3Ideal.Gen

/-- The reference's result: the residual plus the product of the hidden rows and the weights. -/
def down (x : Vec Ideal S2x4096x2048 .f32) (h : Vec Ideal S8192x5632 .bf16) (w : Vec Ideal S1x5632x2048 .f32) :
    Vec Ideal S8192x2048 .f32 := fun i =>
  x (ix3 ⟨(i 0).val / 4096, by have : (i 0).val < 8192 := (i 0).isLt; omega⟩ ⟨(i 0).val % 4096, by omega⟩ (i 1))
    + ∑ k, h (ix2 (i 0) k) * w (ix3 0 k (i 1))

/-- The reference ends with that result of its arguments, which it leaves as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = down (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  clean_types
  funext i
  idx_vars i
  pointwise [down]

end Reference

section Kernel
open Cert.Kernel3Ideal Cert.Kernel3Ideal.Gen

variable (m : (ℓ : Loc nD τ sig) → Buf (Elt Ideal) ℓ) (c : Dev nD)

/-- The residual's rows that the call reads. -/
theorem rows_apply (r : Fin 8192) (k : Fin 2048) :
    (V m c main_v0 : Vec Ideal S8192x2048 .f32) (ix2 r k)
      = (m (c.tc.loc main_arg0) : Vec Ideal S2x4096x2048 .f32) (ix3 ⟨r.val / 4096, by omega⟩ ⟨r.val % 4096, by omega⟩ k) := by
  unfold_abbrev_sides
  after_results
  pointwise []

/-- The hidden rows are read as given. -/
theorem hidden_eq : V m c main_arg1 = m (c.tc.loc main_arg1) := by
  unfold_abbrev_sides
  after_results

/-- The weights are read as given. -/
theorem weights_eq : V m c main_arg2 = m (c.tc.loc main_arg2) := by
  unfold_abbrev_sides
  after_results

/-- What the call writes, from arrays that hold the arguments' elements in the call's layout, is the reference's. -/
theorem out_eq_down {X : Vec Ideal S8192x2048 .f32} {H : Vec Ideal S8192x5632 .bf16} {W : Vec Ideal S1x5632x2048 .f32}
    {x : Vec Ideal S2x4096x2048 .f32} {h : Vec Ideal S8192x5632 .bf16} {w : Vec Ideal S1x5632x2048 .f32}
    (hX : ∀ r k, X (ix2 r k) = x (ix3 ⟨r.val / 4096, by omega⟩ ⟨r.val % 4096, by omega⟩ k))
    (hH : H = h) (hW : W = w) (r : Fin 8192) (j : Fin 2048) :
    out X H W r j = down x h w (ix2 r j) := by
  subst hH hW
  unfold out down
  rw [hX]
  rfl

/-- The array that the call writes is the reference's, of the call's arguments. -/
theorem outs_eq :
    outs m c = down (m (c.tc.loc main_arg0)) (m (c.tc.loc main_arg1)) (m (c.tc.loc main_arg2)) := by
  funext i
  idx_vars i
  exact out_eq_down (rows_apply m c) (hidden_eq m c) (weights_eq m c) _ _

end Kernel

end Cert.Proof.Ffn.Down

end
-- ==== Proof.Ffn.Claims.lean ====
module

public import proofs.«01_k».proof.Defs
public import proofs.«01_k».proof.Proof.Ffn.HiddenEquation
public import proofs.«01_k».proof.Proof.Ffn.DownEquation
public import proofs.«01_k».proof.Proof.Gen.Kernel2.Frame
public import proofs.«01_k».proof.Proof.Gen.Kernel3.Frame
public import Idealize.ShloMosaic.Lib.Claim
public import Idealize.ShloMosaic.Lib.Quiescent

/-! The claims about the two calls of the dense channel mixer. -/

@[expose] public section

set_option maxRecDepth 16384

noncomputable section

namespace Cert.Proof.Ffn

open Idealize.ShloMosaic Idealize.ShloMosaic.TcCoe Idealize.SL.Sem

/-- The hidden rows' call on the machine's floats ends, on every device, with its arguments unchanged and its counters at
    zero. -/
theorem quiescent_kernel2 : Cert.quiescent_Kernel2 := fun m g _ => Cert.Kernel2.Gen.frame m g

/-- The same of the call on the ideal numbers. -/
theorem quiescent_kernel2Ideal : Cert.quiescent_Kernel2Ideal := fun m g _ => Cert.Kernel2Ideal.Gen.frame m g

/-- The same of the reference. -/
theorem quiescent_reference2Ideal : Cert.quiescent_Reference2Ideal := fun m g _ =>
  (θ_run Cert.Reference2Ideal.defs _ _).mono (fun r h => ⟨fun c => (h c).2, sem_eq_zero_of_no_sems (by decide) r.2⟩)
    (Hidden.reference_run m g)

/-- On the ideal numbers the call and the reference end with the same hidden rows, and with their arguments unchanged. -/
theorem algebraic2 : Cert.algebraic_Kernel2Ideal_Reference2Ideal := by
  intro m g m' g' _ hagree
  refine ⟨fun c => Hidden.outs m c, ?_, ?_⟩
  · run_from Cert.Kernel2Ideal.Gen.run_main m g & Cert.Kernel2Ideal.Gen.unchanged m g
    exact Hidden.array m c
  · refine (θ_run Cert.Reference2Ideal.defs _ _).mono (fun r h c => ⟨(h c).1.trans ?_, (h c).2⟩) (Hidden.reference_run m' g')
    obtain ⟨h0, h1, h2, h3⟩ := hagree c
    exact (Hidden.hidden_congr h0 h1 h2 h3).trans (Hidden.outs_eq m c).symm

/-- The down projection's call on the machine's floats ends, on every device, with its arguments unchanged and its counters
    at zero. -/
theorem quiescent_kernel3 : Cert.quiescent_Kernel3 := fun m g _ => Cert.Kernel3.Gen.frame m g

/-- The same of the call on the ideal numbers. -/
theorem quiescent_kernel3Ideal : Cert.quiescent_Kernel3Ideal := fun m g _ => Cert.Kernel3Ideal.Gen.frame m g

/-- The same of the reference. -/
theorem quiescent_reference3Ideal : Cert.quiescent_Reference3Ideal := fun m g _ =>
  (θ_run Cert.Reference3Ideal.defs _ _).mono (fun r h => ⟨fun c => (h c).2, sem_eq_zero_of_no_sems (by decide) r.2⟩)
    (Down.reference_run m g)

/-- On the ideal numbers the call and the reference end with the same rows, and with their arguments unchanged. -/
theorem algebraic3 : Cert.algebraic_Kernel3Ideal_Reference3Ideal := by
  intro m g m' g' _ hagree
  refine ⟨fun c => Down.outs m c, ?_, ?_⟩
  · run_from Cert.Kernel3Ideal.Gen.run_main m g & Cert.Kernel3Ideal.Gen.unchanged m g
    exact Down.array m c
  · run_from Down.reference_run m' g'
    exact (Down.outs_eq m c).symm

end Cert.Proof.Ffn

end
-- ==== Proof.Experts.Plan.lean ====
module

public import Idealize.ShloMosaic.Lib.Routing.OpsSet
public import Idealize.ShloMosaic.Lib.Routing.OpsPair
public import Idealize.ShloMosaic.Lib.Routing.Words

/-! The routing plan of the experts call as functions of the eight expert counts.
Each definition is one buffer of the host program that prepares the launch, named after that
buffer, written with the same operation on the buffers it reads. -/

@[expose] public section

namespace Cert.Experts.Plan

open Idealize Idealize.ShloMosaic Idealize.ShloMosaic.Routing Idealize.ShloMosaic.ValueIdx

/-- The shape of this name. -/
abbrev S_ := shape0
/-- The shape of this name. -/
abbrev S1 := shape1 1
/-- The shape of this name. -/
abbrev S8 := shape1 8
/-- The shape of this name. -/
abbrev S18 := shape1 18
/-- The shape of this name. -/
abbrev S26 := shape1 26
/-- The shape of this name. -/
abbrev S144 := shape1 144
/-- The shape of this name. -/
abbrev S182 := shape1 182
/-- The shape of this name. -/
abbrev S18x1 := shape2 18 1
/-- The shape of this name. -/
abbrev S1x8 := shape2 1 8
/-- The shape of this name. -/
abbrev S18x8 := shape2 18 8
/-- The shape of this name. -/
abbrev S144x1 := shape2 144 1

/-- One update per row of the index column, each into the entry that row names. -/
def scD : ScatterDims S26 S144x1 S144 where
  updateWindowDims := []
  insertedWindowDims := [0]
  scatterDimsToOperandDims := [0]
  indexVectorDim := 1
  wf := by decide

/-- The host program's buffer `c`. -/
def c (cnt : IVec S8 32) : IVec S_ 32 := (constantI S_ 32 256#32)
/-- The host program's buffer `v0`. -/
def v0 (cnt : IVec S8 32) : IVec S8 32 := (broadcastInDim S8 ![] (by decide)) (c cnt)
/-- The host program's buffer `v1`. -/
def v1 (cnt : IVec S8 32) : IVec S8 32 := (addi) cnt (v0 cnt)
/-- The host program's buffer `c_0`. -/
def c_0 (cnt : IVec S8 32) : IVec S_ 32 := (constantI S_ 32 1#32)
/-- The host program's buffer `v2`. -/
def v2 (cnt : IVec S8 32) : IVec S8 32 := (broadcastInDim S8 ![] (by decide)) (c_0 cnt)
/-- The host program's buffer `v3`. -/
def v3 (cnt : IVec S8 32) : IVec S8 32 := (subi) (v1 cnt) (v2 cnt)
/-- The host program's buffer `c_1`. -/
def c_1 (cnt : IVec S8 32) : IVec S_ 32 := (constantI S_ 32 256#32)
/-- The host program's buffer `call0_v0`. -/
def call0_v0 (cnt : IVec S8 32) : IVec S_ 32 := (c_1 cnt)
/-- The host program's buffer `call0_v1`. -/
def call0_v1 (cnt : IVec S8 32) : IVec S8 32 := (broadcastInDim S8 ![] (by decide)) (call0_v0 cnt)
/-- The host program's buffer `call0_v2`. -/
def call0_v2 (cnt : IVec S8 32) : IVec S8 32 := Host.divsi (v3 cnt) (call0_v1 cnt)
/-- The host program's buffer `call0_v3`. -/
def call0_v3 (cnt : IVec S8 32) : IVec S8 32 := signi (v3 cnt)
/-- The host program's buffer `call0_v4`. -/
def call0_v4 (cnt : IVec S8 32) : IVec S_ 32 := signi (call0_v0 cnt)
/-- The host program's buffer `call0_v5`. -/
def call0_v5 (cnt : IVec S8 32) : IVec S8 32 := (broadcastInDim S8 ![] (by decide)) (call0_v4 cnt)
/-- The host program's buffer `call0_v6`. -/
def call0_v6 (cnt : IVec S8 32) : IVec S8 1 := (cmpi .ne) (call0_v3 cnt) (call0_v5 cnt)
/-- The host program's buffer `call0_v7`. -/
def call0_v7 (cnt : IVec S8 32) : IVec S8 32 := (broadcastInDim S8 ![] (by decide)) (call0_v0 cnt)
/-- The host program's buffer `call0_v8`. -/
def call0_v8 (cnt : IVec S8 32) : IVec S8 32 := Host.remsi (v3 cnt) (call0_v7 cnt)
/-- The host program's buffer `call0_c`. -/
def call0_c (cnt : IVec S8 32) : IVec S_ 32 := (constantI S_ 32 0#32)
/-- The host program's buffer `call0_v9`. -/
def call0_v9 (cnt : IVec S8 32) : IVec S8 32 := (broadcastInDim S8 ![] (by decide)) (call0_c cnt)
/-- The host program's buffer `call0_v10`. -/
def call0_v10 (cnt : IVec S8 32) : IVec S8 1 := (cmpi .ne) (call0_v8 cnt) (call0_v9 cnt)
/-- The host program's buffer `call0_v11`. -/
def call0_v11 (cnt : IVec S8 32) : IVec S8 1 := andi (call0_v6 cnt) (call0_v10 cnt)
/-- The host program's buffer `call0_c_0`. -/
def call0_c_0 (cnt : IVec S8 32) : IVec S_ 32 := (constantI S_ 32 1#32)
/-- The host program's buffer `call0_v12`. -/
def call0_v12 (cnt : IVec S8 32) : IVec S8 32 := (broadcastInDim S8 ![] (by decide)) (call0_c_0 cnt)
/-- The host program's buffer `call0_v13`. -/
def call0_v13 (cnt : IVec S8 32) : IVec S8 32 := subi (call0_v2 cnt) (call0_v12 cnt)
/-- The host program's buffer `v4`. -/
def v4 (cnt : IVec S8 32) : IVec S8 32 := select (call0_v11 cnt) (call0_v13 cnt) (call0_v2 cnt)
/-- The host program's buffer `c_2`. -/
def c_2 (cnt : IVec S8 32) : IVec S_ 32 := (constantI S_ 32 256#32)
/-- The host program's buffer `v5`. -/
def v5 (cnt : IVec S8 32) : IVec S8 32 := (broadcastInDim S8 ![] (by decide)) (c_2 cnt)
/-- The host program's buffer `v6`. -/
def v6 (cnt : IVec S8 32) : IVec S8 32 := (muli) (v4 cnt) (v5 cnt)
/-- The host program's buffer `call1_call0_c`. -/
def call1_call0_c (cnt : IVec S8 32) : IVec S_ 32 := (constantI S_ 32 0#32)
/-- The host program's buffer `call1_call0_v0`. -/
def call1_call0_v0 (cnt : IVec S8 32) : IVec S_ 32 := (broadcastInDim S_ ![] (by decide)) (call1_call0_c cnt)
/-- The host program's buffer `v7`. -/
def v7 (cnt : IVec S8 32) : IVec S8 32 := Host.reduceWindow IntOp.addi ![8] ![1] ![7] ![0] (v6 cnt) (call1_call0_v0 cnt) (by decide) (by decide)
/-- The host program's buffer `v8`. -/
def v8 (cnt : IVec S8 32) : IVec S8 32 := (subi) (v7 cnt) (v6 cnt)
/-- The host program's buffer `v9`. -/
def v9 (cnt : IVec S8 32) : IVec S1 32 := extractStridedSlice S1 ![7] (v7 cnt) (by decide)
/-- The host program's buffer `v10`. -/
def v10 (cnt : IVec S8 32) : IVec S_ 32 := shapeCast S_ (v9 cnt) (by decide)
/-- The host program's buffer `c_3`. -/
def c_3 (cnt : IVec S8 32) : IVec S_ 32 := (constantI S_ 32 1024#32)
/-- The host program's buffer `v11`. -/
def v11 (cnt : IVec S8 32) : IVec S_ 32 := (addi) (v10 cnt) (c_3 cnt)
/-- The host program's buffer `c_4`. -/
def c_4 (cnt : IVec S8 32) : IVec S_ 32 := (constantI S_ 32 1#32)
/-- The host program's buffer `v12`. -/
def v12 (cnt : IVec S8 32) : IVec S_ 32 := (subi) (v11 cnt) (c_4 cnt)
/-- The host program's buffer `c_5`. -/
def c_5 (cnt : IVec S8 32) : IVec S_ 32 := (constantI S_ 32 1024#32)
/-- The host program's buffer `call2_v0`. -/
def call2_v0 (cnt : IVec S8 32) : IVec S_ 32 := (c_5 cnt)
/-- The host program's buffer `call2_v1`. -/
def call2_v1 (cnt : IVec S8 32) : IVec S_ 32 := Host.divsi (v12 cnt) (call2_v0 cnt)
/-- The host program's buffer `call2_v2`. -/
def call2_v2 (cnt : IVec S8 32) : IVec S_ 32 := signi (v12 cnt)
/-- The host program's buffer `call2_v3`. -/
def call2_v3 (cnt : IVec S8 32) : IVec S_ 32 := signi (call2_v0 cnt)
/-- The host program's buffer `call2_v4`. -/
def call2_v4 (cnt : IVec S8 32) : IVec S_ 1 := (cmpi .ne) (call2_v2 cnt) (call2_v3 cnt)
/-- The host program's buffer `call2_v5`. -/
def call2_v5 (cnt : IVec S8 32) : IVec S_ 32 := Host.remsi (v12 cnt) (call2_v0 cnt)
/-- The host program's buffer `call2_c`. -/
def call2_c (cnt : IVec S8 32) : IVec S_ 32 := (constantI S_ 32 0#32)
/-- The host program's buffer `call2_v6`. -/
def call2_v6 (cnt : IVec S8 32) : IVec S_ 1 := (cmpi .ne) (call2_v5 cnt) (call2_c cnt)
/-- The host program's buffer `call2_v7`. -/
def call2_v7 (cnt : IVec S8 32) : IVec S_ 1 := andi (call2_v4 cnt) (call2_v6 cnt)
/-- The host program's buffer `call2_c_0`. -/
def call2_c_0 (cnt : IVec S8 32) : IVec S_ 32 := (constantI S_ 32 1#32)
/-- The host program's buffer `call2_v8`. -/
def call2_v8 (cnt : IVec S8 32) : IVec S_ 32 := subi (call2_v1 cnt) (call2_c_0 cnt)
/-- The host program's buffer `v13`. -/
def v13 (cnt : IVec S8 32) : IVec S_ 32 := select (call2_v7 cnt) (call2_v8 cnt) (call2_v1 cnt)
/-- The host program's buffer `v14`. -/
def v14 (cnt : IVec S8 32) : IVec S18 32 := (iotaInDim S18 32 0)
/-- The host program's buffer `c_6`. -/
def c_6 (cnt : IVec S8 32) : IVec S_ 32 := (constantI S_ 32 1024#32)
/-- The host program's buffer `v15`. -/
def v15 (cnt : IVec S8 32) : IVec S18 32 := (broadcastInDim S18 ![] (by decide)) (c_6 cnt)
/-- The host program's buffer `v16`. -/
def v16 (cnt : IVec S8 32) : IVec S18 32 := (muli) (v14 cnt) (v15 cnt)
/-- The host program's buffer `v17`. -/
def v17 (cnt : IVec S8 32) : IVec S18x1 32 := (broadcastInDim S18x1 ![0] (by decide)) (v16 cnt)
/-- The host program's buffer `v18`. -/
def v18 (cnt : IVec S8 32) : IVec S1x8 32 := (broadcastInDim S1x8 ![1] (by decide)) (v8 cnt)
/-- The host program's buffer `v19`. -/
def v19 (cnt : IVec S8 32) : IVec S18x8 32 := (broadcastInDim S18x8 ![0, 1] (by decide)) (v18 cnt)
/-- The host program's buffer `v20`. -/
def v20 (cnt : IVec S8 32) : IVec S18x8 32 := (broadcastInDim S18x8 ![0, 1] (by decide)) (v17 cnt)
/-- The host program's buffer `v21`. -/
def v21 (cnt : IVec S8 32) : IVec S18x8 32 := (maxsi) (v19 cnt) (v20 cnt)
/-- The host program's buffer `v22`. -/
def v22 (cnt : IVec S8 32) : IVec S1x8 32 := (broadcastInDim S1x8 ![1] (by decide)) (v7 cnt)
/-- The host program's buffer `c_7`. -/
def c_7 (cnt : IVec S8 32) : IVec S_ 32 := (constantI S_ 32 1024#32)
/-- The host program's buffer `v23`. -/
def v23 (cnt : IVec S8 32) : IVec S18x1 32 := (broadcastInDim S18x1 ![] (by decide)) (c_7 cnt)
/-- The host program's buffer `v24`. -/
def v24 (cnt : IVec S8 32) : IVec S18x1 32 := (addi) (v17 cnt) (v23 cnt)
/-- The host program's buffer `v25`. -/
def v25 (cnt : IVec S8 32) : IVec S18x8 32 := (broadcastInDim S18x8 ![0, 1] (by decide)) (v22 cnt)
/-- The host program's buffer `v26`. -/
def v26 (cnt : IVec S8 32) : IVec S18x8 32 := (broadcastInDim S18x8 ![0, 1] (by decide)) (v24 cnt)
/-- The host program's buffer `v27`. -/
def v27 (cnt : IVec S8 32) : IVec S18x8 32 := (minsi) (v25 cnt) (v26 cnt)
/-- The host program's buffer `v28`. -/
def v28 (cnt : IVec S8 32) : IVec S18x8 1 := (cmpi .sgt) (v27 cnt) (v21 cnt)
/-- The host program's buffer `v29`. -/
def v29 (cnt : IVec S8 32) : IVec S144 1 := shapeCast S144 (v28 cnt) (by decide)
/-- The host program's buffer `v30`. -/
def v30 (cnt : IVec S8 32) : IVec S144 32 := extui 32 (v29 cnt) (by decide)
/-- The host program's buffer `c_8`. -/
def c_8 (cnt : IVec S8 32) : IVec S_ 32 := (constantI S_ 32 0#32)
/-- The host program's buffer `v31`. -/
def v31 (cnt : IVec S8 32) : IVec S_ 32 := Host.reduce IntOp.addi (v30 cnt) (c_8 cnt) (axes := [0]) (by decide) (by decide)
/-- The host program's buffer `v32`. -/
def v32 (cnt : IVec S8 32) : IVec S144 32 := extui 32 (v29 cnt) (by decide)
/-- The host program's buffer `call3_call0_c`. -/
def call3_call0_c (cnt : IVec S8 32) : IVec S_ 32 := (constantI S_ 32 0#32)
/-- The host program's buffer `call3_call0_v0`. -/
def call3_call0_v0 (cnt : IVec S8 32) : IVec S_ 32 := (broadcastInDim S_ ![] (by decide)) (call3_call0_c cnt)
/-- The host program's buffer `v33`. -/
def v33 (cnt : IVec S8 32) : IVec S144 32 := Host.reduceWindow IntOp.addi ![144] ![1] ![143] ![0] (v32 cnt) (call3_call0_v0 cnt) (by decide) (by decide)
/-- The host program's buffer `c_9`. -/
def c_9 (cnt : IVec S8 32) : IVec S_ 32 := (constantI S_ 32 1#32)
/-- The host program's buffer `v34`. -/
def v34 (cnt : IVec S8 32) : IVec S144 32 := (broadcastInDim S144 ![] (by decide)) (c_9 cnt)
/-- The host program's buffer `v35`. -/
def v35 (cnt : IVec S8 32) : IVec S144 32 := (subi) (v33 cnt) (v34 cnt)
/-- The host program's buffer `c_10`. -/
def c_10 (cnt : IVec S8 32) : IVec S_ 32 := (constantI S_ 32 26#32)
/-- The host program's buffer `call4_v0`. -/
def call4_v0 (cnt : IVec S8 32) : IVec S_ 32 := (c_10 cnt)
/-- The host program's buffer `call4_v1`. -/
def call4_v1 (cnt : IVec S8 32) : IVec S144 32 := (broadcastInDim S144 ![] (by decide)) (call4_v0 cnt)
/-- The host program's buffer `v36`. -/
def v36 (cnt : IVec S8 32) : IVec S144 32 := select (v29 cnt) (v35 cnt) (call4_v1 cnt)
/-- The host program's buffer `v37`. -/
def v37 (cnt : IVec S8 32) : IVec S18 32 := (iotaInDim S18 32 0)
/-- The host program's buffer `v38`. -/
def v38 (cnt : IVec S8 32) : IVec S18x1 32 := (broadcastInDim S18x1 ![0] (by decide)) (v37 cnt)
/-- The host program's buffer `v39`. -/
def v39 (cnt : IVec S8 32) : IVec S18x8 32 := (broadcastInDim S18x8 ![0, 1] (by decide)) (v38 cnt)
/-- The host program's buffer `c_11`. -/
def c_11 (cnt : IVec S8 32) : IVec S_ 32 := (constantI S_ 32 0#32)
/-- The host program's buffer `v40`. -/
def v40 (cnt : IVec S8 32) : IVec S26 32 := (broadcastInDim S26 ![] (by decide)) (c_11 cnt)
/-- The host program's buffer `v41`. -/
def v41 (cnt : IVec S8 32) : IVec S144 32 := shapeCast S144 (v39 cnt) (by decide)
/-- The host program's buffer `c_12`. -/
def c_12 (cnt : IVec S8 32) : IVec S_ 32 := (constantI S_ 32 0#32)
/-- The host program's buffer `v42`. -/
def v42 (cnt : IVec S8 32) : IVec S144 32 := (broadcastInDim S144 ![] (by decide)) (c_12 cnt)
/-- The host program's buffer `v43`. -/
def v43 (cnt : IVec S8 32) : IVec S144 1 := (cmpi .slt) (v36 cnt) (v42 cnt)
/-- The host program's buffer `c_13`. -/
def c_13 (cnt : IVec S8 32) : IVec S_ 32 := (constantI S_ 32 26#32)
/-- The host program's buffer `v44`. -/
def v44 (cnt : IVec S8 32) : IVec S144 32 := (broadcastInDim S144 ![] (by decide)) (c_13 cnt)
/-- The host program's buffer `v45`. -/
def v45 (cnt : IVec S8 32) : IVec S144 32 := (addi) (v36 cnt) (v44 cnt)
/-- The host program's buffer `v46`. -/
def v46 (cnt : IVec S8 32) : IVec S144 32 := (select) (v43 cnt) (v45 cnt) (v36 cnt)
/-- The host program's buffer `v47`. -/
def v47 (cnt : IVec S8 32) : IVec S144x1 32 := (broadcastInDim S144x1 ![0] (by decide)) (v46 cnt)
/-- The host program's buffer `v48`. -/
def v48 (cnt : IVec S8 32) : IVec S26 32 := Host.scatter scD (fun _ b => b) (v40 cnt) (v47 cnt) (v41 cnt)
/-- The host program's buffer `v49`. -/
def v49 (cnt : IVec S8 32) : IVec S8 32 := (iotaInDim S8 32 0)
/-- The host program's buffer `v50`. -/
def v50 (cnt : IVec S8 32) : IVec S1x8 32 := (broadcastInDim S1x8 ![1] (by decide)) (v49 cnt)
/-- The host program's buffer `v51`. -/
def v51 (cnt : IVec S8 32) : IVec S18x8 32 := (broadcastInDim S18x8 ![0, 1] (by decide)) (v50 cnt)
/-- The host program's buffer `c_14`. -/
def c_14 (cnt : IVec S8 32) : IVec S_ 32 := (constantI S_ 32 0#32)
/-- The host program's buffer `v52`. -/
def v52 (cnt : IVec S8 32) : IVec S26 32 := (broadcastInDim S26 ![] (by decide)) (c_14 cnt)
/-- The host program's buffer `v53`. -/
def v53 (cnt : IVec S8 32) : IVec S144 32 := shapeCast S144 (v51 cnt) (by decide)
/-- The host program's buffer `c_15`. -/
def c_15 (cnt : IVec S8 32) : IVec S_ 32 := (constantI S_ 32 0#32)
/-- The host program's buffer `v54`. -/
def v54 (cnt : IVec S8 32) : IVec S144 32 := (broadcastInDim S144 ![] (by decide)) (c_15 cnt)
/-- The host program's buffer `v55`. -/
def v55 (cnt : IVec S8 32) : IVec S144 1 := (cmpi .slt) (v36 cnt) (v54 cnt)
/-- The host program's buffer `c_16`. -/
def c_16 (cnt : IVec S8 32) : IVec S_ 32 := (constantI S_ 32 26#32)
/-- The host program's buffer `v56`. -/
def v56 (cnt : IVec S8 32) : IVec S144 32 := (broadcastInDim S144 ![] (by decide)) (c_16 cnt)
/-- The host program's buffer `v57`. -/
def v57 (cnt : IVec S8 32) : IVec S144 32 := (addi) (v36 cnt) (v56 cnt)
/-- The host program's buffer `v58`. -/
def v58 (cnt : IVec S8 32) : IVec S144 32 := (select) (v55 cnt) (v57 cnt) (v36 cnt)
/-- The host program's buffer `v59`. -/
def v59 (cnt : IVec S8 32) : IVec S144x1 32 := (broadcastInDim S144x1 ![0] (by decide)) (v58 cnt)
/-- The host program's buffer `v60`. -/
def v60 (cnt : IVec S8 32) : IVec S26 32 := Host.scatter scD (fun _ b => b) (v52 cnt) (v59 cnt) (v53 cnt)
/-- The host program's buffer `v61`. -/
def v61 (cnt : IVec S8 32) : IVec S18x8 32 := (broadcastInDim S18x8 ![0, 1] (by decide)) (v17 cnt)
/-- The host program's buffer `v62`. -/
def v62 (cnt : IVec S8 32) : IVec S18x8 32 := (subi) (v21 cnt) (v61 cnt)
/-- The host program's buffer `c_17`. -/
def c_17 (cnt : IVec S8 32) : IVec S_ 32 := (constantI S_ 32 256#32)
/-- The host program's buffer `call5_v0`. -/
def call5_v0 (cnt : IVec S8 32) : IVec S_ 32 := (c_17 cnt)
/-- The host program's buffer `call5_v1`. -/
def call5_v1 (cnt : IVec S8 32) : IVec S18x8 32 := (broadcastInDim S18x8 ![] (by decide)) (call5_v0 cnt)
/-- The host program's buffer `call5_v2`. -/
def call5_v2 (cnt : IVec S8 32) : IVec S18x8 32 := Host.divsi (v62 cnt) (call5_v1 cnt)
/-- The host program's buffer `call5_v3`. -/
def call5_v3 (cnt : IVec S8 32) : IVec S18x8 32 := signi (v62 cnt)
/-- The host program's buffer `call5_v4`. -/
def call5_v4 (cnt : IVec S8 32) : IVec S_ 32 := signi (call5_v0 cnt)
/-- The host program's buffer `call5_v5`. -/
def call5_v5 (cnt : IVec S8 32) : IVec S18x8 32 := (broadcastInDim S18x8 ![] (by decide)) (call5_v4 cnt)
/-- The host program's buffer `call5_v6`. -/
def call5_v6 (cnt : IVec S8 32) : IVec S18x8 1 := (cmpi .ne) (call5_v3 cnt) (call5_v5 cnt)
/-- The host program's buffer `call5_v7`. -/
def call5_v7 (cnt : IVec S8 32) : IVec S18x8 32 := (broadcastInDim S18x8 ![] (by decide)) (call5_v0 cnt)
/-- The host program's buffer `call5_v8`. -/
def call5_v8 (cnt : IVec S8 32) : IVec S18x8 32 := Host.remsi (v62 cnt) (call5_v7 cnt)
/-- The host program's buffer `call5_c`. -/
def call5_c (cnt : IVec S8 32) : IVec S_ 32 := (constantI S_ 32 0#32)
/-- The host program's buffer `call5_v9`. -/
def call5_v9 (cnt : IVec S8 32) : IVec S18x8 32 := (broadcastInDim S18x8 ![] (by decide)) (call5_c cnt)
/-- The host program's buffer `call5_v10`. -/
def call5_v10 (cnt : IVec S8 32) : IVec S18x8 1 := (cmpi .ne) (call5_v8 cnt) (call5_v9 cnt)
/-- The host program's buffer `call5_v11`. -/
def call5_v11 (cnt : IVec S8 32) : IVec S18x8 1 := andi (call5_v6 cnt) (call5_v10 cnt)
/-- The host program's buffer `call5_c_0`. -/
def call5_c_0 (cnt : IVec S8 32) : IVec S_ 32 := (constantI S_ 32 1#32)
/-- The host program's buffer `call5_v12`. -/
def call5_v12 (cnt : IVec S8 32) : IVec S18x8 32 := (broadcastInDim S18x8 ![] (by decide)) (call5_c_0 cnt)
/-- The host program's buffer `call5_v13`. -/
def call5_v13 (cnt : IVec S8 32) : IVec S18x8 32 := subi (call5_v2 cnt) (call5_v12 cnt)
/-- The host program's buffer `v63`. -/
def v63 (cnt : IVec S8 32) : IVec S18x8 32 := select (call5_v11 cnt) (call5_v13 cnt) (call5_v2 cnt)
/-- The host program's buffer `c_18`. -/
def c_18 (cnt : IVec S8 32) : IVec S_ 32 := (constantI S_ 32 0#32)
/-- The host program's buffer `v64`. -/
def v64 (cnt : IVec S8 32) : IVec S26 32 := (broadcastInDim S26 ![] (by decide)) (c_18 cnt)
/-- The host program's buffer `v65`. -/
def v65 (cnt : IVec S8 32) : IVec S144 32 := shapeCast S144 (v63 cnt) (by decide)
/-- The host program's buffer `c_19`. -/
def c_19 (cnt : IVec S8 32) : IVec S_ 32 := (constantI S_ 32 0#32)
/-- The host program's buffer `v66`. -/
def v66 (cnt : IVec S8 32) : IVec S144 32 := (broadcastInDim S144 ![] (by decide)) (c_19 cnt)
/-- The host program's buffer `v67`. -/
def v67 (cnt : IVec S8 32) : IVec S144 1 := (cmpi .slt) (v36 cnt) (v66 cnt)
/-- The host program's buffer `c_20`. -/
def c_20 (cnt : IVec S8 32) : IVec S_ 32 := (constantI S_ 32 26#32)
/-- The host program's buffer `v68`. -/
def v68 (cnt : IVec S8 32) : IVec S144 32 := (broadcastInDim S144 ![] (by decide)) (c_20 cnt)
/-- The host program's buffer `v69`. -/
def v69 (cnt : IVec S8 32) : IVec S144 32 := (addi) (v36 cnt) (v68 cnt)
/-- The host program's buffer `v70`. -/
def v70 (cnt : IVec S8 32) : IVec S144 32 := (select) (v67 cnt) (v69 cnt) (v36 cnt)
/-- The host program's buffer `v71`. -/
def v71 (cnt : IVec S8 32) : IVec S144x1 32 := (broadcastInDim S144x1 ![0] (by decide)) (v70 cnt)
/-- The host program's buffer `v72`. -/
def v72 (cnt : IVec S8 32) : IVec S26 32 := Host.scatter scD (fun _ b => b) (v64 cnt) (v71 cnt) (v65 cnt)
/-- The host program's buffer `v73`. -/
def v73 (cnt : IVec S8 32) : IVec S18x8 32 := (broadcastInDim S18x8 ![0, 1] (by decide)) (v17 cnt)
/-- The host program's buffer `v74`. -/
def v74 (cnt : IVec S8 32) : IVec S18x8 32 := (subi) (v27 cnt) (v73 cnt)
/-- The host program's buffer `c_21`. -/
def c_21 (cnt : IVec S8 32) : IVec S_ 32 := (constantI S_ 32 256#32)
/-- The host program's buffer `call6_v0`. -/
def call6_v0 (cnt : IVec S8 32) : IVec S_ 32 := (c_21 cnt)
/-- The host program's buffer `call6_v1`. -/
def call6_v1 (cnt : IVec S8 32) : IVec S18x8 32 := (broadcastInDim S18x8 ![] (by decide)) (call6_v0 cnt)
/-- The host program's buffer `call6_v2`. -/
def call6_v2 (cnt : IVec S8 32) : IVec S18x8 32 := Host.divsi (v74 cnt) (call6_v1 cnt)
/-- The host program's buffer `call6_v3`. -/
def call6_v3 (cnt : IVec S8 32) : IVec S18x8 32 := signi (v74 cnt)
/-- The host program's buffer `call6_v4`. -/
def call6_v4 (cnt : IVec S8 32) : IVec S_ 32 := signi (call6_v0 cnt)
/-- The host program's buffer `call6_v5`. -/
def call6_v5 (cnt : IVec S8 32) : IVec S18x8 32 := (broadcastInDim S18x8 ![] (by decide)) (call6_v4 cnt)
/-- The host program's buffer `call6_v6`. -/
def call6_v6 (cnt : IVec S8 32) : IVec S18x8 1 := (cmpi .ne) (call6_v3 cnt) (call6_v5 cnt)
/-- The host program's buffer `call6_v7`. -/
def call6_v7 (cnt : IVec S8 32) : IVec S18x8 32 := (broadcastInDim S18x8 ![] (by decide)) (call6_v0 cnt)
/-- The host program's buffer `call6_v8`. -/
def call6_v8 (cnt : IVec S8 32) : IVec S18x8 32 := Host.remsi (v74 cnt) (call6_v7 cnt)
/-- The host program's buffer `call6_c`. -/
def call6_c (cnt : IVec S8 32) : IVec S_ 32 := (constantI S_ 32 0#32)
/-- The host program's buffer `call6_v9`. -/
def call6_v9 (cnt : IVec S8 32) : IVec S18x8 32 := (broadcastInDim S18x8 ![] (by decide)) (call6_c cnt)
/-- The host program's buffer `call6_v10`. -/
def call6_v10 (cnt : IVec S8 32) : IVec S18x8 1 := (cmpi .ne) (call6_v8 cnt) (call6_v9 cnt)
/-- The host program's buffer `call6_v11`. -/
def call6_v11 (cnt : IVec S8 32) : IVec S18x8 1 := andi (call6_v6 cnt) (call6_v10 cnt)
/-- The host program's buffer `call6_c_0`. -/
def call6_c_0 (cnt : IVec S8 32) : IVec S_ 32 := (constantI S_ 32 1#32)
/-- The host program's buffer `call6_v12`. -/
def call6_v12 (cnt : IVec S8 32) : IVec S18x8 32 := (broadcastInDim S18x8 ![] (by decide)) (call6_c_0 cnt)
/-- The host program's buffer `call6_v13`. -/
def call6_v13 (cnt : IVec S8 32) : IVec S18x8 32 := subi (call6_v2 cnt) (call6_v12 cnt)
/-- The host program's buffer `v75`. -/
def v75 (cnt : IVec S8 32) : IVec S18x8 32 := select (call6_v11 cnt) (call6_v13 cnt) (call6_v2 cnt)
/-- The host program's buffer `c_22`. -/
def c_22 (cnt : IVec S8 32) : IVec S_ 32 := (constantI S_ 32 0#32)
/-- The host program's buffer `v76`. -/
def v76 (cnt : IVec S8 32) : IVec S26 32 := (broadcastInDim S26 ![] (by decide)) (c_22 cnt)
/-- The host program's buffer `v77`. -/
def v77 (cnt : IVec S8 32) : IVec S144 32 := shapeCast S144 (v75 cnt) (by decide)
/-- The host program's buffer `c_23`. -/
def c_23 (cnt : IVec S8 32) : IVec S_ 32 := (constantI S_ 32 0#32)
/-- The host program's buffer `v78`. -/
def v78 (cnt : IVec S8 32) : IVec S144 32 := (broadcastInDim S144 ![] (by decide)) (c_23 cnt)
/-- The host program's buffer `v79`. -/
def v79 (cnt : IVec S8 32) : IVec S144 1 := (cmpi .slt) (v36 cnt) (v78 cnt)
/-- The host program's buffer `c_24`. -/
def c_24 (cnt : IVec S8 32) : IVec S_ 32 := (constantI S_ 32 26#32)
/-- The host program's buffer `v80`. -/
def v80 (cnt : IVec S8 32) : IVec S144 32 := (broadcastInDim S144 ![] (by decide)) (c_24 cnt)
/-- The host program's buffer `v81`. -/
def v81 (cnt : IVec S8 32) : IVec S144 32 := (addi) (v36 cnt) (v80 cnt)
/-- The host program's buffer `v82`. -/
def v82 (cnt : IVec S8 32) : IVec S144 32 := (select) (v79 cnt) (v81 cnt) (v36 cnt)
/-- The host program's buffer `v83`. -/
def v83 (cnt : IVec S8 32) : IVec S144x1 32 := (broadcastInDim S144x1 ![0] (by decide)) (v82 cnt)
/-- The host program's buffer `v84`. -/
def v84 (cnt : IVec S8 32) : IVec S26 32 := Host.scatter scD (fun _ b => b) (v76 cnt) (v83 cnt) (v77 cnt)
/-- The host program's buffer `v85`. -/
def v85 (cnt : IVec S8 32) : IVec S18x8 32 := (broadcastInDim S18x8 ![0, 1] (by decide)) (v17 cnt)
/-- The host program's buffer `v86`. -/
def v86 (cnt : IVec S8 32) : IVec S18x8 1 := (cmpi .eq) (v21 cnt) (v85 cnt)
/-- The host program's buffer `c_25`. -/
def c_25 (cnt : IVec S8 32) : IVec S_ 32 := (constantI S_ 32 0#32)
/-- The host program's buffer `v87`. -/
def v87 (cnt : IVec S8 32) : IVec S26 32 := (broadcastInDim S26 ![] (by decide)) (c_25 cnt)
/-- The host program's buffer `v88`. -/
def v88 (cnt : IVec S8 32) : IVec S144 1 := shapeCast S144 (v86 cnt) (by decide)
/-- The host program's buffer `v89`. -/
def v89 (cnt : IVec S8 32) : IVec S144 32 := extui 32 (v88 cnt) (by decide)
/-- The host program's buffer `c_26`. -/
def c_26 (cnt : IVec S8 32) : IVec S_ 32 := (constantI S_ 32 0#32)
/-- The host program's buffer `v90`. -/
def v90 (cnt : IVec S8 32) : IVec S144 32 := (broadcastInDim S144 ![] (by decide)) (c_26 cnt)
/-- The host program's buffer `v91`. -/
def v91 (cnt : IVec S8 32) : IVec S144 1 := (cmpi .slt) (v36 cnt) (v90 cnt)
/-- The host program's buffer `c_27`. -/
def c_27 (cnt : IVec S8 32) : IVec S_ 32 := (constantI S_ 32 26#32)
/-- The host program's buffer `v92`. -/
def v92 (cnt : IVec S8 32) : IVec S144 32 := (broadcastInDim S144 ![] (by decide)) (c_27 cnt)
/-- The host program's buffer `v93`. -/
def v93 (cnt : IVec S8 32) : IVec S144 32 := (addi) (v36 cnt) (v92 cnt)
/-- The host program's buffer `v94`. -/
def v94 (cnt : IVec S8 32) : IVec S144 32 := (select) (v91 cnt) (v93 cnt) (v36 cnt)
/-- The host program's buffer `v95`. -/
def v95 (cnt : IVec S8 32) : IVec S144x1 32 := (broadcastInDim S144x1 ![0] (by decide)) (v94 cnt)
/-- The host program's buffer `v96`. -/
def v96 (cnt : IVec S8 32) : IVec S26 32 := Host.scatter scD (fun _ b => b) (v87 cnt) (v95 cnt) (v89 cnt)
/-- The host program's buffer `v97`. -/
def v97 (cnt : IVec S8 32) : IVec S26 32 := (iotaInDim S26 32 0)
/-- The host program's buffer `v98`. -/
def v98 (cnt : IVec S8 32) : IVec S26 32 := (broadcastInDim S26 ![] (by decide)) (v31 cnt)
/-- The host program's buffer `v99`. -/
def v99 (cnt : IVec S8 32) : IVec S26 1 := (cmpi .slt) (v97 cnt) (v98 cnt)
/-- The host program's buffer `v100`. -/
def v100 (cnt : IVec S8 32) : IVec S26 32 := (broadcastInDim S26 ![] (by decide)) (v31 cnt)
/-- The host program's buffer `v101`. -/
def v101 (cnt : IVec S8 32) : IVec S26 32 := (subi) (v97 cnt) (v100 cnt)
/-- The host program's buffer `v102`. -/
def v102 (cnt : IVec S8 32) : IVec S26 32 := (broadcastInDim S26 ![] (by decide)) (v13 cnt)
/-- The host program's buffer `v103`. -/
def v103 (cnt : IVec S8 32) : IVec S26 32 := (addi) (v102 cnt) (v101 cnt)
/-- The host program's buffer `c_28`. -/
def c_28 (cnt : IVec S8 32) : IVec S_ 32 := (constantI S_ 32 1#32)
/-- The host program's buffer `v104`. -/
def v104 (cnt : IVec S8 32) : IVec S_ 32 := (subi) (v31 cnt) (c_28 cnt)
/-- The host program's buffer `c_29`. -/
def c_29 (cnt : IVec S8 32) : IVec S_ 32 := (constantI S_ 32 17#32)
/-- The host program's buffer `v105`. -/
def v105 (cnt : IVec S8 32) : IVec S26 32 := (broadcastInDim S26 ![] (by decide)) (c_29 cnt)
/-- The host program's buffer `v106`. -/
def v106 (cnt : IVec S8 32) : IVec S26 32 := (minsi) (v103 cnt) (v105 cnt)
/-- The host program's buffer `v107`. -/
def v107 (cnt : IVec S8 32) : IVec S26 32 := select (v99 cnt) (v48 cnt) (v106 cnt)
/-- The host program's buffer `c_30`. -/
def c_30 (cnt : IVec S8 32) : IVec S_ 32 := (constantI S_ 32 0#32)
/-- The host program's buffer `v108`. -/
def v108 (cnt : IVec S8 32) : IVec S_ 1 := (cmpi .slt) (v104 cnt) (c_30 cnt)
/-- The host program's buffer `c_31`. -/
def c_31 (cnt : IVec S8 32) : IVec S_ 32 := (constantI S_ 32 26#32)
/-- The host program's buffer `v109`. -/
def v109 (cnt : IVec S8 32) : IVec S_ 32 := (addi) (v104 cnt) (c_31 cnt)
/-- The host program's buffer `v110`. -/
def v110 (cnt : IVec S8 32) : IVec S_ 32 := (select) (v108 cnt) (v109 cnt) (v104 cnt)
/-- The host program's buffer `v111`. -/
def v111 (cnt : IVec S8 32) : IVec S1 32 := Host.dynamicSlice S1 (v48 cnt) (fun _ => (v110 cnt (Shape.Idx.first (s := S_) (by decide))).toInt) (by decide)
/-- The host program's buffer `v112`. -/
def v112 (cnt : IVec S8 32) : IVec S_ 32 := shapeCast S_ (v111 cnt) (by decide)
/-- The host program's buffer `call8_v0`. -/
def call8_v0 (cnt : IVec S8 32) : IVec S26 32 := (broadcastInDim S26 ![] (by decide)) (v112 cnt)
/-- The host program's buffer `v113`. -/
def v113 (cnt : IVec S8 32) : IVec S26 32 := select (v99 cnt) (v48 cnt) (call8_v0 cnt)
/-- The host program's buffer `c_32`. -/
def c_32 (cnt : IVec S8 32) : IVec S_ 32 := (constantI S_ 32 0#32)
/-- The host program's buffer `v114`. -/
def v114 (cnt : IVec S8 32) : IVec S_ 1 := (cmpi .slt) (v104 cnt) (c_32 cnt)
/-- The host program's buffer `c_33`. -/
def c_33 (cnt : IVec S8 32) : IVec S_ 32 := (constantI S_ 32 26#32)
/-- The host program's buffer `v115`. -/
def v115 (cnt : IVec S8 32) : IVec S_ 32 := (addi) (v104 cnt) (c_33 cnt)
/-- The host program's buffer `v116`. -/
def v116 (cnt : IVec S8 32) : IVec S_ 32 := (select) (v114 cnt) (v115 cnt) (v104 cnt)
/-- The host program's buffer `v117`. -/
def v117 (cnt : IVec S8 32) : IVec S1 32 := Host.dynamicSlice S1 (v60 cnt) (fun _ => (v116 cnt (Shape.Idx.first (s := S_) (by decide))).toInt) (by decide)
/-- The host program's buffer `v118`. -/
def v118 (cnt : IVec S8 32) : IVec S_ 32 := shapeCast S_ (v117 cnt) (by decide)
/-- The host program's buffer `call9_v0`. -/
def call9_v0 (cnt : IVec S8 32) : IVec S26 32 := (broadcastInDim S26 ![] (by decide)) (v118 cnt)
/-- The host program's buffer `v119`. -/
def v119 (cnt : IVec S8 32) : IVec S26 32 := select (v99 cnt) (v60 cnt) (call9_v0 cnt)
/-- The host program's buffer `c_34`. -/
def c_34 (cnt : IVec S8 32) : IVec S_ 32 := (constantI S_ 32 18#32)
/-- The host program's buffer `v120`. -/
def v120 (cnt : IVec S8 32) : IVec S26 32 := (broadcastInDim S26 ![] (by decide)) (c_34 cnt)
/-- The host program's buffer `v121`. -/
def v121 (cnt : IVec S8 32) : IVec S26 1 := (cmpi .slt) (v103 cnt) (v120 cnt)
/-- The host program's buffer `v122`. -/
def v122 (cnt : IVec S8 32) : IVec S26 32 := extui 32 (v121 cnt) (by decide)
/-- The host program's buffer `v123`. -/
def v123 (cnt : IVec S8 32) : IVec S26 32 := select (v99 cnt) (v96 cnt) (v122 cnt)
/-- The host program's buffer `v124`. -/
def v124 (cnt : IVec S8 32) : IVec S26 32 := extui 32 (v99 cnt) (by decide)
/-- Seven arrays of 26 words laid end to end. -/
theorem cat7 : Shape.Concatenates [S26, S26, S26, S26, S26, S26, S26] S182 0 := by decide

/-- The host program's buffer `v125`. -/
def v125 (cnt : IVec S8 32) : IVec S182 32 := concatenate S182 0 [⟨S26, (v107 cnt)⟩, ⟨S26, (v113 cnt)⟩, ⟨S26, (v119 cnt)⟩, ⟨S26, (v72 cnt)⟩, ⟨S26, (v84 cnt)⟩, ⟨S26, (v123 cnt)⟩, ⟨S26, (v124 cnt)⟩] cat7

end Cert.Experts.Plan
-- ==== Proof.Experts.Order.lean ====
module

public import Mathlib.Order.Interval.Finset.Nat
public import Mathlib.Data.Nat.Count

@[expose] public section

namespace Cert.Experts.Order

/-! The order of the work items, as arithmetic. The sorted rows are cut into tiles of 256 rows, four tiles to a block of
1024 rows, eighteen blocks. Expert `e` owns the tiles from `a e` up to `a (e + 1)`. A work item is a pair of a block
`k / 8` and an expert `k % 8` that share a tile; the items are taken in the order of `k`. -/

section
variable (a : ℕ → ℕ)

/-- Block `k / 8` and expert `k % 8` share a tile. -/
def P (k : ℕ) : Prop := k < 144 ∧ max (a (k % 8)) (4 * (k / 8)) < min (a (k % 8 + 1)) (4 * (k / 8) + 4)

/-- Whether a block and an expert share a tile is decided. -/
instance : DecidablePred (P a) := fun k => by unfold P; infer_instance

/-- How many pairs share a tile. -/
def nl : ℕ := Nat.count (P a) 144

/-- How many blocks the experts' tiles reach into. -/
def used : ℕ := (a 8 + 3) / 4

/-- A count is reached one at a time: below the count of a prefix, every number is the count before some member. -/
theorem exists_count {p : ℕ → Prop} [DecidablePred p] (N w : ℕ) (h : w < Nat.count p N) :
    ∃ k, k < N ∧ p k ∧ Nat.count p k = w := by
  induction N with
  | zero => simp at h
  | succ N ih =>
    rw [Nat.count_succ] at h
    by_cases hN : p N
    · rw [if_pos hN] at h
      rcases Nat.lt_or_ge w (Nat.count p N) with h' | h'
      · obtain ⟨k, hk, r⟩ := ih h'
        exact ⟨k, by omega, r⟩
      · exact ⟨N, by omega, hN, by omega⟩
    · rw [if_neg hN] at h
      obtain ⟨k, hk, r⟩ := ih (by omega)
      exact ⟨k, by omega, r⟩

/-- A function that grows along the members is at least the count. -/
theorem count_le_of_growing {p : ℕ → Prop} [DecidablePred p] (f : ℕ → ℕ)
    (hf : ∀ i j, p i → p j → i < j → f i < f j) (k : ℕ) (hk : p k) : Nat.count p k ≤ f k := by
  induction k using Nat.strong_induction_on with
  | _ k ih =>
    rcases Nat.eq_zero_or_pos (Nat.count p k) with h | h
    · omega
    · obtain ⟨j, hj, pj, e⟩ := exists_count (p := p) k (Nat.count p k - 1) (by omega)
      have := ih j hj pj
      have := hf j k pj hk hj
      omega

/-- The pair that item `w` takes (any number past the last item). -/
noncomputable def K (w : ℕ) : ℕ := if h : w < nl a then (exists_count 144 w h).choose else 0

/-- A live item's pair shares a tile, and as many such pairs come before it as the item's number. -/
theorem K_spec {w : ℕ} (h : w < nl a) : P a (K a w) ∧ Nat.count (P a) (K a w) = w := by
  unfold K
  rw [dif_pos h]
  exact (exists_count 144 w h).choose_spec.2

/-- The output block of item `w`: its pair's block, then the blocks no expert reaches, then the last block again. -/
noncomputable def ob (w : ℕ) : ℕ := if w < nl a then K a w / 8 else min (used a + (w - nl a)) 17

/-- The expert of item `w`. -/
noncomputable def ex (w : ℕ) : ℕ := K a w % 8

/-- Item `w` starts its output block afresh. -/
def Z (w : ℕ) : Prop := if w < nl a then a (ex a w) ≤ 4 * ob a w else used a + (w - nl a) < 18

/-- Whether an item starts its block afresh is decided. -/
noncomputable instance : DecidablePred (Z a) := fun _ => Classical.propDecidable _

/-- Item `w` writes tile `s` of its block. -/
def Wr (w s : ℕ) : Prop := w < nl a ∧ max (a (ex a w)) (4 * ob a w) ≤ 4 * ob a w + s ∧ 4 * ob a w + s < min (a (ex a w + 1)) (4 * ob a w + 4)

/-- Whether an item writes a tile is decided. -/
noncomputable instance (w s : ℕ) : Decidable (Wr a w s) := Classical.propDecidable _

/-- Which expert's result tile `s` of the current output block holds after item `w`. -/
noncomputable def Dn : ℕ → ℕ → Option ℕ
  | 0, s => if Wr a 0 s then some (ex a 0) else none
  | w + 1, s => if Wr a (w + 1) s then some (ex a (w + 1)) else if Z a (w + 1) then none else Dn w s

/-- `o` is the expert that owns tile `g`, or nothing where no expert does. -/
def Owns (g : ℕ) (o : Option ℕ) : Prop :=
  (∀ e, o = some e → e < 8 ∧ a e ≤ g ∧ g < a (e + 1)) ∧ (o = none → a 8 ≤ g)

variable (hm : Monotone a) (h0 : a 0 = 0)
include hm h0

omit h0 in
/-- An expert whose tiles begin earlier is an earlier expert. -/
theorem lt_of_lt {i j : ℕ} (h : a i < a j) : i < j := by
  by_contra hc
  have := hm (Nat.le_of_not_lt hc)
  omega

/-- Every tile below the total belongs to an expert. -/
theorem exists_owner (g : ℕ) (h : g < a 8) : ∃ e, e < 8 ∧ a e ≤ g ∧ g < a (e + 1) := by
  have : ∀ n, g < a n → ∃ e, e < n ∧ a e ≤ g ∧ g < a (e + 1) := by
    intro n
    induction n with
    | zero => omega
    | succ n ih =>
      intro hn
      rcases Nat.lt_or_ge g (a n) with h' | h'
      · obtain ⟨e, he, r⟩ := ih h'
        exact ⟨e, by omega, r⟩
      · exact ⟨n, by omega, h', hn⟩
  exact this 8 h

/-- The pair of a tile's block and its owner. -/
theorem exists_pair (g : ℕ) (h : g < a 8) (hg : g < 72) :
    ∃ e, e < 8 ∧ a e ≤ g ∧ g < a (e + 1) ∧ P a (8 * (g / 4) + e) := by
  obtain ⟨e, he, h1, h2⟩ := exists_owner a hm h0 g h
  refine ⟨e, he, h1, h2, by omega, ?_⟩
  have e1 : (8 * (g / 4) + e) % 8 = e := by omega
  have e2 : (8 * (g / 4) + e) / 8 = g / 4 := by omega
  rw [e1, e2]
  omega

omit h0 in
/-- Along the pairs, block plus expert grows. -/
theorem growing (i j : ℕ) (hi : P a i) (hj : P a j) (h : i < j) : i / 8 + i % 8 < j / 8 + j % 8 := by
  obtain ⟨-, hi⟩ := hi
  obtain ⟨-, hj⟩ := hj
  rcases Nat.lt_or_ge (i / 8) (j / 8) with hb | hb
  · have : i % 8 < j % 8 + 1 := lt_of_lt a hm (by omega)
    omega
  · omega

/-- No pair lies strictly between those of two items in a row. -/
theorem no_between {w k : ℕ} (hw : w + 1 < nl a) (h1 : K a w < k) (h2 : k < K a (w + 1)) : ¬ P a k := by
  intro hp
  have s1 := K_spec a (w := w) (by omega)
  have s2 := K_spec a hw
  have := Nat.count_strict_mono s1.1 h1
  have := Nat.count_strict_mono hp h2
  omega

/-- The next live item's pair is a later pair. -/
theorem K_lt {w : ℕ} (hw : w + 1 < nl a) : K a w < K a (w + 1) := by
  have s1 := K_spec a (w := w) (by omega)
  have s2 := K_spec a hw
  by_contra hc
  have := Nat.count_monotone (P a) (Nat.le_of_not_lt hc)
  omega

/-- No pair comes before the first item's. -/
theorem no_before {k : ℕ} (hw : 0 < nl a) (h : k < K a 0) : ¬ P a k := by
  intro hp
  have s := K_spec a hw
  have := Nat.count_strict_mono hp h
  omega

/-- No pair comes after the last item's. -/
theorem no_after {w k : ℕ} (hw : w + 1 = nl a) (h : K a w < k) : ¬ P a k := by
  intro hp
  have s := K_spec a (w := w) (by omega)
  have := Nat.count_strict_mono s.1 h
  have := Nat.count_strict_mono hp hp.1
  unfold nl at hw
  omega

/-- What a live item's pair says. -/
theorem live_spec {w : ℕ} (h : w < nl a) : ob a w < 18 ∧ ex a w < 8 ∧ K a w = 8 * ob a w + ex a w ∧
    max (a (ex a w)) (4 * ob a w) < min (a (ex a w + 1)) (4 * ob a w + 4) := by
  have s := (K_spec a h).1
  have eo : ob a w = K a w / 8 := if_pos h
  have ee : ex a w = K a w % 8 := rfl
  have := s.1
  rw [eo, ee]
  exact ⟨by omega, by omega, by omega, s.2⟩

/-- No expert's tiles begin past the last tile in use. -/
theorem a_le {e : ℕ} (h : e ≤ 8) : a e ≤ a 8 := hm h

/-- A live item starts its block afresh when its expert begins at or before the block's first tile. -/
theorem Z_live {w : ℕ} (h : w < nl a) : Z a w ↔ a (ex a w) ≤ 4 * ob a w := by unfold Z; rw [if_pos h]
/-- An item past the live ones starts a block afresh when there is a block left for it. -/
theorem Z_tail {w : ℕ} (h : nl a ≤ w) : Z a w ↔ used a + (w - nl a) < 18 := by unfold Z; rw [if_neg (by omega)]
/-- The block of an item past the live ones. -/
theorem ob_tail {w : ℕ} (h : nl a ≤ w) : ob a w = min (used a + (w - nl a)) 17 := by unfold ob; rw [if_neg (by omega)]

/-- Two live items in a row: the same block and tiles that follow on, or the next block, started afresh. -/
theorem live_step {w : ℕ} (hw : w + 1 < nl a) :
    (ob a (w + 1) = ob a w ∧ ¬ Z a (w + 1) ∧ a (ex a (w + 1)) = a (ex a w + 1)) ∨
    (ob a (w + 1) = ob a w + 1 ∧ Z a (w + 1)) := by
  obtain ⟨b1, e1, k1, v1⟩ := live_spec a hm h0 (w := w) (by omega)
  obtain ⟨b2, e2, k2, v2⟩ := live_spec a hm h0 hw
  have hK := K_lt a hm h0 hw
  have nb : ∀ k, K a w < k → k < K a (w + 1) → ¬ P a k := fun k => no_between a hm h0 hw
  rw [Z_live a hm h0 hw]
  have hA : a (ex a (w + 1) + 1) ≤ a 8 := a_le a hm h0 (by omega)
  rcases Nat.lt_trichotomy (ob a (w + 1)) (ob a w) with hb | hb | hb
  · omega
  · left
    have hlt : ex a w < ex a (w + 1) := by omega
    have m1 : a (ex a w + 1) ≤ a (ex a (w + 1)) := hm (by omega)
    refine ⟨hb, by omega, ?_⟩
    by_contra hc
    obtain ⟨e, he, h1, h2, hp⟩ := exists_pair a hm h0 (a (ex a w + 1)) (by omega) (by omega)
    have : ex a w + 1 < e + 1 := lt_of_lt a hm (by omega)
    have : e < ex a (w + 1) := lt_of_lt a hm (by omega)
    exact nb _ (by omega) (by omega) hp
  · right
    have hb' : ob a (w + 1) = ob a w + 1 := by
      by_contra hc
      obtain ⟨e, he, h1, h2, hp⟩ := exists_pair a hm h0 (4 * (ob a w + 1)) (by omega) (by omega)
      exact nb _ (by omega) (by omega) hp
    refine ⟨hb', ?_⟩
    by_contra hc
    obtain ⟨e, he, h1, h2, hp⟩ := exists_pair a hm h0 (4 * ob a (w + 1)) (by omega) (by omega)
    have : e < ex a (w + 1) := lt_of_lt a hm (by omega)
    exact nb _ (by omega) (by omega) hp

/-- The first item, if live, starts block 0 afresh. -/
theorem live_zero (hw : 0 < nl a) : ob a 0 = 0 ∧ Z a 0 := by
  obtain ⟨b1, e1, k1, v1⟩ := live_spec a hm h0 hw
  have nb : ∀ k, k < K a 0 → ¬ P a k := fun k => no_before a hm h0 hw
  have hA : a (ex a 0 + 1) ≤ a 8 := a_le a hm h0 (by omega)
  rw [Z_live a hm h0 hw]
  have hb : ob a 0 = 0 := by
    by_contra hc
    obtain ⟨e, he, h1, h2, hp⟩ := exists_pair a hm h0 0 (by omega) (by omega)
    exact nb _ (by omega) hp
  refine ⟨hb, ?_⟩
  by_contra hc
  obtain ⟨e, he, h1, h2, hp⟩ := exists_pair a hm h0 0 (by omega) (by omega)
  have : e < ex a 0 := lt_of_lt a hm (by omega)
  exact nb _ (by omega) hp

/-- The last live item is in the last block the experts reach. -/
theorem live_last {w : ℕ} (hw : w + 1 = nl a) : ob a w + 1 = min (used a) 18 := by
  obtain ⟨b1, e1, k1, v1⟩ := live_spec a hm h0 (w := w) (by omega)
  have hA : a (ex a w + 1) ≤ a 8 := a_le a hm h0 (by omega)
  have nb : ∀ k, K a w < k → ¬ P a k := fun k => no_after a hm h0 hw
  unfold used
  by_contra hc
  obtain ⟨e, he, h1, h2, hp⟩ := exists_pair a hm h0 (4 * (ob a w + 1)) (by omega) (by omega)
  exact nb _ (by omega) hp

/-- At the last live item of a block the tiles past its own belong to no expert. -/
theorem rest_free {w s : ℕ} (hw : w < nl a) (hs : s < 4)
    (hl : w + 1 = nl a ∨ (w + 1 < nl a ∧ ob a (w + 1) ≠ ob a w)) (hg : a (ex a w + 1) ≤ 4 * ob a w + s) :
    a 8 ≤ 4 * ob a w + s := by
  obtain ⟨b1, e1, k1, v1⟩ := live_spec a hm h0 hw
  by_contra hc
  obtain ⟨e, he, h1, h2, hp⟩ := exists_pair a hm h0 (4 * ob a w + s) (by omega) (by omega)
  have : ex a w + 1 < e + 1 := lt_of_lt a hm (by omega)
  rcases hl with hl | ⟨hl, hne⟩
  · exact no_after a hm h0 hl (by omega) hp
  · have := live_step a hm h0 hl
    obtain ⟨b2, e2, k2, v2⟩ := live_spec a hm h0 hl
    exact no_between a hm h0 hl (k := 8 * ((4 * ob a w + s) / 4) + e) (by omega) (by omega) hp

/-- There are at most seven more items than blocks reached. -/
theorem nl_le : nl a ≤ min (used a) 18 + 7 := by
  rcases Nat.eq_zero_or_pos (nl a) with h | h
  · omega
  · have hw : nl a - 1 + 1 = nl a := by omega
    have hl := live_last a hm h0 hw
    obtain ⟨b1, e1, k1, v1⟩ := live_spec a hm h0 (w := nl a - 1) (by omega)
    have s := K_spec a (w := nl a - 1) (by omega)
    have := count_le_of_growing (p := P a) (fun k => k / 8 + k % 8) (growing a hm) _ s.1
    have : nl a - 1 ≤ K a (nl a - 1) / 8 + K a (nl a - 1) % 8 := by have := s.2; omega
    omega

/-- Every block number is below eighteen. -/
theorem ob_lt (w : ℕ) : ob a w < 18 := by
  rcases Nat.lt_or_ge w (nl a) with h | h
  · exact (live_spec a hm h0 h).1
  · rw [ob_tail a hm h0 h]; omega

/-- The output block moves up by at most one, and a new block is started afresh. -/
theorem ob_step (w : ℕ) : ob a (w + 1) = ob a w ∨ (ob a (w + 1) = ob a w + 1 ∧ Z a (w + 1)) := by
  rcases Nat.lt_or_ge (w + 1) (nl a) with h | h
  · rcases live_step a hm h0 h with h | h
    · exact .inl h.1
    · exact .inr h
  · rw [Z_tail a hm h0 h, ob_tail a hm h0 h]
    rcases Nat.lt_or_ge w (nl a) with h' | h'
    · have := live_last a hm h0 (w := w) (by omega)
      omega
    · rw [ob_tail a hm h0 h']
      omega

/-- The first item starts block 0 afresh. -/
theorem ob_zero : ob a 0 = 0 ∧ Z a 0 := by
  rcases Nat.eq_zero_or_pos (nl a) with h | h
  · rw [Z_tail a hm h0 (by omega), ob_tail a hm h0 (by omega)]
    have : used a = 0 := by
      unfold used
      by_contra hc
      obtain ⟨e, he, h1, h2, hp⟩ := exists_pair a hm h0 0 (by omega) (by omega)
      have := Nat.count_strict_mono hp hp.1
      unfold nl at h
      omega
    omega
  · exact live_zero a hm h0 h

/-- The last of the 26 items is in the last block. -/
theorem ob_last : ob a 25 = 17 := by
  have h := nl_le a hm h0
  rw [ob_tail a hm h0 (by omega)]
  omega

/-- What the output block holds after each item. -/
theorem dn_inv (w s : ℕ) (hs : s < 4) :
    (w < nl a → if 4 * ob a w + s < a (ex a w + 1) then Owns a (4 * ob a w + s) (Dn a w s) else Dn a w s = none) ∧
    (nl a ≤ w → Owns a (4 * ob a w + s) (Dn a w s)) := by
  have fresh : ∀ w, w < nl a → Z a w → (if 4 * ob a w + s < a (ex a w + 1) then
      Owns a (4 * ob a w + s) (if Wr a w s then some (ex a w) else none) else (if Wr a w s then some (ex a w) else none) = none) := by
    intro w hw hz
    rw [Z_live a hm h0 hw] at hz
    obtain ⟨b1, e1, k1, v1⟩ := live_spec a hm h0 hw
    split
    · rename_i hg
      rw [if_pos ⟨hw, by omega, by omega⟩]
      exact ⟨fun e he => by cases he; exact ⟨e1, by omega, hg⟩, fun he => by cases he⟩
    · rename_i hg
      rw [if_neg (fun h => by obtain ⟨_, _, h⟩ := h; omega)]
  have tail : ∀ w, nl a ≤ w → Z a w → Owns a (4 * ob a w + s) none := by
    intro w hw hz
    rw [Z_tail a hm h0 hw] at hz
    rw [ob_tail a hm h0 hw]
    refine ⟨fun e he => (by cases he), fun _ => ?_⟩
    unfold used at *
    omega
  induction w with
  | zero =>
    refine ⟨fun hw => ?_, fun hw => ?_⟩
    · exact fresh 0 hw (ob_zero a hm h0).2
    · show Owns a _ (if Wr a 0 s then some (ex a 0) else none)
      rw [if_neg (fun h => by have := h.1; omega)]
      exact tail 0 hw (ob_zero a hm h0).2
  | succ w ih =>
    refine ⟨fun hw => ?_, fun hw => ?_⟩
    · unfold Dn
      by_cases hz : Z a (w + 1)
      · rw [if_pos hz]
        exact fresh (w + 1) hw hz
      · rw [if_neg hz]
        have hstep := live_step a hm h0 hw
        obtain ⟨hb, -, ha⟩ : ob a (w + 1) = ob a w ∧ ¬ Z a (w + 1) ∧ a (ex a (w + 1)) = a (ex a w + 1) := by tauto
        have ih := ih.1 (by omega)
        obtain ⟨b1, e1, k1, v1⟩ := live_spec a hm h0 hw
        rw [Z_live a hm h0 hw] at hz
        by_cases hwr : Wr a (w + 1) s
        · rw [if_pos hwr]
          obtain ⟨_, hw1, hw2⟩ := hwr
          rw [if_pos (by omega)]
          exact ⟨fun e he => by cases he; exact ⟨e1, by omega, by omega⟩, fun he => by cases he⟩
        · rw [if_neg hwr, hb]
          have hwr' : ¬ (max (a (ex a (w + 1))) (4 * ob a (w + 1)) ≤ 4 * ob a (w + 1) + s ∧
            4 * ob a (w + 1) + s < min (a (ex a (w + 1) + 1)) (4 * ob a (w + 1) + 4)) := fun h => hwr ⟨hw, h⟩
          split at ih
          · rw [if_pos (by omega)]; exact ih
          · rw [if_neg (by omega)]; exact ih
    · unfold Dn
      rw [if_neg (fun h => by have := h.1; omega)]
      by_cases hz : Z a (w + 1)
      · rw [if_pos hz]
        exact tail (w + 1) hw hz
      · rw [if_neg hz]
        rcases Nat.lt_or_ge w (nl a) with h' | h'
        · have hl := live_last a hm h0 (w := w) (by omega)
          have ih := ih.1 h'
          rw [Z_tail a hm h0 hw] at hz
          have hb : ob a (w + 1) = ob a w := by rw [ob_tail a hm h0 hw]; omega
          rw [hb]
          split at ih
          · exact ih
          · rw [ih]
            exact ⟨fun e he => (by cases he), fun _ => rest_free a hm h0 h' hs (.inl (by omega)) (by omega)⟩
        · have ih := ih.2 h'
          rw [Z_tail a hm h0 hw] at hz
          have hb : ob a (w + 1) = ob a w := by rw [ob_tail a hm h0 hw, ob_tail a hm h0 h']; omega
          rw [hb]
          exact ih

/-- A tile an item writes was not written since its block was started. -/
theorem dn_fresh (w s : ℕ) (hs : s < 4) (h : Wr a (w + 1) s) : Z a (w + 1) ∨ Dn a w s = none := by
  by_cases hz : Z a (w + 1)
  · exact .inl hz
  · right
    have hw := h.1
    have hstep := live_step a hm h0 hw
    obtain ⟨hb, -, ha⟩ : ob a (w + 1) = ob a w ∧ ¬ Z a (w + 1) ∧ a (ex a (w + 1)) = a (ex a w + 1) := by tauto
    have ih := (dn_inv a hm h0 w s hs).1 (by omega)
    obtain ⟨_, h1, h2⟩ := h
    rwa [if_neg (by omega)] at ih

/-- After the last item of a block every tile holds its owner's result. -/
theorem dn_final (w s : ℕ) (hs : s < 4) (h : ob a (w + 1) ≠ ob a w ∨ w = 25) : Owns a (4 * ob a w + s) (Dn a w s) := by
  have inv := dn_inv a hm h0 w s hs
  rcases Nat.lt_or_ge w (nl a) with hw | hw
  · have i := inv.1 hw
    split at i
    · exact i
    · rw [i]
      refine ⟨fun e he => (by cases he), fun _ => rest_free a hm h0 hw hs ?_ (by omega)⟩
      have := nl_le a hm h0
      rcases Nat.lt_or_ge (w + 1) (nl a) with h' | h'
      · exact .inr ⟨h', by omega⟩
      · exact .inl (by omega)
  · exact inv.2 hw

end

end Cert.Experts.Order
-- ==== Proof.Experts.Readings.lean ====
module

public import proofs.«01_k».proof.Proof.Experts.Plan
public import proofs.«01_k».proof.Proof.Experts.Order
public import Idealize.ShloMosaic.Lib.Routing.OpsSearch
public import Idealize.ShloMosaic.Lib.Routing.Model
public import Idealize.ShloMosaic.Lib.Pointwise

@[expose] public section

namespace Cert.Experts.Plan

open Idealize
open Idealize.ShloMosaic hiding ix0 ix1 ix2 ix3 eq_ix1 eq_ix2 eq_ix3
open Idealize.ShloMosaic.Routing Idealize.ShloMosaic.ValueIdx
open Cert.Experts.Order (P nl used K ob ex Z Wr Dn Owns)

/-! The plan's words as natural numbers: each buffer that matters, read at one entry, is the word of the number that the
order of the items gives. -/

/-- How many rows expert `e` takes. -/
def n (cnt : IVec S8 32) (e : ℕ) : ℕ := if h : e < 8 then (cnt (ix1 ⟨e, h⟩)).toNat else 0

/-- The tile of 256 rows at which expert `e`'s rows begin. -/
def A (cnt : IVec S8 32) (e : ℕ) : ℕ := ((List.range e).map fun i => (n cnt i + 255) / 256).sum

/-- Every expert takes at most 16384 rows. -/
def Small (cnt : IVec S8 32) : Prop := ∀ e : Fin 8, (cnt (ix1 e)).toNat ≤ 16384

variable {cnt : IVec S8 32} (hc : Small cnt)

/-- The first expert's tiles begin at tile 0. -/
theorem A_zero : A cnt 0 = 0 := rfl

/-- An expert's tiles begin where those of the one before end; each takes its rows rounded up to whole tiles. -/
theorem A_succ (e : ℕ) : A cnt (e + 1) = A cnt e + (n cnt e + 255) / 256 := by
  unfold A; rw [List.range_succ, List.map_append, List.sum_append]; simp

/-- The experts' tiles come in the experts' order. -/
theorem A_mono : Monotone (A cnt) := monotone_nat_of_le_succ fun e => by rw [A_succ]; omega

include hc in
/-- No expert takes more than 16384 rows. -/
theorem n_le (e : ℕ) : n cnt e ≤ 16384 := by
  unfold n; split
  · exact hc _
  · omega

include hc in
/-- A bound on where an expert's tiles begin. -/
theorem A_le (e : ℕ) : A cnt e ≤ 64 * e := by
  induction e with
  | zero => rw [A_zero]
  | succ e ih => rw [A_succ]; have := n_le hc e; omega

/-- The larger of two small numbers' words. -/
theorem maxsi_word {a b : ℕ} (ha : a < 2 ^ 31) (hb : b < 2 ^ 31) : IntOp.maxsi (BitVec.ofNat 32 a) (BitVec.ofNat 32 b) = BitVec.ofNat 32 (max a b) := by
  unfold IntOp.maxsi
  rw [slt_ofNat32 hb ha]
  rcases Nat.lt_or_ge b a with h | h
  · simp [h, Nat.max_eq_left h.le]
  · simp [Nat.not_lt.mpr h, Nat.max_eq_right h]

/-- The smaller of two small numbers' words. -/
theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  rcases Nat.lt_or_ge a b with h | h
  · simp [h, Nat.min_eq_left h.le]
  · simp [Nat.not_lt.mpr h, Nat.min_eq_right h]

/-- Selecting by a decided bit. -/
theorem select_bool {α : Type} (p : Prop) [Decidable p] (x y : α) : Scalar.select (BitVec.ofBool (decide p)) x y = if p then x else y := by
  by_cases h : p
  · simp only [h, decide_true, if_true]; rfl
  · simp only [h, decide_false, if_false]; rfl

/-- A count plus 255. -/
theorem v3_eq (e : Fin 8) : v3 cnt (ix1 e) = BitVec.ofNat 32 (n cnt e.val + 255) := by
  have h : cnt (ix1 e) = BitVec.ofNat 32 (n cnt e.val) := by unfold n; rw [dif_pos e.isLt, BitVec.ofNat_toNat, BitVec.setWidth_eq]
  show cnt (ix1 e) + 256#32 - 1#32 = _
  rw [h, BitVec.ofNat_add_ofNat, ofNat32_sub (by omega)]
  rfl

include hc in
/-- A count rounded up to a multiple of 256. -/
theorem v6_eq (e : Fin 8) : v6 cnt (ix1 e) = BitVec.ofNat 32 (256 * ((n cnt e.val + 255) / 256)) := by
  have h := pyDiv_ap (by decide) (v3 cnt) (c_1 cnt) (ix1 e) (b := 256) (v3_eq e) rfl (by have := n_le hc e.val; omega) (by omega) (by omega)
  have h' : v4 cnt (ix1 e) = BitVec.ofNat 32 ((n cnt e.val + 255) / 256) := h
  show v4 cnt (ix1 e) * 256#32 = _
  rw [h', BitVec.ofNat_mul_ofNat, Nat.mul_comm]

/-- The rounded counts add up to the tiles' rows. -/
theorem sum_mul (k : ℕ) : ((List.range k).map fun i => 256 * ((n cnt i + 255) / 256)).sum = 256 * A cnt k := by
  induction k with
  | zero => rfl
  | succ k ih => rw [List.range_succ, List.map_append, List.sum_append, ih, A_succ]; simp; ring

include hc in
/-- The row at which an expert's tiles end. -/
theorem v7_eq (e : Fin 8) : v7 cnt (ix1 e) = BitVec.ofNat 32 (256 * A cnt (e.val + 1)) :=
  (cumsum1 rfl (v6 cnt) (fun i => 256 * ((n cnt i + 255) / 256)) (v6_eq hc) _ rfl _ _ e).trans (by rw [sum_mul])

include hc in
/-- The row at which an expert's tiles begin. -/
theorem v8_eq (e : Fin 8) : v8 cnt (ix1 e) = BitVec.ofNat 32 (256 * A cnt e.val) := by
  show v7 cnt (ix1 e) - v6 cnt (ix1 e) = _
  rw [v7_eq hc, v6_eq hc, ofNat32_sub (by rw [A_succ]; omega), A_succ]
  congr 1; omega

include hc in
/-- The number of blocks in use. -/
theorem v13_eq (i : S_.Idx) : v13 cnt i = BitVec.ofNat 32 (used (A cnt)) := by
  rw [eq_ix0 i]
  have h10 : v10 cnt ix0 = BitVec.ofNat 32 (256 * A cnt 8) := by
    refine Eq.trans ?_ (v7_eq hc 7)
    unfold v10 v9
    simp only [pointwise]
    rfl
  have h12 : v12 cnt ix0 = BitVec.ofNat 32 (256 * A cnt 8 + 1023) := by
    show v10 cnt ix0 + 1024#32 - 1#32 = _
    rw [h10, BitVec.ofNat_add_ofNat, ofNat32_sub (by omega)]
    rfl
  have h := pyDiv0_ap (v12 cnt) (c_5 cnt) (b := 1024) h12 rfl (by have := A_le hc 8; omega) (by omega) (by omega)
  refine Eq.trans (show v13 cnt ix0 = _ from h) ?_
  unfold used; congr 1; omega

/-- The rows at which the experts' tiles begin, repeated for each block. -/
theorem v19_ap (β : Fin 18) (e : Fin 8) : v19 cnt (ix2 β e) = v8 cnt (ix1 e) := by
  unfold v19 v18; simp only [pointwise]; rfl

/-- The rows at which the experts' tiles end, repeated for each block. -/
theorem v25_ap (β : Fin 18) (e : Fin 8) : v25 cnt (ix2 β e) = v7 cnt (ix1 e) := by
  unfold v25 v22; simp only [pointwise]; rfl

/-- The first row of a block. -/
theorem v17_ap (β : Fin 18) (j : Fin 1) : v17 cnt (ix2 β j) = BitVec.ofNat 32 (1024 * β.val) := by
  have h : v17 cnt (ix2 β j) = v16 cnt (ix1 β) := by unfold v17; simp only [pointwise]; rfl
  rw [h, Nat.mul_comm, ← BitVec.ofNat_mul_ofNat]
  rfl

/-- A column repeated across the experts. -/
theorem col {α : Type} (x : S18x1.Idx → α) (h : S18x1.BroadcastsInDim S18x8 ![0, 1]) (β : Fin 18) (e : Fin 8) :
    broadcastInDim S18x8 ![0, 1] h x (ix2 β e) = x (ix2 β 0) := by
  simp only [pointwise]; rfl

include hc in
/-- The first row of an expert's tiles within a block. -/
theorem v21_eq (β : Fin 18) (e : Fin 8) : v21 cnt (ix2 β e) = BitVec.ofNat 32 (256 * max (A cnt e.val) (4 * β.val)) := by
  have h : v20 cnt (ix2 β e) = v17 cnt (ix2 β 0) := col _ _ _ _
  show IntOp.maxsi (v19 cnt (ix2 β e)) (v20 cnt (ix2 β e)) = _
  rw [h, v19_ap, v17_ap, v8_eq hc, maxsi_word (by have := A_le hc e.val; omega) (by omega)]
  congr 1; omega

include hc in
/-- The end of an expert's tiles within a block, as a row. -/
theorem v27_eq (β : Fin 18) (e : Fin 8) : v27 cnt (ix2 β e) = BitVec.ofNat 32 (256 * min (A cnt (e.val + 1)) (4 * β.val + 4)) := by
  have h : v26 cnt (ix2 β e) = v24 cnt (ix2 β 0) := col _ _ _ _
  have h' : v24 cnt (ix2 β 0) = v17 cnt (ix2 β 0) + 1024#32 := rfl
  show IntOp.minsi (v25 cnt (ix2 β e)) (v26 cnt (ix2 β e)) = _
  rw [h, h', v25_ap, v17_ap, v7_eq hc, BitVec.ofNat_add_ofNat, minsi_word (by have := A_le hc (e.val + 1); omega) (by omega)]
  congr 1; omega

include hc in
/-- Whether an expert has tiles in a block. -/
theorem v28_eq (β : Fin 18) (e : Fin 8) :
    v28 cnt (ix2 β e) = BitVec.ofBool (decide (max (A cnt e.val) (4 * β.val) < min (A cnt (e.val + 1)) (4 * β.val + 4))) := by
  show BitVec.ofBool ((v21 cnt (ix2 β e)).slt (v27 cnt (ix2 β e))) = _
  rw [v21_eq hc, v27_eq hc, slt_ofNat32 (by have := A_le hc e.val; omega) (by omega)]
  congr 2; simp only [eq_iff_iff]; omega

/-- A table of 18 by 8 read as one row of 144. -/
theorem flat {α : Type} (x : S18x8.Idx → α) (h : S18x8.ShapeCasts S144) (k : Fin 144) :
    shapeCast S144 x h (ix1 k) = x (ix2 ⟨k.val / 8, by omega⟩ ⟨k.val % 8, by omega⟩) := by
  simp only [pointwise]
  rfl

end Cert.Experts.Plan
-- ==== Proof.Experts.Items.lean ====
module

public import proofs.«01_k».proof.Proof.Experts.Readings
public import Idealize.ShloMosaic.Lib.DynamicIndex

@[expose] public section

namespace Cert.Experts.Plan

open Idealize
open Idealize.ShloMosaic hiding ix0 ix1 ix2 ix3 eq_ix1 eq_ix2 eq_ix3
open Idealize.ShloMosaic.Routing Idealize.ShloMosaic.ValueIdx
open Cert.Experts.Order (P nl used K ob ex Z Wr Dn Owns)

/-! The seven fields of each work item, as the numbers the order of the items gives. -/

variable {cnt : IVec S8 32} (hc : Small cnt)

/-- Counting is summing ones. -/
theorem count_eq_sum (p : ℕ → Prop) [DecidablePred p] (N : ℕ) :
    ((List.range N).map fun k => if p k then 1 else 0).sum = Nat.count p N := by
  induction N with
  | zero => rfl
  | succ N ih => rw [List.range_succ, List.map_append, List.sum_append, ih, Nat.count_succ]; simp

include hc in
/-- Which pairs of a block and an expert share a tile, in one row of 144. -/
theorem v29_eq (k : Fin 144) : v29 cnt (ix1 k) = BitVec.ofBool (decide (P (A cnt) k.val)) := by
  refine (flat (v28 cnt) _ k).trans ((v28_eq hc _ _).trans ?_)
  congr 2
  simp only [eq_iff_iff]
  exact ⟨fun h => ⟨k.isLt, h⟩, fun h => h.2⟩

include hc in
/-- The same as zeros and ones. -/
theorem v30_eq (k : Fin 144) : v30 cnt (ix1 k) = BitVec.ofNat 32 (if P (A cnt) k.val then 1 else 0) := by
  show (v29 cnt (ix1 k)).setWidth 32 = _
  rw [v29_eq hc, setWidth_ofBool]

include hc in
/-- The number of items. -/
theorem v31_eq (i : S_.Idx) : v31 cnt i = BitVec.ofNat 32 (nl (A cnt)) := by
  rw [eq_ix0 i]
  exact (reduce_sum (v30 cnt) (fun k => if P (A cnt) k then 1 else 0) (v30_eq hc) _ _).trans (by rw [count_eq_sum]; rfl)

include hc in
/-- How many items there are up to and with a pair. -/
theorem v33_eq (k : Fin 144) : v33 cnt (ix1 k) = BitVec.ofNat 32 (Nat.count (P (A cnt)) (k.val + 1)) :=
  (cumsum1 rfl (v32 cnt) (fun k => if P (A cnt) k then 1 else 0) (v30_eq hc) _ rfl _ _ k).trans (by rw [count_eq_sum])

include hc in
/-- The place a pair is packed to; 26, past the end, where it is no item. -/
theorem v36_eq (k : Fin 144) : v36 cnt (ix1 k) = BitVec.ofNat 32 (if P (A cnt) k.val then Nat.count (P (A cnt)) k.val else 26) := by
  show Scalar.select (v29 cnt (ix1 k)) (v33 cnt (ix1 k) - 1#32) 26#32 = _
  rw [v29_eq hc, v33_eq hc, select_bool]
  split
  · rename_i h
    rw [Nat.count_succ, if_pos h, ofNat32_sub (by omega)]
    rfl
  · rfl

/-- A count is at most how many are counted. -/
theorem count_lt (p : ℕ → Prop) [DecidablePred p] (k : ℕ) : Nat.count p k ≤ k := Nat.count_le p

include hc in
/-- The places, as the scatter reads them. -/
theorem v47_eq (k : Fin 144) (j : Fin 1) : v47 cnt (ix2 k j) = BitVec.ofNat 32 (if P (A cnt) k.val then Nat.count (P (A cnt)) k.val else 26) := by
  have h : v47 cnt (ix2 k j) = v46 cnt (ix1 k) := by unfold v47; simp only [pointwise]; rfl
  have h' : v46 cnt (ix1 k) = Scalar.select (IntOp.cmpi .slt (v36 cnt (ix1 k)) 0#32) (v45 cnt (ix1 k)) (v36 cnt (ix1 k)) := rfl
  rw [h, ← v36_eq hc, h']
  refine wrap_of_lt _ _ ?_
  rw [v36_eq hc, BitVec.toNat_ofNat]
  have := count_lt (P (A cnt)) k.val
  split <;> omega

/-- Update `k` lands in the entry its index word names. -/
theorem lands (idx : IVec S144x1 32) (k : Fin 144) (x : Fin 26) :
    scD.resultIdx? (ix1 k) idx = some (ix1 x) ↔ (idx (ix2 k 0)).toInt = (x.val : Int) := by
  rw [resultIdx?_ix1]
  have hw : scD.window (ix1 k) 0 = 0 := by
    unfold ScatterDims.window
    rw [dif_neg (by decide)]
  have hs : scD.start (ix1 k) idx 0 = (idx (ix2 k 0)).toInt := by
    unfold ScatterDims.start
    rw [dif_pos (by decide)]
    congr 2
    funext b
    apply Fin.ext
    match b with
    | ⟨0, _⟩ => rfl
    | ⟨1, _⟩ => rfl
  rw [hw, hs]
  simp

include hc in
/-- A pair lands on the place that counts the pairs before it, if it shares a tile. -/
theorem lands47 (k : Fin 144) (x : Fin 26) :
    scD.resultIdx? (ix1 k) (v47 cnt) = some (ix1 x) ↔ P (A cnt) k.val ∧ Nat.count (P (A cnt)) k.val = x.val := by
  have := count_lt (P (A cnt)) k.val
  rw [lands, v47_eq hc, StableHlo.Predicate.toInt_ofNat_small _ (by split <;> omega)]
  split
  · rename_i h; simp only [h, true_and]; omega
  · rename_i h; simp only [h, false_and, iff_false]; omega

include hc in
/-- A live item's entry is its pair's update. -/
theorem scattered (x0 : IVec S26 32) (upd : IVec S144 32) (w : Fin 26) (hw : w.val < nl (A cnt)) (v : BitVec 32)
    (hv : ∀ k : Fin 144, k.val = K (A cnt) w.val → upd (ix1 k) = v) :
    Host.scatter scD (fun _ b => b) x0 (v47 cnt) upd (ix1 w) = v := by
  have s := Order.K_spec (A cnt) hw
  refine scatter_set_hit scD x0 (v47 cnt) upd (ix1 w) v (fun k hk => ?_) (ix1 ⟨K (A cnt) w.val, s.1.1⟩) ((lands47 hc _ _).mpr s)
  rw [eq_ix1 k] at hk ⊢
  have h := (lands47 hc _ _).mp hk
  exact hv _ (Nat.count_injective h.1 s.1 (h.2.trans s.2.symm))

include hc in
/-- Every entry holds either the array's own word or some update. -/
theorem scattered_all (x0 : IVec S26 32) (upd : IVec S144 32) (Q : BitVec 32 → Prop) (h0 : ∀ i, Q (x0 i)) (hu : ∀ k : Fin 144, Q (upd (ix1 k)))
    (w : Fin 26) : Q (Host.scatter scD (fun _ b => b) x0 (v47 cnt) upd (ix1 w)) := by
  by_cases h : ∃ k : Fin 144, scD.resultIdx? (ix1 k) (v47 cnt) = some (ix1 w)
  · obtain ⟨k, hk⟩ := h
    rw [scatter_set_hit scD x0 (v47 cnt) upd (ix1 w) (upd (ix1 k)) (fun k' hk' => ?_) (ix1 k) hk]
    · exact hu _
    · rw [eq_ix1 k'] at hk' ⊢
      have h := (lands47 hc _ _).mp hk
      have h' := (lands47 hc _ _).mp hk'
      have : k' 0 = k := Fin.ext (Nat.count_injective h'.1 h.1 (h'.2.trans h.2.symm))
      rw [this]
      rfl
  · rw [scatter_set_miss]
    · exact h0 _
    · intro k hk
      rw [eq_ix1 k] at hk
      exact h ⟨_, hk⟩

/-! ### The five scattered arrays -/

/-- The block of a pair. -/
theorem v41_eq (k : Fin 144) : v41 cnt (ix1 k) = BitVec.ofNat 32 (k.val / 8) := by
  refine (flat (v39 cnt) _ k).trans ((col (v38 cnt) _ _ _).trans ?_)
  unfold v38; simp only [pointwise]; rfl

/-- The expert of a pair. -/
theorem v53_eq (k : Fin 144) : v53 cnt (ix1 k) = BitVec.ofNat 32 (k.val % 8) := by
  refine (flat (v51 cnt) _ k).trans ?_
  unfold v51 v50; simp only [pointwise]; rfl

include hc in
/-- The first tile of a pair, within its block. -/
theorem v65_eq (k : Fin 144) :
    v65 cnt (ix1 k) = BitVec.ofNat 32 (max (A cnt (k.val % 8)) (4 * (k.val / 8)) - 4 * (k.val / 8)) := by
  refine (flat (v63 cnt) _ k).trans ?_
  have h61 : v61 cnt (ix2 ⟨k.val / 8, by omega⟩ ⟨k.val % 8, by omega⟩) = BitVec.ofNat 32 (1024 * (k.val / 8)) :=
    (col (v17 cnt) _ _ _).trans (v17_ap _ _)
  have h62 : v62 cnt (ix2 ⟨k.val / 8, by omega⟩ ⟨k.val % 8, by omega⟩) =
      BitVec.ofNat 32 (256 * (max (A cnt (k.val % 8)) (4 * (k.val / 8)) - 4 * (k.val / 8))) := by
    show v21 cnt _ - v61 cnt _ = _
    rw [h61, v21_eq hc, ofNat32_sub (by dsimp only; omega)]
    congr 1; dsimp only; omega
  have h := pyDiv_ap (by decide) (v62 cnt) (c_17 cnt) _ (b := 256) h62 rfl (by have := A_le hc (k.val % 8); omega) (by omega) (by omega)
  refine Eq.trans (show v63 cnt _ = _ from h) ?_
  congr 1; omega

include hc in
/-- The end of a pair's tiles, within its block. -/
theorem v77_eq (k : Fin 144) (hk : P (A cnt) k.val) :
    v77 cnt (ix1 k) = BitVec.ofNat 32 (min (A cnt (k.val % 8 + 1)) (4 * (k.val / 8) + 4) - 4 * (k.val / 8)) := by
  refine (flat (v75 cnt) _ k).trans ?_
  have hk := hk.2
  have h73 : v73 cnt (ix2 ⟨k.val / 8, by omega⟩ ⟨k.val % 8, by omega⟩) = BitVec.ofNat 32 (1024 * (k.val / 8)) :=
    (col (v17 cnt) _ _ _).trans (v17_ap _ _)
  have h74 : v74 cnt (ix2 ⟨k.val / 8, by omega⟩ ⟨k.val % 8, by omega⟩) =
      BitVec.ofNat 32 (256 * (min (A cnt (k.val % 8 + 1)) (4 * (k.val / 8) + 4) - 4 * (k.val / 8))) := by
    show v27 cnt _ - v73 cnt _ = _
    rw [h73, v27_eq hc, ofNat32_sub (by dsimp only; omega)]
    congr 1; dsimp only; omega
  have h := pyDiv_ap (by decide) (v74 cnt) (c_21 cnt) _ (b := 256) h74 rfl (by omega) (by omega) (by omega)
  refine Eq.trans (show v75 cnt _ = _ from h) ?_
  congr 1; omega

include hc in
/-- Whether a pair's expert begins at or before its block's first tile. -/
theorem v89_eq (k : Fin 144) :
    v89 cnt (ix1 k) = BitVec.ofNat 32 (if A cnt (k.val % 8) ≤ 4 * (k.val / 8) then 1 else 0) := by
  have h : v88 cnt (ix1 k) = BitVec.ofBool (decide (A cnt (k.val % 8) ≤ 4 * (k.val / 8))) := by
    refine (flat (v86 cnt) _ k).trans ?_
    have h85 : v85 cnt (ix2 ⟨k.val / 8, by omega⟩ ⟨k.val % 8, by omega⟩) = BitVec.ofNat 32 (1024 * (k.val / 8)) :=
      (col (v17 cnt) _ _ _).trans (v17_ap _ _)
    show BitVec.ofBool (v21 cnt _ == v85 cnt _) = _
    rw [h85, v21_eq hc]
    have := A_le hc (k.val % 8)
    congr 1
    rw [Bool.eq_iff_iff, beq_iff_eq, decide_eq_true_iff]
    constructor
    · intro e
      have := congrArg BitVec.toNat e
      rw [BitVec.toNat_ofNat, BitVec.toNat_ofNat] at this
      dsimp only at this
      omega
    · intro e
      congr 1; dsimp only; omega
  show (v88 cnt (ix1 k)).setWidth 32 = _
  rw [h, setWidth_ofBool]

include hc in
/-- The block of a live item. -/
theorem v48_live (w : Fin 26) (hw : w.val < nl (A cnt)) : v48 cnt (ix1 w) = BitVec.ofNat 32 (ob (A cnt) w.val) :=
  scattered hc _ _ w hw _ fun k hk => by rw [v41_eq, hk, show ob (A cnt) w.val = _ from if_pos hw]

include hc in
/-- Every item's block is in range. -/
theorem v48_lt (w : Fin 26) : (v48 cnt (ix1 w)).toNat < 18 :=
  scattered_all hc _ _ (fun x => x.toNat < 18) (fun _ => by show (0#32).toNat < 18; decide)
    (fun k => by rw [v41_eq, BitVec.toNat_ofNat]; omega) w

include hc in
/-- The expert of a live item. -/
theorem v60_live (w : Fin 26) (hw : w.val < nl (A cnt)) : v60 cnt (ix1 w) = BitVec.ofNat 32 (ex (A cnt) w.val) :=
  scattered hc (v52 cnt) (v53 cnt) w hw _ fun k hk => by rw [v53_eq, hk]; rfl

include hc in
/-- Every item's expert is in range. -/
theorem v60_lt (w : Fin 26) : (v60 cnt (ix1 w)).toNat < 8 :=
  scattered_all hc (v52 cnt) (v53 cnt) (fun x => x.toNat < 8) (fun _ => by show (0#32).toNat < 8; decide)
    (fun k => by rw [v53_eq, BitVec.toNat_ofNat]; omega) w

include hc in
/-- The first tile of a live item. -/
theorem v72_live (w : Fin 26) (hw : w.val < nl (A cnt)) : v72 cnt (ix1 w) =
    BitVec.ofNat 32 (max (A cnt (ex (A cnt) w.val)) (4 * ob (A cnt) w.val) - 4 * ob (A cnt) w.val) :=
  scattered hc (v64 cnt) (v65 cnt) w hw _ fun k hk => by
    rw [v65_eq hc, hk, show ob (A cnt) w.val = _ from if_pos hw]; rfl

include hc in
/-- The end of a live item's tiles. -/
theorem v84_live (w : Fin 26) (hw : w.val < nl (A cnt)) : v84 cnt (ix1 w) =
    BitVec.ofNat 32 (min (A cnt (ex (A cnt) w.val + 1)) (4 * ob (A cnt) w.val + 4) - 4 * ob (A cnt) w.val) :=
  scattered hc (v76 cnt) (v77 cnt) w hw _ fun k hk => by
    rw [v77_eq hc k (hk ▸ (Order.K_spec (A cnt) hw).1), hk, show ob (A cnt) w.val = _ from if_pos hw]; rfl

include hc in
/-- Whether a live item's expert begins at or before its block's first tile. -/
theorem v96_live (w : Fin 26) (hw : w.val < nl (A cnt)) : v96 cnt (ix1 w) =
    BitVec.ofNat 32 (if A cnt (ex (A cnt) w.val) ≤ 4 * ob (A cnt) w.val then 1 else 0) :=
  scattered hc (v87 cnt) (v89 cnt) w hw _ fun k hk => by
    rw [v89_eq hc, hk, show ob (A cnt) w.val = _ from if_pos hw]; rfl

/-! ### The fields -/

include hc in
/-- There are fewer live items than items. -/
theorem nl_lt : nl (A cnt) < 26 := by
  have := Order.nl_le (A cnt) A_mono A_zero
  omega

include hc in
/-- Which items are live. -/
theorem v99_eq (w : Fin 26) : v99 cnt (ix1 w) = BitVec.ofBool (decide (w.val < nl (A cnt))) := by
  show BitVec.ofBool ((BitVec.ofNat 32 w.val).slt (v98 cnt (ix1 w))) = _
  have h : v98 cnt (ix1 w) = v31 cnt ix0 := bc0 _ _ _
  rw [h, v31_eq hc, slt_ofNat32 (by omega) (by have := nl_lt hc; omega)]

include hc in
/-- The block of an item past the live ones, before it is kept in range. -/
theorem v103_eq (w : Fin 26) (hw : nl (A cnt) ≤ w.val) : v103 cnt (ix1 w) = BitVec.ofNat 32 (used (A cnt) + (w.val - nl (A cnt))) := by
  have h : v102 cnt (ix1 w) = v13 cnt ix0 := bc0 _ _ _
  have h' : v100 cnt (ix1 w) = v31 cnt ix0 := bc0 _ _ _
  show v102 cnt (ix1 w) + (BitVec.ofNat 32 w.val - v100 cnt (ix1 w)) = _
  rw [h, h', v31_eq hc, v13_eq hc, ofNat32_sub hw, BitVec.ofNat_add_ofNat]

include hc in
/-- A bound on the blocks in use. -/
theorem used_le : used (A cnt) ≤ 200 := by
  unfold used; have := A_le hc 8; omega

include hc in
/-- The output block. -/
theorem f_ob (w : Fin 26) : v107 cnt (ix1 w) = BitVec.ofNat 32 (ob (A cnt) w.val) := by
  show Scalar.select (v99 cnt (ix1 w)) (v48 cnt (ix1 w)) (v106 cnt (ix1 w)) = _
  rw [v99_eq hc, select_bool]
  split
  · rename_i h; exact v48_live hc w h
  · rename_i h
    have := used_le hc
    show IntOp.minsi (v103 cnt (ix1 w)) 17#32 = _
    rw [v103_eq hc w (by omega), minsi_word (by omega) (by omega), Order.ob_tail (A cnt) A_mono A_zero (by omega)]

include hc in
/-- Every output block number is in range. -/
theorem f_ob_lt (w : Fin 26) : (v107 cnt (ix1 w)).toNat < 18 := by
  have := Order.ob_lt (A cnt) A_mono A_zero w.val
  rw [f_ob hc, BitVec.toNat_ofNat]; omega

/-- A one-word slice is one of the words. -/
theorem slice1 {α : Type} (x : S26.Idx → α) (st : Fin 1 → Int) (h : S26.Slices (fun _ => 0) S1) (j : S1.Idx) :
    ∃ w : Fin 26, Host.dynamicSlice S1 x st h j = x (ix1 w) := by
  unfold Host.dynamicSlice extractStridedSlice
  exact ⟨_, congrArg x (eq_ix1 _)⟩

include hc in
/-- The block the rows are read from, of a live item. -/
theorem f_xb (w : Fin 26) (hw : w.val < nl (A cnt)) : v113 cnt (ix1 w) = BitVec.ofNat 32 (ob (A cnt) w.val) := by
  show Scalar.select (v99 cnt (ix1 w)) (v48 cnt (ix1 w)) (call8_v0 cnt (ix1 w)) = _
  rw [v99_eq hc, select_bool, if_pos hw, v48_live hc w hw]

include hc in
/-- Every row block number is in range. -/
theorem f_xb_lt (w : Fin 26) : (v113 cnt (ix1 w)).toNat < 18 := by
  show (Scalar.select (v99 cnt (ix1 w)) (v48 cnt (ix1 w)) (call8_v0 cnt (ix1 w))).toNat < 18
  rw [v99_eq hc, select_bool]
  split
  · exact v48_lt hc w
  · have h : call8_v0 cnt (ix1 w) = v112 cnt ix0 := bc0 _ _ _
    obtain ⟨j, hj⟩ : ∃ j, v112 cnt ix0 = v111 cnt j := by unfold v112 shapeCast; exact ⟨_, rfl⟩
    obtain ⟨w', h'⟩ : ∃ w' : Fin 26, v111 cnt j = v48 cnt (ix1 w') := by unfold v111; exact slice1 _ _ _ _
    rw [h, hj, h']; exact v48_lt hc w'

include hc in
/-- The expert, of a live item. -/
theorem f_ex (w : Fin 26) (hw : w.val < nl (A cnt)) : v119 cnt (ix1 w) = BitVec.ofNat 32 (ex (A cnt) w.val) := by
  show Scalar.select (v99 cnt (ix1 w)) (v60 cnt (ix1 w)) (call9_v0 cnt (ix1 w)) = _
  rw [v99_eq hc, select_bool, if_pos hw, v60_live hc w hw]

include hc in
/-- Every expert number is in range. -/
theorem f_ex_lt (w : Fin 26) : (v119 cnt (ix1 w)).toNat < 8 := by
  show (Scalar.select (v99 cnt (ix1 w)) (v60 cnt (ix1 w)) (call9_v0 cnt (ix1 w))).toNat < 8
  rw [v99_eq hc, select_bool]
  split
  · exact v60_lt hc w
  · have h : call9_v0 cnt (ix1 w) = v118 cnt ix0 := bc0 _ _ _
    obtain ⟨j, hj⟩ : ∃ j, v118 cnt ix0 = v117 cnt j := by unfold v118 shapeCast; exact ⟨_, rfl⟩
    obtain ⟨w', h'⟩ : ∃ w' : Fin 26, v117 cnt j = v60 cnt (ix1 w') := by unfold v117; exact slice1 _ _ _ _
    rw [h, hj, h']; exact v60_lt hc w'

include hc in
/-- Whether the block is started afresh. -/
theorem f_z (w : Fin 26) : v123 cnt (ix1 w) = if Z (A cnt) w.val then 1#32 else 0#32 := by
  show Scalar.select (v99 cnt (ix1 w)) (v96 cnt (ix1 w)) (v122 cnt (ix1 w)) = _
  rw [v99_eq hc, select_bool]
  split
  · rename_i h
    rw [v96_live hc w h]
    have := Order.Z_live (A cnt) A_mono A_zero h
    by_cases hz : Z (A cnt) w.val
    · rw [if_pos hz, if_pos (this.mp hz)]
    · rw [if_neg hz, if_neg (fun h => hz (this.mpr h))]
  · rename_i h
    have hu := used_le hc
    have := Order.Z_tail (A cnt) A_mono A_zero (w := w.val) (by omega)
    show (BitVec.ofBool ((v103 cnt (ix1 w)).slt 18#32)).setWidth 32 = _
    rw [v103_eq hc w (by omega), slt_ofNat32 (by omega) (by omega), setWidth_ofBool]
    by_cases hz : Z (A cnt) w.val
    · rw [if_pos hz, if_pos (this.mp hz)]
    · rw [if_neg hz, if_neg (fun h => hz (this.mpr h))]

include hc in
/-- Whether the item is live. -/
theorem f_lv (w : Fin 26) : v124 cnt (ix1 w) = if w.val < nl (A cnt) then 1#32 else 0#32 := by
  show (v99 cnt (ix1 w)).setWidth 32 = _
  rw [v99_eq hc, setWidth_ofBool]
  split <;> rfl

end Cert.Experts.Plan
-- ==== Proof.Experts.Words.lean ====
module

public import proofs.«01_k».proof.Proof.Experts.Items

/-! # The table of the expert call, word by word: word `26 r + w` is row `r` of the plan at item `w`. -/

@[expose] public section
set_option maxRecDepth 16384
noncomputable section
namespace Cert.Experts.Plan
open Idealize
open Idealize.ShloMosaic hiding ix0 ix1 ix2 ix3 eq_ix1 eq_ix2 eq_ix3
open Idealize.ShloMosaic.Routing Idealize.ShloMosaic.ValueIdx

/-- The seven rows of the plan. -/
def row (cnt : IVec S8 32) : Fin 7 → IVec S26 32
  | 0 => v107 cnt | 1 => v113 cnt | 2 => v119 cnt | 3 => v72 cnt | 4 => v84 cnt | 5 => v123 cnt | 6 => v124 cnt

/-- The table is its seven rows one after the other. -/
theorem v125_ofFn (cnt : IVec S8 32) (h) :
    v125 cnt = concatenate S182 0 (List.ofFn fun r : Fin 7 => (⟨S26, row cnt r⟩ : (s : Shape) × (s.Idx → BitVec 32))) h := by
  unfold v125; rfl

/-- Word `26 r + w` of the table is row `r` of the plan at item `w`. -/
theorem v125_at (cnt : IVec S8 32) (r : Fin 7) (w : Fin 26) (j : S182.Idx) (hj : (j 0).val = 26 * r.val + w.val) :
    v125 cnt j = row cnt r (ix1 w) := by
  rw [v125_ofFn cnt cat7]
  refine concatenate_ofFn_apply (t := S182) (s₁ := S26) 0 (row cnt) _ rfl 26 rfl j r (by rw [hj]; have := w.isLt; omega) (ix1 w) ?_ ?_
  · show w.val = (j 0).val % 26
    rw [hj]; have := w.isLt; omega
  · intro b hb
    exact absurd (Subsingleton.elim (α := Fin 1) _ _) hb

end Cert.Experts.Plan
end
-- ==== Proof.Experts.Body.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! What one call of the expert block computes. Each of its conditional parts is one of ten forms of the same step (rows
`256·lo .. 256·hi` of the output block take up one tile of the hidden dimension) or the initial zero; every part is a
program with a continuation, so the whole body is their composition. -/

variable {α : Type}

/-- A block whose rows and columns inside a rectangle are replaced by `w`. -/
def upd (off sz : Fin 2 → ℕ) (o : Vec F S1024x2048 .f32) (w : Vec F ⟨2, sz⟩ .f32) : Vec F S1024x2048 .f32 := fun y =>
  if h : ∀ a, off a ≤ (y a).val ∧ (y a).val < off a + sz a then w (Rect.unitLocal (s := S1024x2048) (off := off) (size := sz) y h) else o y

/-- The rows of a block inside a rectangle. -/
def sub {e : EltTy} (off sz : Fin 2 → ℕ) (inb : ∀ a, off a + sz a ≤ S1024x2048.size a) (o : Vec F S1024x2048 e) : Vec F ⟨2, sz⟩ e := fun x =>
  o ((Rect.unit (s := S1024x2048) off sz inb).emb x)

/-- The program of one step: three weight tiles and the input rows are read, and the output rows rewritten. -/
def acc (off sz : Fin 2 → ℕ) (inb : ∀ a, off a + sz a ≤ S1024x2048.size a) (hS : 0 < (⟨2, sz⟩ : Shape).numel)
    (pay : Vec F S1x2048x256 .f32 → Vec F S1x2048x256 .f32 → Vec F S1x256x2048 .f32 → Vec F ⟨2, sz⟩ .bf16 → Vec F ⟨2, sz⟩ .f32 → Vec F ⟨2, sz⟩ .f32)
    (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α := do
  let v87 : Vec F S1x2048x256 .f32 ← Prog.lift (.load arg4 (Rect.unit (s := S1x2048x256) ![0, 0, 0] S1x2048x256.size inb_S1x2048x256_S1x2048x256_0_0_0).toLoadRect (View.loadsAt_vmem h_S1x2048x256))
  let v90 : Vec F S1x2048x256 .f32 ← Prog.lift (.load arg5 (Rect.unit (s := S1x2048x256) ![0, 0, 0] S1x2048x256.size inb_S1x2048x256_S1x2048x256_0_0_0).toLoadRect (View.loadsAt_vmem h_S1x2048x256))
  let v93 : Vec F S1x256x2048 .f32 ← Prog.lift (.load arg6 (Rect.unit (s := S1x256x2048) ![0, 0, 0] S1x256x2048.size inb_S1x256x2048_S1x256x2048_0_0_0).toLoadRect (View.loadsAt_vmem h_S1x256x2048))
  let v96 : Vec F ⟨2, sz⟩ .bf16 ← Prog.lift (.load arg3 (Rect.unit (s := S1024x2048) off sz inb).toLoadRect (View.loadsAt_vmem hS))
  let v109 : Vec F ⟨2, sz⟩ .f32 ← Prog.lift (.load arg7 (Rect.unit (s := S1024x2048) off sz inb).toLoadRect (View.loadsAt_vmem hS))
  let v113 : Vec F ⟨2, sz⟩ .f32 ← Prog.lift (.load arg7 (Rect.unit (s := S1024x2048) off sz inb).toLoadRect (View.loadsAt_vmem hS))
  Prog.lift (.store arg7 (Rect.unit (s := S1024x2048) off sz inb) (pay v87 v90 v93 v96 v109) Finset.univ (View.stores_vmem_bits_univ hS rfl) (.inl rfl))
  r

/-- Reading a whole tile of gate or up weights leaves an element's place as it is. -/
theorem emb_whole3 (x : S1x2048x256.Idx) : (Rect.unit (s := S1x2048x256) ![0, 0, 0] S1x2048x256.size inb_S1x2048x256_S1x2048x256_0_0_0).emb x = x := by
  funext a; apply Fin.ext; show (![0, 0, 0] : Fin 3 → ℕ) a + 1 * (x a).val = (x a).val; fin_cases a <;> simp

/-- Reading a whole tile of down weights leaves an element's place as it is. -/
theorem emb_whole3' (x : S1x256x2048.Idx) : (Rect.unit (s := S1x256x2048) ![0, 0, 0] S1x256x2048.size inb_S1x256x2048_S1x256x2048_0_0_0).emb x = x := by
  funext a; apply Fin.ext; show (![0, 0, 0] : Fin 3 → ℕ) a + 1 * (x a).val = (x a).val; fin_cases a <;> simp

/-- The step with its continuation: the inputs are left as found and the rectangle of the output holds the step's value. -/
theorem acc_wp (c : Dev nD) (off sz : Fin 2 → ℕ) (inb : ∀ a, off a + sz a ≤ S1024x2048.size a) (hS : 0 < (⟨2, sz⟩ : Shape).numel)
    (pay : Vec F S1x2048x256 .f32 → Vec F S1x2048x256 .f32 → Vec F S1x256x2048 .f32 → Vec F ⟨2, sz⟩ .bf16 → Vec F ⟨2, sz⟩ .f32 → Vec F ⟨2, sz⟩ .f32)
    (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (upd off sz o (pay x1 x2 x3 (sub off sz inb x0) (sub off sz inb o)))) -∗ wp frame (wpE (defs₀ (F := F)) Variants.none c none) E r Q))
    ⊢ wp frame (wpE (defs₀ (F := F)) Variants.none c none) E (acc off sz inb hS pay arg3 arg4 arg5 arg6 arg7 r) Q := by
  unfold acc
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  funext y
  rw [View.read_writes_cons_unit _ _ inb _ [] y rfl]
  unfold upd
  have e0 : View.readAt (Elt F) arg3.view (Rect.unit (s := S1024x2048) off sz inb).toLoadRect (harg3.unread x0) = sub off sz inb x0 := by
    funext x; exact congrFun hf0 _
  have e1 : View.readAt (Elt F) arg4.view (Rect.unit (s := S1x2048x256) ![0, 0, 0] S1x2048x256.size inb_S1x2048x256_S1x2048x256_0_0_0).toLoadRect (harg4.unread x1) = x1 := by
    funext x; exact (congrFun hf1 _).trans (congrArg x1 (emb_whole3 x))
  have e2 : View.readAt (Elt F) arg5.view (Rect.unit (s := S1x2048x256) ![0, 0, 0] S1x2048x256.size inb_S1x2048x256_S1x2048x256_0_0_0).toLoadRect (harg5.unread x2) = x2 := by
    funext x; exact (congrFun hf2 _).trans (congrArg x2 (emb_whole3 x))
  have e3 : View.readAt (Elt F) arg6.view (Rect.unit (s := S1x256x2048) ![0, 0, 0] S1x256x2048.size inb_S1x256x2048_S1x256x2048_0_0_0).toLoadRect (harg6.unread x3) = x3 := by
    funext x; exact (congrFun hf3 _).trans (congrArg x3 (emb_whole3' x))
  have e4 : View.readAt (Elt F) arg7.view (Rect.unit (s := S1024x2048) off sz inb).toLoadRect (harg7.unread o) = sub off sz inb o := by
    funext x; exact congrFun hf4 _
  rw [e0, e1, e2, e3, e4]
  refine dite_congr rfl (fun h => rfl) (fun h => congrFun hf4 y)

/-- The part for rows 0 to 256. -/
def seg2 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond2 v2 v5 v11 = 1#1 then acc ![0, 0] S256x2048.size inb_S1024x2048_S256x2048_0_0 h_S256x2048 k0_pay5 arg3 arg4 arg5 arg6 arg7 r else r

/-- What that part leaves in the output block. -/
def val2 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond2 v2 v5 v11 = 1#1 then upd ![0, 0] S256x2048.size o (k0_pay5 x1 x2 x3 (sub ![0, 0] S256x2048.size inb_S1024x2048_S256x2048_0_0 x0) (sub ![0, 0] S256x2048.size inb_S1024x2048_S256x2048_0_0 o)) else o

/-- The step of one range of rows: its conditional part leaves the output block as the step's value says. -/
theorem seg2_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val2 v2 v5 v11 x0 x1 x2 x3 o)) -∗ wp frame (wpE (defs₀ (F := F)) Variants.none c none) E r Q))
    ⊢ wp frame (wpE (defs₀ (F := F)) Variants.none c none) E (seg2 v2 v5 v11 arg3 arg4 arg5 arg6 arg7 r) Q := by
  unfold seg2 val2
  by_cases h : k0_cond2 v2 v5 v11 = 1#1
  · rw [if_pos h, if_pos h]
    exact acc_wp c ![0, 0] S256x2048.size inb_S1024x2048_S256x2048_0_0 h_S256x2048 k0_pay5 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 0 to 512. -/
def seg3 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond3 v2 v5 v11 = 1#1 then acc ![0, 0] S512x2048.size inb_S1024x2048_S512x2048_0_0 h_S512x2048 k0_pay6 arg3 arg4 arg5 arg6 arg7 r else r

/-- What that part leaves in the output block. -/
def val3 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond3 v2 v5 v11 = 1#1 then upd ![0, 0] S512x2048.size o (k0_pay6 x1 x2 x3 (sub ![0, 0] S512x2048.size inb_S1024x2048_S512x2048_0_0 x0) (sub ![0, 0] S512x2048.size inb_S1024x2048_S512x2048_0_0 o)) else o

/-- The step of one range of rows: its conditional part leaves the output block as the step's value says. -/
theorem seg3_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val3 v2 v5 v11 x0 x1 x2 x3 o)) -∗ wp frame (wpE (defs₀ (F := F)) Variants.none c none) E r Q))
    ⊢ wp frame (wpE (defs₀ (F := F)) Variants.none c none) E (seg3 v2 v5 v11 arg3 arg4 arg5 arg6 arg7 r) Q := by
  unfold seg3 val3
  by_cases h : k0_cond3 v2 v5 v11 = 1#1
  · rw [if_pos h, if_pos h]
    exact acc_wp c ![0, 0] S512x2048.size inb_S1024x2048_S512x2048_0_0 h_S512x2048 k0_pay6 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 0 to 768. -/
def seg4 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond4 v2 v5 v11 = 1#1 then acc ![0, 0] S768x2048.size inb_S1024x2048_S768x2048_0_0 h_S768x2048 k0_pay7 arg3 arg4 arg5 arg6 arg7 r else r

/-- What that part leaves in the output block. -/
def val4 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond4 v2 v5 v11 = 1#1 then upd ![0, 0] S768x2048.size o (k0_pay7 x1 x2 x3 (sub ![0, 0] S768x2048.size inb_S1024x2048_S768x2048_0_0 x0) (sub ![0, 0] S768x2048.size inb_S1024x2048_S768x2048_0_0 o)) else o

/-- The step of one range of rows: its conditional part leaves the output block as the step's value says. -/
theorem seg4_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val4 v2 v5 v11 x0 x1 x2 x3 o)) -∗ wp frame (wpE (defs₀ (F := F)) Variants.none c none) E r Q))
    ⊢ wp frame (wpE (defs₀ (F := F)) Variants.none c none) E (seg4 v2 v5 v11 arg3 arg4 arg5 arg6 arg7 r) Q := by
  unfold seg4 val4
  by_cases h : k0_cond4 v2 v5 v11 = 1#1
  · rw [if_pos h, if_pos h]
    exact acc_wp c ![0, 0] S768x2048.size inb_S1024x2048_S768x2048_0_0 h_S768x2048 k0_pay7 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 0 to 1024. -/
def seg5 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond5 v2 v5 v11 = 1#1 then acc ![0, 0] S1024x2048.size inb_S1024x2048_S1024x2048_0_0 h_S1024x2048 k0_pay8 arg3 arg4 arg5 arg6 arg7 r else r

/-- What that part leaves in the output block. -/
def val5 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond5 v2 v5 v11 = 1#1 then upd ![0, 0] S1024x2048.size o (k0_pay8 x1 x2 x3 (sub ![0, 0] S1024x2048.size inb_S1024x2048_S1024x2048_0_0 x0) (sub ![0, 0] S1024x2048.size inb_S1024x2048_S1024x2048_0_0 o)) else o

/-- The step of one range of rows: its conditional part leaves the output block as the step's value says. -/
theorem seg5_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val5 v2 v5 v11 x0 x1 x2 x3 o)) -∗ wp frame (wpE (defs₀ (F := F)) Variants.none c none) E r Q))
    ⊢ wp frame (wpE (defs₀ (F := F)) Variants.none c none) E (seg5 v2 v5 v11 arg3 arg4 arg5 arg6 arg7 r) Q := by
  unfold seg5 val5
  by_cases h : k0_cond5 v2 v5 v11 = 1#1
  · rw [if_pos h, if_pos h]
    exact acc_wp c ![0, 0] S1024x2048.size inb_S1024x2048_S1024x2048_0_0 h_S1024x2048 k0_pay8 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 256 to 512. -/
def seg6 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond6 v2 v5 v11 = 1#1 then acc ![256, 0] S256x2048.size inb_S1024x2048_S256x2048_256_0 h_S256x2048 k0_pay9 arg3 arg4 arg5 arg6 arg7 r else r

/-- What that part leaves in the output block. -/
def val6 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond6 v2 v5 v11 = 1#1 then upd ![256, 0] S256x2048.size o (k0_pay9 x1 x2 x3 (sub ![256, 0] S256x2048.size inb_S1024x2048_S256x2048_256_0 x0) (sub ![256, 0] S256x2048.size inb_S1024x2048_S256x2048_256_0 o)) else o

/-- The step of one range of rows: its conditional part leaves the output block as the step's value says. -/
theorem seg6_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val6 v2 v5 v11 x0 x1 x2 x3 o)) -∗ wp frame (wpE (defs₀ (F := F)) Variants.none c none) E r Q))
    ⊢ wp frame (wpE (defs₀ (F := F)) Variants.none c none) E (seg6 v2 v5 v11 arg3 arg4 arg5 arg6 arg7 r) Q := by
  unfold seg6 val6
  by_cases h : k0_cond6 v2 v5 v11 = 1#1
  · rw [if_pos h, if_pos h]
    exact acc_wp c ![256, 0] S256x2048.size inb_S1024x2048_S256x2048_256_0 h_S256x2048 k0_pay9 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 256 to 768. -/
def seg7 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond7 v2 v5 v11 = 1#1 then acc ![256, 0] S512x2048.size inb_S1024x2048_S512x2048_256_0 h_S512x2048 k0_pay10 arg3 arg4 arg5 arg6 arg7 r else r

/-- What that part leaves in the output block. -/
def val7 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond7 v2 v5 v11 = 1#1 then upd ![256, 0] S512x2048.size o (k0_pay10 x1 x2 x3 (sub ![256, 0] S512x2048.size inb_S1024x2048_S512x2048_256_0 x0) (sub ![256, 0] S512x2048.size inb_S1024x2048_S512x2048_256_0 o)) else o

/-- The step of one range of rows: its conditional part leaves the output block as the step's value says. -/
theorem seg7_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val7 v2 v5 v11 x0 x1 x2 x3 o)) -∗ wp frame (wpE (defs₀ (F := F)) Variants.none c none) E r Q))
    ⊢ wp frame (wpE (defs₀ (F := F)) Variants.none c none) E (seg7 v2 v5 v11 arg3 arg4 arg5 arg6 arg7 r) Q := by
  unfold seg7 val7
  by_cases h : k0_cond7 v2 v5 v11 = 1#1
  · rw [if_pos h, if_pos h]
    exact acc_wp c ![256, 0] S512x2048.size inb_S1024x2048_S512x2048_256_0 h_S512x2048 k0_pay10 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 256 to 1024. -/
def seg8 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond8 v2 v5 v11 = 1#1 then acc ![256, 0] S768x2048.size inb_S1024x2048_S768x2048_256_0 h_S768x2048 k0_pay11 arg3 arg4 arg5 arg6 arg7 r else r

/-- What that part leaves in the output block. -/
def val8 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond8 v2 v5 v11 = 1#1 then upd ![256, 0] S768x2048.size o (k0_pay11 x1 x2 x3 (sub ![256, 0] S768x2048.size inb_S1024x2048_S768x2048_256_0 x0) (sub ![256, 0] S768x2048.size inb_S1024x2048_S768x2048_256_0 o)) else o

/-- The step of one range of rows: its conditional part leaves the output block as the step's value says. -/
theorem seg8_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val8 v2 v5 v11 x0 x1 x2 x3 o)) -∗ wp frame (wpE (defs₀ (F := F)) Variants.none c none) E r Q))
    ⊢ wp frame (wpE (defs₀ (F := F)) Variants.none c none) E (seg8 v2 v5 v11 arg3 arg4 arg5 arg6 arg7 r) Q := by
  unfold seg8 val8
  by_cases h : k0_cond8 v2 v5 v11 = 1#1
  · rw [if_pos h, if_pos h]
    exact acc_wp c ![256, 0] S768x2048.size inb_S1024x2048_S768x2048_256_0 h_S768x2048 k0_pay11 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 512 to 768. -/
def seg9 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond9 v2 v5 v11 = 1#1 then acc ![512, 0] S256x2048.size inb_S1024x2048_S256x2048_512_0 h_S256x2048 k0_pay1 arg3 arg4 arg5 arg6 arg7 r else r

/-- What that part leaves in the output block. -/
def val9 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond9 v2 v5 v11 = 1#1 then upd ![512, 0] S256x2048.size o (k0_pay1 x1 x2 x3 (sub ![512, 0] S256x2048.size inb_S1024x2048_S256x2048_512_0 x0) (sub ![512, 0] S256x2048.size inb_S1024x2048_S256x2048_512_0 o)) else o

/-- The step of one range of rows: its conditional part leaves the output block as the step's value says. -/
theorem seg9_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val9 v2 v5 v11 x0 x1 x2 x3 o)) -∗ wp frame (wpE (defs₀ (F := F)) Variants.none c none) E r Q))
    ⊢ wp frame (wpE (defs₀ (F := F)) Variants.none c none) E (seg9 v2 v5 v11 arg3 arg4 arg5 arg6 arg7 r) Q := by
  unfold seg9 val9
  by_cases h : k0_cond9 v2 v5 v11 = 1#1
  · rw [if_pos h, if_pos h]
    exact acc_wp c ![512, 0] S256x2048.size inb_S1024x2048_S256x2048_512_0 h_S256x2048 k0_pay1 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 512 to 1024. -/
def seg10 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond10 v2 v5 v11 = 1#1 then acc ![512, 0] S512x2048.size inb_S1024x2048_S512x2048_512_0 h_S512x2048 k0_pay2 arg3 arg4 arg5 arg6 arg7 r else r

/-- What that part leaves in the output block. -/
def val10 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond10 v2 v5 v11 = 1#1 then upd ![512, 0] S512x2048.size o (k0_pay2 x1 x2 x3 (sub ![512, 0] S512x2048.size inb_S1024x2048_S512x2048_512_0 x0) (sub ![512, 0] S512x2048.size inb_S1024x2048_S512x2048_512_0 o)) else o

/-- The step of one range of rows: its conditional part leaves the output block as the step's value says. -/
theorem seg10_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val10 v2 v5 v11 x0 x1 x2 x3 o)) -∗ wp frame (wpE (defs₀ (F := F)) Variants.none c none) E r Q))
    ⊢ wp frame (wpE (defs₀ (F := F)) Variants.none c none) E (seg10 v2 v5 v11 arg3 arg4 arg5 arg6 arg7 r) Q := by
  unfold seg10 val10
  by_cases h : k0_cond10 v2 v5 v11 = 1#1
  · rw [if_pos h, if_pos h]
    exact acc_wp c ![512, 0] S512x2048.size inb_S1024x2048_S512x2048_512_0 h_S512x2048 k0_pay2 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part for rows 768 to 1024. -/
def seg11 (v2 v5 v11 : BitVec 32) (arg3 : Memref sig .tc .vmem S1024x2048 .bf16) (arg4 : Memref sig .tc .vmem S1x2048x256 .f32) (arg5 : Memref sig .tc .vmem S1x2048x256 .f32) (arg6 : Memref sig .tc .vmem S1x256x2048 .f32) (arg7 : Memref sig .tc .vmem S1024x2048 .f32)
    (r : Prog (TpuEff nD τ sig (Elt F) Λ₀ .tc) α) : Prog (TpuEff nD τ sig (Elt F) Λ₀ .tc) α :=
  if k0_cond11 v2 v5 v11 = 1#1 then acc ![768, 0] S256x2048.size inb_S1024x2048_S256x2048_768_0 h_S256x2048 k0_pay3 arg3 arg4 arg5 arg6 arg7 r else r

/-- What that part leaves in the output block. -/
def val11 (v2 v5 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  if k0_cond11 v2 v5 v11 = 1#1 then upd ![768, 0] S256x2048.size o (k0_pay3 x1 x2 x3 (sub ![768, 0] S256x2048.size inb_S1024x2048_S256x2048_768_0 x0) (sub ![768, 0] S256x2048.size inb_S1024x2048_S256x2048_768_0 o)) else o

/-- The step of one range of rows: its conditional part leaves the output block as the step's value says. -/
theorem seg11_wp (c : Dev nD) (v2 v5 v11 : BitVec 32) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (r : Prog (TpuEff nD τ sig (Elt F) Λ₀ .tc) α) (E : Set ℕ) (Q : α → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val11 v2 v5 v11 x0 x1 x2 x3 o)) -∗ wp frame (wpE (defs₀ (F := F)) Variants.none c none) E r Q))
    ⊢ wp frame (wpE (defs₀ (F := F)) Variants.none c none) E (seg11 v2 v5 v11 arg3 arg4 arg5 arg6 arg7 r) Q := by
  unfold seg11 val11
  by_cases h : k0_cond11 v2 v5 v11 = 1#1
  · rw [if_pos h, if_pos h]
    exact acc_wp c ![768, 0] S256x2048.size inb_S1024x2048_S256x2048_768_0 h_S256x2048 k0_pay3 arg3 harg3 arg4 harg4 arg5 harg5 arg6 harg6 arg7 harg7 x0 x1 x2 x3 o r E Q
  · rw [if_neg h, if_neg h]
    iintro ⟨H0, H1, H2, H3, H4, Hk⟩
    iapply Hk
    iframe

/-- The part that zeroes the output block at the first step of an item that opens its block. -/
def seg1 (i : grid0.Coords) (v8 : BitVec 32) (arg7 : Memref sig .tc .vmem S1024x2048 .f32)
    (r : Prog (TpuEff nD τ sig (Elt F) Λ₀ .tc) α) : Prog (TpuEff nD τ sig (Elt F) Λ₀ .tc) α :=
  if k0_cond1 i v8 = 1#1 then do
    let v88 : Vec F S1024x2048 .f32 ← Prog.lift (.load arg7 (Rect.unit (s := S1024x2048) ![0, 0] S1024x2048.size inb_S1024x2048_S1024x2048_0_0).toLoadRect (View.loadsAt_vmem h_S1024x2048))
    Prog.lift (.store arg7 (Rect.unit (s := S1024x2048) ![0, 0] S1024x2048.size inb_S1024x2048_S1024x2048_0_0) (k0_pay4 (F := F)) Finset.univ (View.stores_vmem_bits_univ h_S1024x2048 rfl) (.inl rfl))
    r
  else r

/-- What the zeroing part leaves. -/
def val1 (i : grid0.Coords) (v8 : BitVec 32) (o : Vec F S1024x2048 .f32) : Vec F S1024x2048 .f32 :=
  if k0_cond1 i v8 = 1#1 then k0_pay4 else o

/-- The first conditional part zeroes the output block or leaves it. -/
theorem seg1_wp (c : Dev nD) (i : grid0.Coords) (v8 : BitVec 32) (arg7 : Memref sig .tc .vmem S1024x2048 .f32) (harg7 : arg7.IsWhole)
    (o : Vec F S1024x2048 .f32) (r : Prog (TpuEff nD τ sig (Elt F) Λ₀ .tc) α) (E : Set ℕ) (Q : α → sProp 𝕄) :
    iprop(owns (c : Thread nD τ) arg7 fullShare o ∗ (owns (c : Thread nD τ) arg7 fullShare (val1 i v8 o) -∗ wp frame (wpE (defs₀ (F := F)) Variants.none c none) E r Q))
    ⊢ wp frame (wpE (defs₀ (F := F)) Variants.none c none) E (seg1 i v8 arg7 r) Q := by
  unfold seg1 val1
  by_cases h : k0_cond1 i v8 = 1#1
  · rw [if_pos h, if_pos h]
    unfold owns
    iintro ⟨⟨%f4, %hf4, H4⟩, Hk⟩
    obtain rfl := harg7.eq_unread hf4
    sl_exec
    iapply Hk
    iexists _; isplitr
    swap; · iexact H4
    ipureintro
    funext y
    exact View.read_writes_cons_unit_of_mem arg7.view _ inb_S1024x2048_S1024x2048_0_0 _ [] y y rfl (fun a => by fin_cases a <;> simp)
  · rw [if_neg h, if_neg h]
    iintro ⟨H4, Hk⟩
    iapply Hk
    iexact H4

/-- This part of the body is its conditional parts one after the other. -/
theorem part2_eq (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole) (v2 v5 v11 : BitVec 32) (v36 : BitVec 32) :
    k0_part2_skel (F := F) i arg2 harg2 arg3 harg3 arg4 harg4 arg5 harg5 arg6 harg6 arg7 harg7 v2 v5 v11 v36 = seg4 v2 v5 v11 arg3 arg4 arg5 arg6 arg7 (seg5 v2 v5 v11 arg3 arg4 arg5 arg6 arg7 (seg6 v2 v5 v11 arg3 arg4 arg5 arg6 arg7 (seg7 v2 v5 v11 arg3 arg4 arg5 arg6 arg7 (seg8 v2 v5 v11 arg3 arg4 arg5 arg6 arg7 (pure (Scalar.extui (Scalar.andi (Scalar.cmpi CmpIPredicate.eq v11 1#32) (Scalar.andi (Scalar.cmpi CmpIPredicate.eq v2 2#32) (Scalar.cmpi CmpIPredicate.eq v5 3#32))))))))) := rfl

/-- The first part reads four words of the table, then does its conditional parts one after the other. -/
theorem part1_eq (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole) :
    k0_part1_skel (F := F) i arg2 harg2 arg3 harg3 arg4 harg4 arg5 harg5 arg6 harg6 arg7 harg7 = (do
      let v2 : Elt F .i32 ← smemLoad arg2 (Rect.unit (s := S182) (k0_off1 i 78#32) S1.size (k0_off1_inb i 3)) numel1_S1 rfl
      let v5 : Elt F .i32 ← smemLoad arg2 (Rect.unit (s := S182) (k0_off1 i 104#32) S1.size (k0_off1_inb i 4)) numel1_S1 rfl
      let v8 : Elt F .i32 ← smemLoad arg2 (Rect.unit (s := S182) (k0_off1 i 130#32) S1.size (k0_off1_inb i 5)) numel1_S1 rfl
      let v11 : Elt F .i32 ← smemLoad arg2 (Rect.unit (s := S182) (k0_off1 i 156#32) S1.size (k0_off1_inb i 6)) numel1_S1 rfl
      seg1 i v8 arg7 (seg2 v2 v5 v11 arg3 arg4 arg5 arg6 arg7 (seg3 v2 v5 v11 arg3 arg4 arg5 arg6 arg7 (pure ⟨v2, v5, v11, Scalar.extui (Scalar.andi (Scalar.cmpi CmpIPredicate.eq v11 1#32) (Scalar.andi (Scalar.cmpi CmpIPredicate.eq v2 0#32) (Scalar.cmpi CmpIPredicate.eq v5 3#32)))⟩)))) := rfl

/-- The body is its two parts, then its last three conditional parts. -/
theorem body_eq (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole) :
    cc0_moe_experts_skel (F := F) i arg2 harg2 arg3 harg3 arg4 harg4 arg5 harg5 arg6 harg6 arg7 harg7 = (do
      let ⟨v2, v5, v11, v36⟩ : Σ' (v2 : Elt F .i32) (v5 : Elt F .i32) (v11 : Elt F .i32), BitVec 32 ← k0_part1 i arg2 harg2 arg3 harg3 arg4 harg4 arg5 harg5 arg6 harg6 arg7 harg7
      let v71 : BitVec 32 ← k0_part2 i arg2 harg2 arg3 harg3 arg4 harg4 arg5 harg5 arg6 harg6 arg7 harg7 v2 v5 v11 v36
      seg9 v2 v5 v11 arg3 arg4 arg5 arg6 arg7 (seg10 v2 v5 v11 arg3 arg4 arg5 arg6 arg7 (seg11 v2 v5 v11 arg3 arg4 arg5 arg6 arg7 (pure ⟨⟩)))) := rfl

/-- The half of the table's buffer that the body holds. -/
abbrev tb (c : Dev nD) (arg2 : Memref sig .tc .smem S182 .i32) (f : Buf (Elt F) (arg2.view.loc (c : Thread nD τ))) : sProp 𝕄 :=
  arg2.view.loc (c : Thread nD τ) ↦{fullShare.right} f

/-- Word `K + w` of the table, for item `w` of the point. -/
def word (c : Dev nD) (arg2 : Memref sig .tc .smem S182 .i32) (f : Buf (Elt F) (arg2.view.loc (c : Thread nD τ))) (i : grid0.Coords) (r : Fin 7) : BitVec 32 :=
  View.readAt (Elt F) arg2.view (Rect.unit (s := S182) (k0_off1 i (BitVec.ofNat 32 (26 * r.val))) S1.size (k0_off1_inb i r)).toLoadRect f (Shape.Idx.first (numel1_S1.symm ▸ Nat.one_pos))

/-- What one call leaves in the output block. -/
def bodyVal (i : grid0.Coords) (v2 v5 v8 v11 : BitVec 32) (x0 : Vec F S1024x2048 .bf16) (x1 : Vec F S1x2048x256 .f32) (x2 : Vec F S1x2048x256 .f32) (x3 : Vec F S1x256x2048 .f32) (o : Vec F S1024x2048 .f32) : Vec F S1024x2048 .f32 :=
  (val11 v2 v5 v11 x0 x1 x2 x3 (val10 v2 v5 v11 x0 x1 x2 x3 (val9 v2 v5 v11 x0 x1 x2 x3 (val8 v2 v5 v11 x0 x1 x2 x3 (val7 v2 v5 v11 x0 x1 x2 x3 (val6 v2 v5 v11 x0 x1 x2 x3 (val5 v2 v5 v11 x0 x1 x2 x3 (val4 v2 v5 v11 x0 x1 x2 x3 (val3 v2 v5 v11 x0 x1 x2 x3 (val2 v2 v5 v11 x0 x1 x2 x3 (val1 i v8 o)))))))))))

/-- What this part of the body leaves in the output block. -/
theorem part1_wp (c : Dev nD) (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (f : Buf (Elt F) (arg2.view.loc (c : Thread nD τ))) (E : Set ℕ) (Q : (Σ' (v2 : Elt F .i32) (v5 : Elt F .i32) (v11 : Elt F .i32), BitVec 32) → sProp 𝕄) :
    iprop(tb c arg2 f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(tb c arg2 f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (val3 (word c arg2 f i 3) (word c arg2 f i 4) (word c arg2 f i 6) x0 x1 x2 x3 (val2 (word c arg2 f i 3) (word c arg2 f i 4) (word c arg2 f i 6) x0 x1 x2 x3 (val1 i (word c arg2 f i 5) o)))) -∗
        Q ⟨word c arg2 f i 3, word c arg2 f i 4, word c arg2 f i 6, Scalar.extui (Scalar.andi (Scalar.cmpi CmpIPredicate.eq (word c arg2 f i 6) 1#32) (Scalar.andi (Scalar.cmpi CmpIPredicate.eq (word c arg2 f i 3) 0#32) (Scalar.cmpi CmpIPredicate.eq (word c arg2 f i 4) 3#32)))⟩))
    ⊢ wp frame (wpE (defs₀ (F := F)) Variants.none c none) E (k0_part1_skel (F := F) i arg2 harg2 arg3 harg3 arg4 harg4 arg5 harg5 arg6 harg6 arg7 harg7) Q := by
  rw [part1_eq]
  iintro ⟨HT, H0, H1, H2, H3, H4, Hk⟩
  sl_exec
  iapply (seg1_wp c i (word c arg2 f i 5) arg7 harg7 o _ E Q)
  isplitl [H4]; · iexact H4
  iintro H4
  iapply (seg2_wp c (word c arg2 f i 3) (word c arg2 f i 4) (word c arg2 f i 6) arg3 harg3 arg4 harg4 arg5 harg5 arg6 harg6 arg7 harg7 x0 x1 x2 x3 _ _ E Q)
  iframe
  iintro ⟨H0, H1, H2, H3, H4⟩
  iapply (seg3_wp c (word c arg2 f i 3) (word c arg2 f i 4) (word c arg2 f i 6) arg3 harg3 arg4 harg4 arg5 harg5 arg6 harg6 arg7 harg7 x0 x1 x2 x3 _ _ E Q)
  iframe
  iintro ⟨H0, H1, H2, H3, H4⟩
  sl_step
  rw [show part1_wp.sl.r c i arg2 f = word c arg2 f i 3 from rfl, show part1_wp.sl.r_1 c i arg2 f = word c arg2 f i 4 from rfl,
    show part1_wp.sl.r_3 c i arg2 f = word c arg2 f i 6 from rfl]
  iapply Hk
  iframe

/-- What this part of the body leaves in the output block. -/
theorem part2_wp (c : Dev nD) (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole) (v2 v5 v11 v36 : BitVec 32)
    (x0 : Vec F S1024x2048 .bf16) (x1 : Vec F S1x2048x256 .f32) (x2 : Vec F S1x2048x256 .f32) (x3 : Vec F S1x256x2048 .f32) (o : Vec F S1024x2048 .f32)
    (E : Set ℕ) (Q : BitVec 32 → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare ((val8 v2 v5 v11 x0 x1 x2 x3 (val7 v2 v5 v11 x0 x1 x2 x3 (val6 v2 v5 v11 x0 x1 x2 x3 (val5 v2 v5 v11 x0 x1 x2 x3 (val4 v2 v5 v11 x0 x1 x2 x3 o))))))) -∗
        Q (Scalar.extui (Scalar.andi (Scalar.cmpi CmpIPredicate.eq v11 1#32) (Scalar.andi (Scalar.cmpi CmpIPredicate.eq v2 2#32) (Scalar.cmpi CmpIPredicate.eq v5 3#32))))))
    ⊢ wp frame (wpE (defs₀ (F := F)) Variants.none c none) E (k0_part2_skel (F := F) i arg2 harg2 arg3 harg3 arg4 harg4 arg5 harg5 arg6 harg6 arg7 harg7 v2 v5 v11 v36) Q := by
  rw [part2_eq]
  iintro ⟨H0, H1, H2, H3, H4, Hk⟩
  iapply (seg4_wp c v2 v5 v11 arg3 harg3 arg4 harg4 arg5 harg5 arg6 harg6 arg7 harg7 x0 x1 x2 x3 _ _ E Q)
  iframe
  iintro ⟨H0, H1, H2, H3, H4⟩
  iapply (seg5_wp c v2 v5 v11 arg3 harg3 arg4 harg4 arg5 harg5 arg6 harg6 arg7 harg7 x0 x1 x2 x3 _ _ E Q)
  iframe
  iintro ⟨H0, H1, H2, H3, H4⟩
  iapply (seg6_wp c v2 v5 v11 arg3 harg3 arg4 harg4 arg5 harg5 arg6 harg6 arg7 harg7 x0 x1 x2 x3 _ _ E Q)
  iframe
  iintro ⟨H0, H1, H2, H3, H4⟩
  iapply (seg7_wp c v2 v5 v11 arg3 harg3 arg4 harg4 arg5 harg5 arg6 harg6 arg7 harg7 x0 x1 x2 x3 _ _ E Q)
  iframe
  iintro ⟨H0, H1, H2, H3, H4⟩
  iapply (seg8_wp c v2 v5 v11 arg3 harg3 arg4 harg4 arg5 harg5 arg6 harg6 arg7 harg7 x0 x1 x2 x3 _ _ E Q)
  iframe
  iintro ⟨H0, H1, H2, H3, H4⟩
  sl_step
  iapply Hk
  iframe

/-- One call: the table and the inputs are left as found, and the output block holds `bodyVal`. -/
theorem body_wp (c : Dev nD) (i : grid0.Coords) (arg2 : Memref sig .tc .smem S182 .i32) (harg2 : arg2.IsWhole) (arg3 : Memref sig .tc .vmem S1024x2048 .bf16) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x256x2048 .f32) (harg6 : arg6.IsWhole)
    (arg7 : Memref sig .tc .vmem S1024x2048 .f32) (harg7 : arg7.IsWhole)
    (x0 : Vec F S1024x2048 .bf16) (x1 : Vec F S1x2048x256 .f32) (x2 : Vec F S1x2048x256 .f32) (x3 : Vec F S1x256x2048 .f32) (o : Vec F S1024x2048 .f32)
    (f : Buf (Elt F) (arg2.view.loc (c : Thread nD τ))) (E : Set ℕ) (Q : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o) ∗ tb c arg2 f
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (bodyVal i (word c arg2 f i 3) (word c arg2 f i 4) (word c arg2 f i 5) (word c arg2 f i 6) x0 x1 x2 x3 o) ∗ tb c arg2 f) -∗ Q ⟨⟩))
    ⊢ wp frame (wpE (defs₀ (F := F)) Variants.none c none) E (cc0_moe_experts (F := F) i arg2 harg2 arg3 harg3 arg4 harg4 arg5 harg5 arg6 harg6 arg7 harg7) Q := by
  rw [cc0_moe_experts_eq_skeleton, body_eq]
  unfold bodyVal
  iintro ⟨H0, H1, H2, H3, H4, HT, Hk⟩
  rw [wp_bind]
  rw [k0_part1_eq_skeleton]
  iapply (part1_wp c i arg2 harg2 arg3 harg3 arg4 harg4 arg5 harg5 arg6 harg6 arg7 harg7 x0 x1 x2 x3 o f E _)
  iframe
  iintro ⟨HT, H0, H1, H2, H3, H4⟩
  rw [wp_bind]
  rw [k0_part2_eq_skeleton]
  iapply (part2_wp c i arg2 harg2 arg3 harg3 arg4 harg4 arg5 harg5 arg6 harg6 arg7 harg7 (word c arg2 f i 3) (word c arg2 f i 4) (word c arg2 f i 6) _ x0 x1 x2 x3 _ E _)
  iframe
  iintro ⟨H0, H1, H2, H3, H4⟩
  iapply (seg9_wp c (word c arg2 f i 3) (word c arg2 f i 4) (word c arg2 f i 6) arg3 harg3 arg4 harg4 arg5 harg5 arg6 harg6 arg7 harg7 x0 x1 x2 x3 _ _ E Q)
  iframe
  iintro ⟨H0, H1, H2, H3, H4⟩
  iapply (seg10_wp c (word c arg2 f i 3) (word c arg2 f i 4) (word c arg2 f i 6) arg3 harg3 arg4 harg4 arg5 harg5 arg6 harg6 arg7 harg7 x0 x1 x2 x3 _ _ E Q)
  iframe
  iintro ⟨H0, H1, H2, H3, H4⟩
  iapply (seg11_wp c (word c arg2 f i 3) (word c arg2 f i 4) (word c arg2 f i 6) arg3 harg3 arg4 harg4 arg5 harg5 arg6 harg6 arg7 harg7 x0 x1 x2 x3 _ _ E Q)
  iframe
  iintro ⟨H0, H1, H2, H3, H4⟩
  sl_step
  iapply Hk
  iframe

end Cert.Kernel4Ideal.Hand
end
-- ==== Proof.Experts.Region.lean ====
module

public import proofs.«01_k».proof.Proof.Gen.Kernel4Ideal.Launch
public import proofs.«01_k».proof.Proof.Gen.Kernel4Ideal.Skeleton
public import proofs.«01_k».proof.Proof.Experts.Body
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The expert call as a pipeline run: what the host operations hand it, the table's words, the state of the output block
point by point, the body at a generic point, and the run. -/

/-- The host operations before the call, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- Core `c`'s buffers when the call is entered. -/
abbrev V (c : Dev nD) (b : Ref sig .tc) : Buf (Elt F) ((c : Thread nD τ).loc b) := StableHlo.after (opss (F := F)).flatten (fun b => m (c, b)) b

/-- The host operations touch only buffers of the program. -/
theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

/-- The host operations make no new buffer. -/
theorem opss_fresh : (opss (F := F)).Forall fun ops => ops.Forall fun op => op.fresh = ∅ := by
  simp only [List.Forall]; repeat' constructor

set_option maxHeartbeats 800000 in
/-- The program is those host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

/-- The host operations leave this argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.mem_singleton]
    repeat' apply And.intro
    all_goals exact StableHlo.devRef_ne_of_ne (by decide)))

/-- The host operations leave this argument as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.mem_singleton]
    repeat' apply And.intro
    all_goals exact StableHlo.devRef_ne_of_ne (by decide)))

/-- The host operations leave this argument as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.mem_singleton]
    repeat' apply And.intro
    all_goals exact StableHlo.devRef_ne_of_ne (by decide)))

/-- The host operations leave this argument as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.mem_singleton]
    repeat' apply And.intro
    all_goals exact StableHlo.devRef_ne_of_ne (by decide)))

/-- The host operations leave this argument as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.mem_singleton]
    repeat' apply And.intro
    all_goals exact StableHlo.devRef_ne_of_ne (by decide)))

/-! ## The table -/

/-- The table's contents when the call is entered. -/
def tbl : pre0.Contents (Elt F) := fun j => V m (0 : Dev nD) (pre0.ref j)

/-- The prefetched buffer holds the table. -/
theorem V_pre (c : Dev nD) (j : Fin 1) : V m c (pre0.ref j) = tbl m j := by
  obtain rfl : c = 0 := Subsingleton.elim _ _; rfl

/-- The table's block numbers are inside their arrays. -/
abbrev Ok : Prop := ok0 (F := F) (tbl m)
/-- The table with that fact. -/
abbrev adm (hO : Ok m) : (pcfg0 (F := F)).Adm := ⟨tbl m, hO⟩
/-- The pipeline at that table. -/
abbrev cfgM (hO : Ok m) : Pipeline.Cfg sig Λ₀ := cfg0 (adm m hO)
/-- The table as a memory reference. -/
abbrev tbM : Memref sig .tc .smem S182 .i32 := Memref.whole main_v125
/-- It is a whole buffer. -/
abbrev htbM : tbM.IsWhole := Memref.isWhole_whole _

/-- The prefetched table's ownership is that of the one buffer. -/
theorem PhiT0_eq (c : Dev nD) : (Pipeline.ΦT pre0 (tbl m) c : sProp 𝕄) = iprop(tb c tbM (tbl m 0)) := by
  unfold Pipeline.ΦT Pipeline.prefHeld
  rw [show (Finset.univ : Finset (Fin 1)) = {(0 : Fin 1)} from by decide, bigSep_singleton]
  rfl

/-- The table as a vector of words. -/
def words (pf : pre0.Contents (Elt F)) : S182.Idx → BitVec 32 := pf 0

/-- The table's index `n`. -/
def ix182 (n : ℕ) (h : n < 182) : S182.Idx := fun a => ⟨n, by fin_cases a; exact h⟩

/-- Field `r` of item `w`: word `26 r + w` of the table. -/
def fld (pf : pre0.Contents (Elt F)) (r : Fin 7) (w : Fin 26) : BitVec 32 := words pf (ix182 (26 * r.val + w.val) (by omega))

/-- The place of a field's word. -/
theorem off_val : ∀ (r : Fin 7) (i : grid0.Coords), k0_off1 i (BitVec.ofNat 32 (26 * r.val)) 0 = 26 * r.val + (i 0).val := by
  have h : ∀ (r : Fin 7) (w : Fin 26), (Scalar.indexCast (Scalar.addi (BitVec.ofNat 32 (26 * r.val)) (BitVec.ofNat 32 w.val))).toNat = 26 * r.val + w.val := by decide +kernel
  exact fun r i => h r (i 0)

/-- The word the body reads is the item's field, -/
theorem word_eq (c : Dev nD) (i : grid0.Coords) (r : Fin 7) : word c tbM (tbl m 0) i r = fld (tbl m) r (i 0) := by
  refine congrArg (words (tbl m)) (funext fun (a : Fin 1) => Fin.ext ?_)
  obtain rfl : a = 0 := Subsingleton.elim _ _
  exact (Nat.add_zero _).trans (off_val r i)

/-- and so is the one an index map reads, -/
theorem at_eq (pf : pre0.Contents (Elt F)) (i : grid0.Coords) (r : Fin 7) (h1) :
    pf.at 0 (Rect.unit (s := S182) (k0_off1 i (BitVec.ofNat 32 (26 * r.val))) S1.size (k0_off1_inb i r)) h1 = fld pf r (i 0) := by
  refine congrArg (words pf) (funext fun (a : Fin 1) => Fin.ext ?_)
  obtain rfl : a = 0 := Subsingleton.elim _ _
  exact (Nat.add_zero _).trans (off_val r i)

/-- and the one the table of idle points reads. -/
theorem atD_eq (pf : pre0.Contents (Elt F)) (i : grid0.Coords) (r : Fin 7) :
    pf.atD 0 (k0_off1 i (BitVec.ofNat 32 (26 * r.val))) = fld pf r (i 0) := by
  have hv := off_val r i
  have h : ∀ a : Fin (pre0.ref 0).ty.shape.rank, (k0_off1 i (BitVec.ofNat 32 (26 * r.val))) a + 1 ≤ (pre0.ref 0).ty.shape.size a := fun (a : Fin 1) => by
    obtain rfl : a = 0 := Subsingleton.elim _ _
    rw [hv]; show 26 * r.val + (i 0).val + 1 ≤ 182; have := (i 0).isLt; have h26 : (i 0).val < 26 := this; omega
  unfold Pipeline.Prefetch.Contents.atD
  refine (dif_pos h).trans (congrArg (words pf) (funext fun (a : Fin 1) => Fin.ext ?_))
  obtain rfl : a = 0 := Subsingleton.elim _ _
  exact hv

/-- The tile of the hidden dimension a point names: the step for a live item, the last one for the others. -/
def tile (pf : pre0.Contents (Elt F)) (i : grid0.Coords) : ℕ := if fld pf 6 (i 0) = 1#32 then (i 1).val else 27

/-- The index map in terms of the table's fields. -/
theorem ix_0 (pf : pre0.Contents (Elt F)) (i : grid0.Coords) : cc0_transform_0 k0_off1_inb numel1_S1 pf i = ![(fld pf 1 (i 0)).toNat, 0] := by
  unfold cc0_transform_0
  exact congrArg (fun v : BitVec 32 => ![v.toNat, 0]) (at_eq pf i 1 numel1_S1)

/-- The index map in terms of the table's fields. -/
theorem ix_4 (pf : pre0.Contents (Elt F)) (i : grid0.Coords) : cc0_transform_4 k0_off1_inb numel1_S1 pf i = ![(fld pf 0 (i 0)).toNat, 0] := by
  unfold cc0_transform_4
  exact congrArg (fun v : BitVec 32 => ![v.toNat, 0]) (at_eq pf i 0 numel1_S1)

end Cert.Kernel4Ideal.Hand
end
-- ==== Proof.Experts.Run.lean ====
module

public import proofs.«01_k».proof.Proof.Gen.Kernel4Ideal.Launch
public import proofs.«01_k».proof.Proof.Gen.Kernel4Ideal.Skeleton
public import proofs.«01_k».proof.Proof.Experts.Region
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The side condition of the index maps -/

/-- A hidden tile's number is below 28. -/
theorem tile_lt (pf : pre0.Contents (Elt F)) (i : grid0.Coords) : tile pf i < 28 := by
  unfold tile; have h : (i 1).val < 28 := (i 1).isLt; split <;> omega

/-- The hidden tile of a live item is the point's, else the last. -/
theorem sel_val : ∀ (j : Fin 28) (v : BitVec 32), (Scalar.select (Scalar.cmpi .eq v 1#32) (BitVec.ofNat 32 j.val) 27#32).toNat = if v = 1#32 then j.val else 27 := by
  have hj : ∀ j : Fin 28, (BitVec.ofNat 32 j.val).toNat = j.val := by decide +kernel
  intro j v
  by_cases h : v = 1#32
  · subst h; rw [if_pos rfl]; exact hj j
  · rw [if_neg h]
    have e : Scalar.cmpi .eq v 1#32 = 0#1 := by
      show BitVec.ofBool (v == 1#32) = 0#1
      rw [beq_eq_false_iff_ne.mpr h]; rfl
    rw [e]; rfl

/-- The index map in terms of the table's fields. -/
theorem ix_1 (pf : pre0.Contents (Elt F)) (i : grid0.Coords) : cc0_transform_1 k0_off1_inb numel1_S1 pf i = ![(fld pf 2 (i 0)).toNat, 0, tile pf i] := by
  unfold cc0_transform_1 tile
  exact (congrArg₂ (fun v u : BitVec 32 => ![v.toNat, 0, (Scalar.select (Scalar.cmpi .eq u 1#32) (BitVec.ofNat 32 (i 1).val) 27#32).toNat]) (at_eq pf i 2 numel1_S1) (at_eq pf i 6 numel1_S1)).trans
    (congrArg (fun x => ![(fld pf 2 (i 0)).toNat, 0, x]) (sel_val (i 1) (fld pf 6 (i 0))))

/-- The index map in terms of the table's fields. -/
theorem ix_2 (pf : pre0.Contents (Elt F)) (i : grid0.Coords) : cc0_transform_2 k0_off1_inb numel1_S1 pf i = ![(fld pf 2 (i 0)).toNat, 0, tile pf i] := by
  unfold cc0_transform_2 tile
  exact (congrArg₂ (fun v u : BitVec 32 => ![v.toNat, 0, (Scalar.select (Scalar.cmpi .eq u 1#32) (BitVec.ofNat 32 (i 1).val) 27#32).toNat]) (at_eq pf i 2 numel1_S1) (at_eq pf i 6 numel1_S1)).trans
    (congrArg (fun x => ![(fld pf 2 (i 0)).toNat, 0, x]) (sel_val (i 1) (fld pf 6 (i 0))))

/-- The index map in terms of the table's fields. -/
theorem ix_3 (pf : pre0.Contents (Elt F)) (i : grid0.Coords) : cc0_transform_3 k0_off1_inb numel1_S1 pf i = ![(fld pf 2 (i 0)).toNat, tile pf i, 0] := by
  unfold cc0_transform_3 tile
  exact (congrArg₂ (fun v u : BitVec 32 => ![v.toNat, (Scalar.select (Scalar.cmpi .eq u 1#32) (BitVec.ofNat 32 (i 1).val) 27#32).toNat, 0]) (at_eq pf i 2 numel1_S1) (at_eq pf i 6 numel1_S1)).trans
    (congrArg (fun x => ![(fld pf 2 (i 0)).toNat, x, 0]) (sel_val (i 1) (fld pf 6 (i 0))))

/-- The index maps name blocks inside their arrays if the table's fields are block numbers of them. -/
theorem ok_of (pf : pre0.Contents (Elt F)) (h0 : ∀ w, (fld pf 0 w).toNat < 18) (h1 : ∀ w, (fld pf 1 w).toNat < 18) (h2 : ∀ w, (fld pf 2 w).toNat < 8) : ok0 pf := by
  refine ⟨fun i => ?_, fun i => ?_, fun i => ?_, fun i => ?_, fun i => ?_⟩
  · have hb := h1 (i 0)
    refine ⟨?_, .inr (.inl (.inr ⟨Nat.le_refl 2, rfl, .inl ⟨?_, ?_⟩⟩))⟩
    · rw [ix_0]; intro a; fin_cases a
      · show ((fld pf 1 (i 0)).toNat + 1) * 1024 ≤ 18432; omega
      · show (0 + 1) * 2048 ≤ 2048; omega
    · show EltTy.packing .bf16 ∣ cc0_transform_0 k0_off1_inb numel1_S1 pf i 0 * 1024
      exact Dvd.dvd.mul_left (by decide) _
    · show EltTy.packing .bf16 ∣ 1024
      decide
  · have hb := h2 (i 0); have ht := tile_lt pf i
    refine ⟨?_, .inl rfl⟩
    rw [ix_1]; intro a; fin_cases a
    · show ((fld pf 2 (i 0)).toNat + 1) * 1 ≤ 8; omega
    · show (0 + 1) * 2048 ≤ 2048; omega
    · show (tile pf i + 1) * 256 ≤ 7168; omega
  · have hb := h2 (i 0); have ht := tile_lt pf i
    refine ⟨?_, .inl rfl⟩
    rw [ix_2]; intro a; fin_cases a
    · show ((fld pf 2 (i 0)).toNat + 1) * 1 ≤ 8; omega
    · show (0 + 1) * 2048 ≤ 2048; omega
    · show (tile pf i + 1) * 256 ≤ 7168; omega
  · have hb := h2 (i 0); have ht := tile_lt pf i
    refine ⟨?_, .inl rfl⟩
    rw [ix_3]; intro a; fin_cases a
    · show ((fld pf 2 (i 0)).toNat + 1) * 1 ≤ 8; omega
    · show (tile pf i + 1) * 256 ≤ 7168; omega
    · show (0 + 1) * 2048 ≤ 2048; omega
  · have hb := h0 (i 0)
    refine ⟨?_, .inl rfl⟩
    rw [ix_4]; intro a; fin_cases a
    · show ((fld pf 0 (i 0)).toNat + 1) * 1024 ≤ 18432; omega
    · show (0 + 1) * 2048 ≤ 2048; omega

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window holds the point's block before the body runs. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds the point's block before the body runs. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds the point's block before the body runs. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds the point's block before the body runs. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of this window at a point. -/
abbrev ms0 (hO : Ok m) (t : Fin (cfgM m hO).N) : Memref sig .tc .vmem S1024x2048 .bf16 := spec0_0.stage ((cfgM m hO).slots t 0)
/-- It is a whole buffer. -/
abbrev hs0 (hO : Ok m) (t : Fin (cfgM m hO).N) : (ms0 m hO t).IsWhole := hstage0_0 (((cfgM m hO).slots t 0).cast nbuf0_0)
/-- The staging buffer of this window at a point. -/
abbrev ms1 (hO : Ok m) (t : Fin (cfgM m hO).N) : Memref sig .tc .vmem S1x2048x256 .f32 := spec0_1.stage ((cfgM m hO).slots t 1)
/-- It is a whole buffer. -/
abbrev hs1 (hO : Ok m) (t : Fin (cfgM m hO).N) : (ms1 m hO t).IsWhole := hstage0_1 (((cfgM m hO).slots t 1).cast nbuf0_1)
/-- The staging buffer of this window at a point. -/
abbrev ms2 (hO : Ok m) (t : Fin (cfgM m hO).N) : Memref sig .tc .vmem S1x2048x256 .f32 := spec0_2.stage ((cfgM m hO).slots t 2)
/-- It is a whole buffer. -/
abbrev hs2 (hO : Ok m) (t : Fin (cfgM m hO).N) : (ms2 m hO t).IsWhole := hstage0_2 (((cfgM m hO).slots t 2).cast nbuf0_2)
/-- The staging buffer of this window at a point. -/
abbrev ms3 (hO : Ok m) (t : Fin (cfgM m hO).N) : Memref sig .tc .vmem S1x256x2048 .f32 := spec0_3.stage ((cfgM m hO).slots t 3)
/-- It is a whole buffer. -/
abbrev hs3 (hO : Ok m) (t : Fin (cfgM m hO).N) : (ms3 m hO t).IsWhole := hstage0_3 (((cfgM m hO).slots t 3).cast nbuf0_3)
/-- The staging buffer of this window at a point. -/
abbrev ms4 (hO : Ok m) (t : Fin (cfgM m hO).N) : Memref sig .tc .vmem S1024x2048 .f32 := spec0_4.stage ((cfgM m hO).slots t 4)
/-- It is a whole buffer. -/
abbrev hs4 (hO : Ok m) (t : Fin (cfgM m hO).N) : (ms4 m hO t).IsWhole := hstage0_4 (((cfgM m hO).slots t 4).cast nbuf0_4)

/-! ## The output block, point by point -/

/-- What the body leaves in the output block at point `t`, having found `o` there. -/
def stepVal (hO : Ok m) (c : Dev nD) (t : Fin (cfgM m hO).N) (o : Vec F S1024x2048 .f32) : Vec F S1024x2048 .f32 :=
  bodyVal (grid0.coords t) (fld (tbl m) 3 (grid0.coords t 0)) (fld (tbl m) 4 (grid0.coords t 0)) (fld (tbl m) 5 (grid0.coords t 0)) (fld (tbl m) 6 (grid0.coords t 0))
    (iblk m hO c 0 t) (iblk m hO c 1 t) (iblk m hO c 2 t) (iblk m hO c 3 t) o

/-- The output block after point `n`. -/
def outs (hO : Ok m) (c : Dev nD) : (n : ℕ) → n < (cfgM m hO).N → Vec F S1024x2048 .f32
  | 0, h => stepVal m hO c ⟨0, h⟩ k0_pay4
  | n + 1, h => stepVal m hO c ⟨n + 1, h⟩ (outs hO c n (Nat.lt_of_succ_lt h))

/-- The output block before point `n`, where the point does not open a block. -/
def prev (hO : Ok m) (c : Dev nD) (t : Fin (cfgM m hO).N) : Vec F S1024x2048 .f32 :=
  if h : t.val = 0 then k0_pay4 else outs m hO c (t.val - 1) (Nat.lt_of_le_of_lt (Nat.sub_le _ _) t.isLt)

/-- The output block after a point is the step from the block before it. -/
theorem outs_eq (hO : Ok m) (c : Dev nD) (t : Fin (cfgM m hO).N) : outs m hO c t.val t.isLt = stepVal m hO c t (prev m hO c t) := by
  obtain ⟨n, h⟩ := t
  cases n with
  | zero => rfl
  | succ n => rfl

/-- The item of a point that opens a block is told to zero it, and the point is the item's first. -/
def Opens : Prop := fld (tbl m) 5 0 = 1#32 ∧ ∀ (w : ℕ) (h : w + 1 < 26), fld (tbl m) 0 ⟨w + 1, h⟩ ≠ fld (tbl m) 0 ⟨w, Nat.lt_of_succ_lt h⟩ → fld (tbl m) 5 ⟨w + 1, h⟩ = 1#32

/-- When a point zeroes its block. -/
theorem cond1_iff (i : grid0.Coords) (v : BitVec 32) : k0_cond1 i v = 1#1 ↔ v = 1#32 ∧ (i 1).val = 0 := by
  have hb : ∀ (a b : Bool), Scalar.cmpi .ne (Scalar.extui (Scalar.andi (BitVec.ofBool a) (BitVec.ofBool b)) : BitVec 32) 0#32 = 1#1 ↔ a = true ∧ b = true := by decide
  have hj : ∀ j : Fin 28, (BitVec.ofNat 32 j.val == 0#32) = true ↔ j.val = 0 := by decide +kernel
  exact (hb (v == 1#32) (BitVec.ofNat 32 (i 1).val == 0#32)).trans (and_congr beq_iff_eq (hj (i 1)))

/-- Where the block is zeroed the step does not read it. -/
theorem stepVal_open (hO : Ok m) (c : Dev nD) (t : Fin (cfgM m hO).N) (o o' : Vec F S1024x2048 .f32)
    (h : k0_cond1 (grid0.coords t) (fld (tbl m) 5 (grid0.coords t 0)) = 1#1) : stepVal m hO c t o = stepVal m hO c t o' := by
  unfold stepVal bodyVal
  rw [show val1 (grid0.coords t) (fld (tbl m) 5 (grid0.coords t 0)) o = val1 (grid0.coords t) (fld (tbl m) 5 (grid0.coords t 0)) o' from by
    unfold val1; rw [if_pos h, if_pos h]]

/-- The item of a point. -/
theorem coords0 (t : Fin grid0.N) : (grid0.coords t 0).val = t.val / 28 % 26 := Pipeline.Grid.coords_val t 0 (by decide) rfl
/-- The hidden tile of a point. -/
theorem coords1 (t : Fin grid0.N) : (grid0.coords t 1).val = t.val / 1 % 28 := Pipeline.Grid.coords_val t 1 (by decide) rfl

/-- If no condition of the body holds, the body leaves the block as found. -/
theorem bodyVal_idle (i : grid0.Coords) (v2 v5 v8 v11 : BitVec 32) (x0 : Vec F S1024x2048 .bf16) (x1 : Vec F S1x2048x256 .f32) (x2 : Vec F S1x2048x256 .f32) (x3 : Vec F S1x256x2048 .f32) (o : Vec F S1024x2048 .f32)
    (c1 : k0_cond1 i v8 ≠ 1#1) (c2 : k0_cond2 v2 v5 v11 ≠ 1#1) (c3 : k0_cond3 v2 v5 v11 ≠ 1#1) (c4 : k0_cond4 v2 v5 v11 ≠ 1#1) (c5 : k0_cond5 v2 v5 v11 ≠ 1#1) (c6 : k0_cond6 v2 v5 v11 ≠ 1#1) (c7 : k0_cond7 v2 v5 v11 ≠ 1#1) (c8 : k0_cond8 v2 v5 v11 ≠ 1#1) (c9 : k0_cond9 v2 v5 v11 ≠ 1#1) (c10 : k0_cond10 v2 v5 v11 ≠ 1#1) (c11 : k0_cond11 v2 v5 v11 ≠ 1#1) : bodyVal i v2 v5 v8 v11 x0 x1 x2 x3 o = o := by
  have e1 : val1 i v8 o = o := if_neg c1
  have e2 : val2 v2 v5 v11 x0 x1 x2 x3 o = o := if_neg c2
  have e3 : val3 v2 v5 v11 x0 x1 x2 x3 o = o := if_neg c3
  have e4 : val4 v2 v5 v11 x0 x1 x2 x3 o = o := if_neg c4
  have e5 : val5 v2 v5 v11 x0 x1 x2 x3 o = o := if_neg c5
  have e6 : val6 v2 v5 v11 x0 x1 x2 x3 o = o := if_neg c6
  have e7 : val7 v2 v5 v11 x0 x1 x2 x3 o = o := if_neg c7
  have e8 : val8 v2 v5 v11 x0 x1 x2 x3 o = o := if_neg c8
  have e9 : val9 v2 v5 v11 x0 x1 x2 x3 o = o := if_neg c9
  have e10 : val10 v2 v5 v11 x0 x1 x2 x3 o = o := if_neg c10
  have e11 : val11 v2 v5 v11 x0 x1 x2 x3 o = o := if_neg c11
  unfold bodyVal
  rw [e1, e2, e3, e4, e5, e6, e7, e8, e9, e10, e11]

/-- Which windows a point leaves alone. -/
theorem idle_at (a : (pcfg0 (F := F)).Adm) : (cfg0 a).idle = idle0 a.1 := by
  unfold cfg0 pcfg0 Pipeline.PCfg.at Pipeline.PCfg.ofSpecs
  with_reducible rfl

/-- A point leaves the output block alone when none of its conditions holds. -/
theorem idle0_eq (pf : pre0.Contents (Elt F)) (i : grid0.Coords) : idle0 pf 4 i =
    (!(k0_cond1 i (fld pf 5 (i 0)) == 1#1) && !(k0_cond2 (fld pf 3 (i 0)) (fld pf 4 (i 0)) (fld pf 6 (i 0)) == 1#1) && !(k0_cond3 (fld pf 3 (i 0)) (fld pf 4 (i 0)) (fld pf 6 (i 0)) == 1#1) && !(k0_cond4 (fld pf 3 (i 0)) (fld pf 4 (i 0)) (fld pf 6 (i 0)) == 1#1) && !(k0_cond5 (fld pf 3 (i 0)) (fld pf 4 (i 0)) (fld pf 6 (i 0)) == 1#1) && !(k0_cond6 (fld pf 3 (i 0)) (fld pf 4 (i 0)) (fld pf 6 (i 0)) == 1#1) && !(k0_cond7 (fld pf 3 (i 0)) (fld pf 4 (i 0)) (fld pf 6 (i 0)) == 1#1) && !(k0_cond8 (fld pf 3 (i 0)) (fld pf 4 (i 0)) (fld pf 6 (i 0)) == 1#1) && !(k0_cond9 (fld pf 3 (i 0)) (fld pf 4 (i 0)) (fld pf 6 (i 0)) == 1#1) && !(k0_cond10 (fld pf 3 (i 0)) (fld pf 4 (i 0)) (fld pf 6 (i 0)) == 1#1) && !(k0_cond11 (fld pf 3 (i 0)) (fld pf 4 (i 0)) (fld pf 6 (i 0)) == 1#1)) := by
  have e3 := atD_eq pf i 3
  have e4 := atD_eq pf i 4
  have e5 := atD_eq pf i 5
  have e6 := atD_eq pf i 6
  simp only [show (26 * ((3 : Fin 7).val)) = 78 from rfl, show (26 * ((4 : Fin 7).val)) = 104 from rfl, show (26 * ((5 : Fin 7).val)) = 130 from rfl, show (26 * ((6 : Fin 7).val)) = 156 from rfl] at e3 e4 e5 e6
  dsimp only [idle0]
  rw [e3, e4, e5, e6]

/-- At a point the output window is idle the body leaves the block as found. -/
theorem stepVal_idle (hO : Ok m) (c : Dev nD) (t : Fin (cfgM m hO).N) (o : Vec F S1024x2048 .f32)
    (h : (cfgM m hO).idle 4 (grid0.coords t) = true) : stepVal m hO c t o = o ∧ k0_cond1 (grid0.coords t) (fld (tbl m) 5 (grid0.coords t 0)) ≠ 1#1 := by
  have h := (congrFun (congrFun (idle_at (adm m hO)) 4) (grid0.coords t)).symm.trans h
  rw [idle0_eq] at h
  simp only [Bool.and_eq_true, Bool.not_eq_true', beq_eq_false_iff_ne, ne_eq] at h
  obtain ⟨⟨⟨⟨⟨⟨⟨⟨⟨⟨c1, c2⟩, c3⟩, c4⟩, c5⟩, c6⟩, c7⟩, c8⟩, c9⟩, c10⟩, c11⟩ := h
  exact ⟨bodyVal_idle _ _ _ _ _ _ _ _ _ o c1 c2 c3 c4 c5 c6 c7 c8 c9 c10 c11, c1⟩

/-- A point after one that wrote its block back opens a block: its item zeroes it. -/
theorem open_of_flush (hO : Ok m) (hop : Opens m) (t : Fin (cfgM m hO).N) (ht : t.val ≠ 0)
    (hf : ((cfgM m hO).win 4).flush ⟨t.val - 1, Nat.lt_of_le_of_lt (Nat.sub_le _ _) t.isLt⟩ = true) :
    k0_cond1 (grid0.coords t) (fld (tbl m) 5 (grid0.coords t 0)) = 1#1 := by
  have hN : t.val < 728 := lt_of_lt_of_eq t.isLt N_0
  have hN' : (cfgM m hO).N = 728 := N_0
  have hG : grid0.N = 728 := N_0
  rw [cond1_iff]
  have hne : fld (tbl m) 0 (grid0.coords t 0) ≠ fld (tbl m) 0 (grid0.coords (⟨t.val - 1, by omega⟩ : Fin grid0.N) 0) := by
    intro he
    unfold Pipeline.Window.flush at hf
    rw [Bool.and_eq_true, Bool.or_eq_true, decide_eq_true_eq, decide_eq_true_eq] at hf
    rcases hf.2 with h | ⟨h, hx⟩
    · have h' : t.val - 1 + 1 = (cfgM m hO).N := h
      omega
    · apply hx
      have ht' : (⟨t.val - 1 + 1, h⟩ : Fin grid0.N) = t := Fin.ext (by show t.val - 1 + 1 = t.val; omega)
      show cc0_transform_4 k0_off1_inb numel1_S1 (tbl m) (grid0.coords ⟨t.val - 1 + 1, h⟩) = cc0_transform_4 k0_off1_inb numel1_S1 (tbl m) (grid0.coords ⟨t.val - 1, _⟩)
      rw [ht', ix_4, ix_4, he]
  have a0 := coords0 t
  have b0 := coords0 (⟨t.val - 1, by omega⟩ : Fin grid0.N)
  have a1 := coords1 t
  have hd : t.val % 28 = 0 := by
    by_contra hd
    exact hne (congrArg (fld (tbl m) 0) (Fin.ext (by rw [a0, b0]; show _ = (t.val - 1) / 28 % 26; omega)))
  refine ⟨?_, by rw [a1]; omega⟩
  have hw : t.val / 28 - 1 + 1 < 26 := by omega
  have ea : grid0.coords t 0 = (⟨t.val / 28 - 1 + 1, hw⟩ : Fin 26) := Fin.ext (by rw [a0]; show _ = t.val / 28 - 1 + 1; omega)
  have eb : grid0.coords (⟨t.val - 1, by omega⟩ : Fin grid0.N) 0 = (⟨t.val / 28 - 1, by omega⟩ : Fin 26) := Fin.ext (by rw [b0]; show (t.val - 1) / 28 % 26 = t.val / 28 - 1; omega)
  rw [ea] at hne ⊢
  rw [eb] at hne
  exact hop.2 _ hw hne

/-- The first point zeroes its block. -/
theorem open_zero (hO : Ok m) (hop : Opens m) (t : Fin (cfgM m hO).N) (ht : t.val = 0) :
    k0_cond1 (grid0.coords t) (fld (tbl m) 5 (grid0.coords t 0)) = 1#1 := by
  rw [cond1_iff]
  have a0 := coords0 t
  have a1 := coords1 t
  have ea : grid0.coords t 0 = (0 : Fin 26) := Fin.ext (by rw [a0, ht]; rfl)
  exact ⟨by rw [ea]; exact hop.1, by rw [a1, ht]⟩

/-! ## The proof data -/

/-- The pipeline's data: the arrays at entry and what each window holds after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO c t.val t.isLt
  Φ t := iprop(Pipeline.ΦA spec0 c ∗ Pipeline.ΦT pre0 (tbl m) c)
  q _ := fullShare
  owed _ := 0

/-- The arrays at entry are what the host operations left. -/
theorem A_eq (hO : Ok m) (c : Dev nD) (w : Fin (cfgM m hO).W) : (dats m hO 0 c).A w = V m c (Pipeline.arrRef spec0 w) := by
  dsimp only [dats]

/-- What this window holds after a point. -/
theorem after0 (hO : Ok m) (c : Dev nD) (t : Fin (cfgM m hO).N) : (dats m hO 0 c).after 0 t = iblk m hO c 0 t := by dsimp only [dats]; try rfl
/-- What this window holds before a point's body. -/
theorem before0 (hO : Ok m) (c : Dev nD) (t : Fin (cfgM m hO).N) (d) : (dats m hO 0 c).before 0 t d = iblk m hO c 0 t :=
  before0_of m hO (dats m hO 0 c) (A_eq m hO c 0) (after0 m hO c) t d

/-- What this window holds after a point. -/
theorem after1 (hO : Ok m) (c : Dev nD) (t : Fin (cfgM m hO).N) : (dats m hO 0 c).after 1 t = iblk m hO c 1 t := by dsimp only [dats]; try rfl
/-- What this window holds before a point's body. -/
theorem before1 (hO : Ok m) (c : Dev nD) (t : Fin (cfgM m hO).N) (d) : (dats m hO 0 c).before 1 t d = iblk m hO c 1 t :=
  before1_of m hO (dats m hO 0 c) (A_eq m hO c 1) (after1 m hO c) t d

/-- What this window holds after a point. -/
theorem after2 (hO : Ok m) (c : Dev nD) (t : Fin (cfgM m hO).N) : (dats m hO 0 c).after 2 t = iblk m hO c 2 t := by dsimp only [dats]; try rfl
/-- What this window holds before a point's body. -/
theorem before2 (hO : Ok m) (c : Dev nD) (t : Fin (cfgM m hO).N) (d) : (dats m hO 0 c).before 2 t d = iblk m hO c 2 t :=
  before2_of m hO (dats m hO 0 c) (A_eq m hO c 2) (after2 m hO c) t d

/-- What this window holds after a point. -/
theorem after3 (hO : Ok m) (c : Dev nD) (t : Fin (cfgM m hO).N) : (dats m hO 0 c).after 3 t = iblk m hO c 3 t := by dsimp only [dats]; try rfl
/-- What this window holds before a point's body. -/
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What this window holds after a point. -/
theorem after4 (hO : Ok m) (c : Dev nD) (t : Fin (cfgM m hO).N) : (dats m hO 0 c).after 4 t = outs m hO c t.val t.isLt := by dsimp only [dats]; try rfl

/-- What the body leaves, from what it finds: at every point the recorded state. -/
theorem step_before (hO : Ok m) (hop : Opens m) (c : Dev nD) : ∀ (n : ℕ) (h : n < (cfgM m hO).N) (d),
    stepVal m hO c ⟨n, h⟩ ((dats m hO 0 c).before 4 ⟨n, h⟩ d) = outs m hO c n h
  | 0, h, d => stepVal_open m hO c _ _ _ (open_zero m hO hop ⟨0, h⟩ rfl)
  | n + 1, h, d => by
    have hb := (dats m hO 0 c).before_of_pos 4 ⟨n + 1, h⟩ (Nat.succ_ne_zero n) (by unfold Pipeline.Window.fetch; rfl) d
    by_cases hf : ((cfgM m hO).win 4).flush ⟨n, Nat.lt_of_succ_lt h⟩ = true
    · exact stepVal_open m hO c _ _ _ (open_of_flush m hO hop ⟨n + 1, h⟩ (Nat.succ_ne_zero n) hf)
    · refine congrArg (stepVal m hO c ⟨n + 1, h⟩) ((hb.trans (if_neg hf)).trans ?_)
      show (dats m hO 0 c).left 4 ⟨n, Nat.lt_of_succ_lt h⟩ d = outs m hO c n (Nat.lt_of_succ_lt h)
      unfold Dat.left
      cases hi : (cfgM m hO).idle 4 ((cfgM m hO).grid.coords ⟨n, Nat.lt_of_succ_lt h⟩) with
      | false => exact after4 m hO c ⟨n, Nat.lt_of_succ_lt h⟩
      | true => exact ((stepVal_idle m hO c ⟨n, Nat.lt_of_succ_lt h⟩ _ hi).1.symm).trans (step_before hO hop c n (Nat.lt_of_succ_lt h) d)

/-! ## The body at a generic point -/

/-- The body at point `t`. -/
abbrev bodyAt (a : (pcfg0 (F := F)).Adm) (t : Fin (cfg0 a).N) : Prog (TpuEff nD τ sig (Elt F) Λ₀ .tc) PUnit :=
  cc0_moe_experts (grid0.coords t) (Memref.whole main_v125) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- What the body at a point is given. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- What the body at a point gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The output's buffer after the body, as the pipeline takes it back. -/
theorem leaves4 (hO : Ok m) (hop : Opens m) (c : Dev nD) (t : Fin (cfgM m hO).N) (d) :
    owns (c : Thread nD τ) (ms4 m hO t) fullShare (stepVal m hO c t ((dats m hO 0 c).before 4 t d)) ⊢ ((dats m hO 0 c).leavesExact 4 t : sProp 𝕄) := by
  have hs := step_before m hO hop c t.val t.isLt d
  have ha : owns (c : Thread nD τ) (ms4 m hO t) fullShare (stepVal m hO c t ((dats m hO 0 c).before 4 t d))
      ⊢ (owns (c : Thread nD τ) (ms4 m hO t) fullShare ((dats m hO 0 c).after 4 t) : sProp 𝕄) := by
    rw [after4]; exact Entails.of_eq (congrArg (owns (c : Thread nD τ) (ms4 m hO t) fullShare) hs)
  unfold Dat.leavesExact
  cases hi : (cfgM m hO).idle 4 ((cfgM m hO).grid.coords t) with
  | false => exact ha
  | true =>
    cases hf : ((cfgM m hO).win 4).flush t with
    | true => exact ha
    | false =>
      refine (Entails.of_eq (congrArg (owns (c : Thread nD τ) (ms4 m hO t) fullShare) (stepVal_idle m hO c t _ hi).1)).trans ?_
      show _ ⊢ iprop(∃ d, owns (c : Thread nD τ) (ms4 m hO t) fullShare ((dats m hO 0 c).before 4 t d))
      iintro H
      iexists d
      iexact H

set_option maxHeartbeats 1600000 in
/-- The body at a point does what the data say. -/
theorem sound_body (hO : Ok m) (hop : Opens m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq]
  rw [show (dats m hO 0 c).leavesExact 0 t = owns (c : Thread nD τ) (ms0 m hO t) fullShare ((dats m hO 0 c).after 0 t) from rfl, after0]
  rw [show (dats m hO 0 c).leavesExact 1 t = owns (c : Thread nD τ) (ms1 m hO t) fullShare ((dats m hO 0 c).after 1 t) from rfl, after1]
  rw [show (dats m hO 0 c).leavesExact 2 t = owns (c : Thread nD τ) (ms2 m hO t) fullShare ((dats m hO 0 c).after 2 t) from rfl, after2]
  rw [show (dats m hO 0 c).leavesExact 3 t = owns (c : Thread nD τ) (ms3 m hO t) fullShare ((dats m hO 0 c).after 3 t) from rfl, after3]
  iintro ⟨⟨HA, HT⟩, Ho, ⟨%d0, H0⟩, ⟨%d1, H1⟩, ⟨%d2, H2⟩, ⟨%d3, H3⟩, ⟨%d4, H4⟩⟩
  iapply (body_wp c (grid0.coords t) tbM htbM (ms0 m hO t) (hs0 m hO t) (ms1 m hO t) (hs1 m hO t) (ms2 m hO t) (hs2 m hO t) (ms3 m hO t) (hs3 m hO t) (ms4 m hO t) (hs4 m hO t)
    (iblk m hO c 0 t) (iblk m hO c 1 t) (iblk m hO c 2 t) (iblk m hO c 3 t) ((dats m hO 0 c).before 4 t d4) (tbl m 0) Set.univ _)
  isplitl [H0]; · iexact H0
  isplitl [H1]; · iexact H1
  isplitl [H2]; · iexact H2
  isplitl [H3]; · iexact H3
  isplitl [H4]; · iexact H4
  isplitl [HT]; · iexact HT
  rw [word_eq, word_eq, word_eq, word_eq]
  iintro ⟨H0, H1, H2, H3, H4, HT⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  iapply (leaves4 m hO hop c t d4)
  iexact H4

/-- The body the pipeline calls is the body at that point. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The pipeline's condition on the body. -/
theorem body_obligation (hO : Ok m) (hop : Opens m) (c : Dev nD) : BodyObligation (dats (F := F) m hO 0 c) (defs₀ (F := F)) Variants.none () Set.univ := fun t => by
  rw [bigSep_W0, bigSep_W0, defs₀_row m hO]
  exact triple_restated (sound_body m hO hop c t) rfl .rfl fun _ => .rfl

/-- What the launch hands the pipeline. -/
theorem hin (hO : Ok m) (c : Dev nD) : iprop(Pipeline.ΦA spec0 c ∗ Pipeline.ΦT pre0 (tbl m) c) ⊢ (dats m hO 0 c).Φ 0 := Idealize.SL.BI.Entails.refl _

/-- What the pipeline hands back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨HA, -⟩
  iexact HA

/-! ## The run -/

set_option backward.isDefEq.respectTransparency.types false in
/-- The run of the whole program, as the pipeline states it. -/
theorem run_main_quiescent (hO : Ok m) (hop : Opens m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hop c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run: every fair execution ends, with the output array at what its write-backs put there, the arguments as launched,
and every semaphore counter at zero. -/
theorem run_all (hO : Ok m) (hop : Opens m) : θ_run defs (onTc (τ := τ) (main (F := F))) ⟨m, fun _ => 0, ρ⟩ (fun r => (∀ c : Dev nD,
      r.2.mem ((c.tc : Thread nD τ).loc main_v129) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4,
      ((h.1 c).2 main_arg0 (by decide : main_arg0 ∈ Pipeline.restRefs sig spec0)).trans (V_main_arg0 m c),
      (((h.1 c).1 0).trans ((dats m hO 0 c).arrAt_in 0 rfl _)).trans ((A_eq m hO c 0).trans (V_main_arg1 m c)),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main_quiescent m ρ hO hop)

end Cert.Kernel4Ideal.Hand
end
-- ==== Proof.Experts.Step.lean ====
module

public import proofs.«01_k».proof.Proof.Experts.Run
public import Idealize.ShloMosaic.Lib.Pointwise
public import Idealize.ShloMosaic.Lib.Pipeline.ValueKit

/-! # What one point of the expert call adds to its output block, in exact arithmetic. -/

@[expose] public section
set_option maxRecDepth 16384
noncomputable section
namespace Cert.Kernel4Ideal.Hand
open Cert.Kernel4Ideal Cert.Kernel4Ideal.Gen
open Idealize
open Idealize.ShloMosaic
open Idealize.ShloMosaic.TcCoe

/-- One hidden element: the gate's inner product times its logistic value, times the other inner product. -/
def hid (x g u : Fin 2048 → EReal) : EReal :=
  (∑ c, x c * g c) * Ideal.div 1 (1 + Ideal.exp (-(∑ c, x c * g c))) * ∑ c, x c * u c

/-- What one tile of the hidden dimension contributes to one output element. -/
def part (x : Fin 2048 → EReal) (G U : Vec Ideal S1x2048x256 .f32) (D : Vec Ideal S1x256x2048 .f32) (d : Fin 2048) : EReal :=
  ∑ k : Fin 256, hid x (fun c => G (ix3 0 c k)) (fun c => U (ix3 0 c k)) * D (ix3 0 k d)

variable (x0 : Vec Ideal S1024x2048 .bf16) (x1 x2 : Vec Ideal S1x2048x256 .f32) (x3 : Vec Ideal S1x256x2048 .f32) (o : Vec Ideal S1024x2048 .f32)

/-- The zeroed block is zero. -/
theorem zero_apply (r : Fin 1024) (d : Fin 2048) : (k0_pay4 (F := Ideal) : Vec Ideal S1024x2048 .f32) (ix2 r d) = 0 := by
  pointwise [k0_pay4]

/-- A rewritten rectangle of rows, read at a row and a column. -/
theorem upd_apply (lo n : ℕ) (inb : ∀ a, (![lo, 0] : Fin 2 → ℕ) a + (![n, 2048] : Fin 2 → ℕ) a ≤ S1024x2048.size a)
    (w : Vec Ideal ⟨2, ![n, 2048]⟩ .f32) (r : Fin 1024) (d : Fin 2048) :
    upd (F := Ideal) ![lo, 0] ![n, 2048] o w (ix2 r d) = if h : lo ≤ r.val ∧ r.val < lo + n then w (ix2 ⟨r.val - lo, by omega⟩ d) else o (ix2 r d) := by
  unfold upd
  by_cases h : lo ≤ r.val ∧ r.val < lo + n
  · have h' : ∀ a, (![lo, 0] : Fin 2 → ℕ) a ≤ ((ix2 r d : S1024x2048.Idx) a).val ∧ ((ix2 r d : S1024x2048.Idx) a).val < (![lo, 0] : Fin 2 → ℕ) a + (![n, 2048] : Fin 2 → ℕ) a := by
      intro a; fin_cases a
      · exact h
      · exact ⟨Nat.zero_le _, by show d.val < 0 + 2048; omega⟩
    rw [dif_pos h', dif_pos h]
    refine congrArg w (funext fun a => Fin.ext ?_)
    fin_cases a <;> rfl
  · have h' : ¬ ∀ a, (![lo, 0] : Fin 2 → ℕ) a ≤ ((ix2 r d : S1024x2048.Idx) a).val ∧ ((ix2 r d : S1024x2048.Idx) a).val < (![lo, 0] : Fin 2 → ℕ) a + (![n, 2048] : Fin 2 → ℕ) a := fun H => h (H 0)
    rw [dif_neg h', dif_neg h]

/-- A rectangle of rows read at a row of it. -/
theorem sub_apply {e : EltTy} (lo n : ℕ) (inb : ∀ a, (![lo, 0] : Fin 2 → ℕ) a + (![n, 2048] : Fin 2 → ℕ) a ≤ S1024x2048.size a)
    (x : Vec Ideal S1024x2048 e) (r : Fin 1024) (h : lo ≤ r.val ∧ r.val < lo + n) (d : Fin 2048) :
    sub ![lo, 0] ![n, 2048] inb x (ix2 ⟨r.val - lo, by omega⟩ d) = x (ix2 r d) := by
  unfold sub
  refine congrArg x (funext fun a => Fin.ext ?_)
  fin_cases a
  · show lo + 1 * (r.val - lo) = r.val; omega
  · show 0 + 1 * d.val = d.val; omega

/-- One step on a rectangle of rows adds the tile's part to each of its elements and leaves the other rows. -/
theorem step_rows (lo n : ℕ) (inb : ∀ a, (![lo, 0] : Fin 2 → ℕ) a + (![n, 2048] : Fin 2 → ℕ) a ≤ S1024x2048.size a)
    (pay : Vec Ideal S1x2048x256 .f32 → Vec Ideal S1x2048x256 .f32 → Vec Ideal S1x256x2048 .f32 → Vec Ideal ⟨2, ![n, 2048]⟩ .bf16 → Vec Ideal ⟨2, ![n, 2048]⟩ .f32 → Vec Ideal ⟨2, ![n, 2048]⟩ .f32)
    (hp : ∀ (xs : Vec Ideal ⟨2, ![n, 2048]⟩ .bf16) (os : Vec Ideal ⟨2, ![n, 2048]⟩ .f32) (r : Fin n) (d : Fin 2048),
      pay x1 x2 x3 xs os (ix2 r d) = os (ix2 r d) + part (fun c => xs (ix2 r c)) x1 x2 x3 d)
    (r : Fin 1024) (d : Fin 2048) :
    upd (F := Ideal) ![lo, 0] ![n, 2048] o (pay x1 x2 x3 (sub ![lo, 0] ![n, 2048] inb x0) (sub ![lo, 0] ![n, 2048] inb o)) (ix2 r d)
      = if lo ≤ r.val ∧ r.val < lo + n then o (ix2 r d) + part (fun c => x0 (ix2 r c)) x1 x2 x3 d else o (ix2 r d) := by
  rw [upd_apply o lo n inb]
  by_cases h : lo ≤ r.val ∧ r.val < lo + n
  · rw [dif_pos h, if_pos h, hp, sub_apply lo n inb o r h d]
    refine congrArg (fun y => o (ix2 r d) + part y x1 x2 x3 d) (funext fun c => sub_apply lo n inb x0 r h c)
  · rw [dif_neg h, if_neg h]

/-- What this range of rows is stored as, at an element. -/
theorem pay5_apply (xs : Vec Ideal S256x2048 .bf16) (os : Vec Ideal S256x2048 .f32) (r : Fin 256) (d : Fin 2048) :
    k0_pay5 (F := Ideal) x1 x2 x3 xs os (ix2 r d) = os (ix2 r d) + part (fun c => xs (ix2 r c)) x1 x2 x3 d := by
  pointwise [k0_pay5, part, hid]
  simp only [zero_sub]

/-- The part for tiles 0 to 1. -/
theorem val2_apply (r : Fin 1024) (d : Fin 2048) (v2 v5 v11 : BitVec 32) (h : k0_cond2 v2 v5 v11 = 1#1) :
    val2 (F := Ideal) v2 v5 v11 x0 x1 x2 x3 o (ix2 r d)
      = if 0 ≤ r.val ∧ r.val < 0 + 256 then o (ix2 r d) + part (fun c => x0 (ix2 r c)) x1 x2 x3 d else o (ix2 r d) := by
  unfold val2
  rw [if_pos h]
  exact step_rows x0 x1 x2 x3 o 0 256 inb_S1024x2048_S256x2048_0_0 k0_pay5 (pay5_apply x1 x2 x3) r d

/-- What this range of rows is stored as, at an element. -/
theorem pay6_apply (xs : Vec Ideal S512x2048 .bf16) (os : Vec Ideal S512x2048 .f32) (r : Fin 512) (d : Fin 2048) :
    k0_pay6 (F := Ideal) x1 x2 x3 xs os (ix2 r d) = os (ix2 r d) + part (fun c => xs (ix2 r c)) x1 x2 x3 d := by
  pointwise [k0_pay6, part, hid]
  simp only [zero_sub]

/-- The part for tiles 0 to 2. -/
theorem val3_apply (r : Fin 1024) (d : Fin 2048) (v2 v5 v11 : BitVec 32) (h : k0_cond3 v2 v5 v11 = 1#1) :
    val3 (F := Ideal) v2 v5 v11 x0 x1 x2 x3 o (ix2 r d)
      = if 0 ≤ r.val ∧ r.val < 0 + 512 then o (ix2 r d) + part (fun c => x0 (ix2 r c)) x1 x2 x3 d else o (ix2 r d) := by
  unfold val3
  rw [if_pos h]
  exact step_rows x0 x1 x2 x3 o 0 512 inb_S1024x2048_S512x2048_0_0 k0_pay6 (pay6_apply x1 x2 x3) r d

/-- What this range of rows is stored as, at an element. -/
theorem pay7_apply (xs : Vec Ideal S768x2048 .bf16) (os : Vec Ideal S768x2048 .f32) (r : Fin 768) (d : Fin 2048) :
    k0_pay7 (F := Ideal) x1 x2 x3 xs os (ix2 r d) = os (ix2 r d) + part (fun c => xs (ix2 r c)) x1 x2 x3 d := by
  pointwise [k0_pay7, part, hid]
  simp only [zero_sub]

/-- The part for tiles 0 to 3. -/
theorem val4_apply (r : Fin 1024) (d : Fin 2048) (v2 v5 v11 : BitVec 32) (h : k0_cond4 v2 v5 v11 = 1#1) :
    val4 (F := Ideal) v2 v5 v11 x0 x1 x2 x3 o (ix2 r d)
      = if 0 ≤ r.val ∧ r.val < 0 + 768 then o (ix2 r d) + part (fun c => x0 (ix2 r c)) x1 x2 x3 d else o (ix2 r d) := by
  unfold val4
  rw [if_pos h]
  exact step_rows x0 x1 x2 x3 o 0 768 inb_S1024x2048_S768x2048_0_0 k0_pay7 (pay7_apply x1 x2 x3) r d

/-- What this range of rows is stored as, at an element. -/
theorem pay8_apply (xs : Vec Ideal S1024x2048 .bf16) (os : Vec Ideal S1024x2048 .f32) (r : Fin 1024) (d : Fin 2048) :
    k0_pay8 (F := Ideal) x1 x2 x3 xs os (ix2 r d) = os (ix2 r d) + part (fun c => xs (ix2 r c)) x1 x2 x3 d := by
  pointwise [k0_pay8, part, hid]
  simp only [zero_sub]

/-- The part for tiles 0 to 4. -/
theorem val5_apply (r : Fin 1024) (d : Fin 2048) (v2 v5 v11 : BitVec 32) (h : k0_cond5 v2 v5 v11 = 1#1) :
    val5 (F := Ideal) v2 v5 v11 x0 x1 x2 x3 o (ix2 r d)
      = if 0 ≤ r.val ∧ r.val < 0 + 1024 then o (ix2 r d) + part (fun c => x0 (ix2 r c)) x1 x2 x3 d else o (ix2 r d) := by
  unfold val5
  rw [if_pos h]
  exact step_rows x0 x1 x2 x3 o 0 1024 inb_S1024x2048_S1024x2048_0_0 k0_pay8 (pay8_apply x1 x2 x3) r d

/-- What this range of rows is stored as, at an element. -/
theorem pay9_apply (xs : Vec Ideal S256x2048 .bf16) (os : Vec Ideal S256x2048 .f32) (r : Fin 256) (d : Fin 2048) :
    k0_pay9 (F := Ideal) x1 x2 x3 xs os (ix2 r d) = os (ix2 r d) + part (fun c => xs (ix2 r c)) x1 x2 x3 d := by
  pointwise [k0_pay9, part, hid]
  simp only [zero_sub]

/-- The part for tiles 1 to 2. -/
theorem val6_apply (r : Fin 1024) (d : Fin 2048) (v2 v5 v11 : BitVec 32) (h : k0_cond6 v2 v5 v11 = 1#1) :
    val6 (F := Ideal) v2 v5 v11 x0 x1 x2 x3 o (ix2 r d)
      = if 256 ≤ r.val ∧ r.val < 256 + 256 then o (ix2 r d) + part (fun c => x0 (ix2 r c)) x1 x2 x3 d else o (ix2 r d) := by
  unfold val6
  rw [if_pos h]
  exact step_rows x0 x1 x2 x3 o 256 256 inb_S1024x2048_S256x2048_256_0 k0_pay9 (pay9_apply x1 x2 x3) r d

/-- What this range of rows is stored as, at an element. -/
theorem pay10_apply (xs : Vec Ideal S512x2048 .bf16) (os : Vec Ideal S512x2048 .f32) (r : Fin 512) (d : Fin 2048) :
    k0_pay10 (F := Ideal) x1 x2 x3 xs os (ix2 r d) = os (ix2 r d) + part (fun c => xs (ix2 r c)) x1 x2 x3 d := by
  pointwise [k0_pay10, part, hid]
  simp only [zero_sub]

/-- The part for tiles 1 to 3. -/
theorem val7_apply (r : Fin 1024) (d : Fin 2048) (v2 v5 v11 : BitVec 32) (h : k0_cond7 v2 v5 v11 = 1#1) :
    val7 (F := Ideal) v2 v5 v11 x0 x1 x2 x3 o (ix2 r d)
      = if 256 ≤ r.val ∧ r.val < 256 + 512 then o (ix2 r d) + part (fun c => x0 (ix2 r c)) x1 x2 x3 d else o (ix2 r d) := by
  unfold val7
  rw [if_pos h]
  exact step_rows x0 x1 x2 x3 o 256 512 inb_S1024x2048_S512x2048_256_0 k0_pay10 (pay10_apply x1 x2 x3) r d

/-- What this range of rows is stored as, at an element. -/
theorem pay11_apply (xs : Vec Ideal S768x2048 .bf16) (os : Vec Ideal S768x2048 .f32) (r : Fin 768) (d : Fin 2048) :
    k0_pay11 (F := Ideal) x1 x2 x3 xs os (ix2 r d) = os (ix2 r d) + part (fun c => xs (ix2 r c)) x1 x2 x3 d := by
  pointwise [k0_pay11, part, hid]
  simp only [zero_sub]

/-- The part for tiles 1 to 4. -/
theorem val8_apply (r : Fin 1024) (d : Fin 2048) (v2 v5 v11 : BitVec 32) (h : k0_cond8 v2 v5 v11 = 1#1) :
    val8 (F := Ideal) v2 v5 v11 x0 x1 x2 x3 o (ix2 r d)
      = if 256 ≤ r.val ∧ r.val < 256 + 768 then o (ix2 r d) + part (fun c => x0 (ix2 r c)) x1 x2 x3 d else o (ix2 r d) := by
  unfold val8
  rw [if_pos h]
  exact step_rows x0 x1 x2 x3 o 256 768 inb_S1024x2048_S768x2048_256_0 k0_pay11 (pay11_apply x1 x2 x3) r d

/-- What this range of rows is stored as, at an element. -/
theorem pay1_apply (xs : Vec Ideal S256x2048 .bf16) (os : Vec Ideal S256x2048 .f32) (r : Fin 256) (d : Fin 2048) :
    k0_pay1 (F := Ideal) x1 x2 x3 xs os (ix2 r d) = os (ix2 r d) + part (fun c => xs (ix2 r c)) x1 x2 x3 d := by
  pointwise [k0_pay1, part, hid]
  simp only [zero_sub]

/-- The part for tiles 2 to 3. -/
theorem val9_apply (r : Fin 1024) (d : Fin 2048) (v2 v5 v11 : BitVec 32) (h : k0_cond9 v2 v5 v11 = 1#1) :
    val9 (F := Ideal) v2 v5 v11 x0 x1 x2 x3 o (ix2 r d)
      = if 512 ≤ r.val ∧ r.val < 512 + 256 then o (ix2 r d) + part (fun c => x0 (ix2 r c)) x1 x2 x3 d else o (ix2 r d) := by
  unfold val9
  rw [if_pos h]
  exact step_rows x0 x1 x2 x3 o 512 256 inb_S1024x2048_S256x2048_512_0 k0_pay1 (pay1_apply x1 x2 x3) r d

/-- What this range of rows is stored as, at an element. -/
theorem pay2_apply (xs : Vec Ideal S512x2048 .bf16) (os : Vec Ideal S512x2048 .f32) (r : Fin 512) (d : Fin 2048) :
    k0_pay2 (F := Ideal) x1 x2 x3 xs os (ix2 r d) = os (ix2 r d) + part (fun c => xs (ix2 r c)) x1 x2 x3 d := by
  pointwise [k0_pay2, part, hid]
  simp only [zero_sub]

/-- The part for tiles 2 to 4. -/
theorem val10_apply (r : Fin 1024) (d : Fin 2048) (v2 v5 v11 : BitVec 32) (h : k0_cond10 v2 v5 v11 = 1#1) :
    val10 (F := Ideal) v2 v5 v11 x0 x1 x2 x3 o (ix2 r d)
      = if 512 ≤ r.val ∧ r.val < 512 + 512 then o (ix2 r d) + part (fun c => x0 (ix2 r c)) x1 x2 x3 d else o (ix2 r d) := by
  unfold val10
  rw [if_pos h]
  exact step_rows x0 x1 x2 x3 o 512 512 inb_S1024x2048_S512x2048_512_0 k0_pay2 (pay2_apply x1 x2 x3) r d

/-- What this range of rows is stored as, at an element. -/
theorem pay3_apply (xs : Vec Ideal S256x2048 .bf16) (os : Vec Ideal S256x2048 .f32) (r : Fin 256) (d : Fin 2048) :
    k0_pay3 (F := Ideal) x1 x2 x3 xs os (ix2 r d) = os (ix2 r d) + part (fun c => xs (ix2 r c)) x1 x2 x3 d := by
  pointwise [k0_pay3, part, hid]
  simp only [zero_sub]

/-- The part for tiles 3 to 4. -/
theorem val11_apply (r : Fin 1024) (d : Fin 2048) (v2 v5 v11 : BitVec 32) (h : k0_cond11 v2 v5 v11 = 1#1) :
    val11 (F := Ideal) v2 v5 v11 x0 x1 x2 x3 o (ix2 r d)
      = if 768 ≤ r.val ∧ r.val < 768 + 256 then o (ix2 r d) + part (fun c => x0 (ix2 r c)) x1 x2 x3 d else o (ix2 r d) := by
  unfold val11
  rw [if_pos h]
  exact step_rows x0 x1 x2 x3 o 768 256 inb_S1024x2048_S256x2048_768_0 k0_pay3 (pay3_apply x1 x2 x3) r d

/-- What a live point leaves: rows of the tiles `lo … hi` take up the tile's part, the others are as found (or zero, where
the point zeroes the block first). -/
theorem body_live (i : grid0.Coords) (lo hi : ℕ) (hl : lo < hi) (hh : hi ≤ 4) (v8 : BitVec 32) (r : Fin 1024) (d : Fin 2048) :
    bodyVal (F := Ideal) i (BitVec.ofNat 32 lo) (BitVec.ofNat 32 hi) v8 1#32 x0 x1 x2 x3 o (ix2 r d)
      = if 256 * lo ≤ r.val ∧ r.val < 256 * hi then val1 (F := Ideal) i v8 o (ix2 r d) + part (fun c => x0 (ix2 r c)) x1 x2 x3 d
        else val1 (F := Ideal) i v8 o (ix2 r d) := by
  unfold bodyVal
  generalize val1 (F := Ideal) i v8 o = b
  obtain ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ : (lo = 0 ∧ hi = 1) ∨ (lo = 0 ∧ hi = 2) ∨ (lo = 0 ∧ hi = 3) ∨ (lo = 0 ∧ hi = 4) ∨ (lo = 1 ∧ hi = 2) ∨ (lo = 1 ∧ hi = 3) ∨ (lo = 1 ∧ hi = 4) ∨ (lo = 2 ∧ hi = 3) ∨ (lo = 2 ∧ hi = 4) ∨ (lo = 3 ∧ hi = 4) := by omega
  · have e3 : ∀ y, val3 (F := Ideal) (BitVec.ofNat 32 0) (BitVec.ofNat 32 1) 1#32 x0 x1 x2 x3 y = y := fun y => by unfold val3; exact if_neg (by decide)
    have e4 : ∀ y, val4 (F := Ideal) (BitVec.ofNat 32 0) (BitVec.ofNat 32 1) 1#32 x0 x1 x2 x3 y = y := fun y => by unfold val4; exact if_neg (by decide)
    have e5 : ∀ y, val5 (F := Ideal) (BitVec.ofNat 32 0) (BitVec.ofNat 32 1) 1#32 x0 x1 x2 x3 y = y := fun y => by unfold val5; exact if_neg (by decide)
    have e6 : ∀ y, val6 (F := Ideal) (BitVec.ofNat 32 0) (BitVec.ofNat 32 1) 1#32 x0 x1 x2 x3 y = y := fun y => by unfold val6; exact if_neg (by decide)
    have e7 : ∀ y, val7 (F := Ideal) (BitVec.ofNat 32 0) (BitVec.ofNat 32 1) 1#32 x0 x1 x2 x3 y = y := fun y => by unfold val7; exact if_neg (by decide)
    have e8 : ∀ y, val8 (F := Ideal) (BitVec.ofNat 32 0) (BitVec.ofNat 32 1) 1#32 x0 x1 x2 x3 y = y := fun y => by unfold val8; exact if_neg (by decide)
    have e9 : ∀ y, val9 (F := Ideal) (BitVec.ofNat 32 0) (BitVec.ofNat 32 1) 1#32 x0 x1 x2 x3 y = y := fun y => by unfold val9; exact if_neg (by decide)
    have e10 : ∀ y, val10 (F := Ideal) (BitVec.ofNat 32 0) (BitVec.ofNat 32 1) 1#32 x0 x1 x2 x3 y = y := fun y => by unfold val10; exact if_neg (by decide)
    have e11 : ∀ y, val11 (F := Ideal) (BitVec.ofNat 32 0) (BitVec.ofNat 32 1) 1#32 x0 x1 x2 x3 y = y := fun y => by unfold val11; exact if_neg (by decide)
    rw [e11, e10, e9, e8, e7, e6, e5, e4, e3, val2_apply x0 x1 x2 x3 b r d _ _ _ (by decide)]
  · have e2 : ∀ y, val2 (F := Ideal) (BitVec.ofNat 32 0) (BitVec.ofNat 32 2) 1#32 x0 x1 x2 x3 y = y := fun y => by unfold val2; exact if_neg (by decide)
    have e4 : ∀ y, val4 (F := Ideal) (BitVec.ofNat 32 0) (BitVec.ofNat 32 2) 1#32 x0 x1 x2 x3 y = y := fun y => by unfold val4; exact if_neg (by decide)
    have e5 : ∀ y, val5 (F := Ideal) (BitVec.ofNat 32 0) (BitVec.ofNat 32 2) 1#32 x0 x1 x2 x3 y = y := fun y => by unfold val5; exact if_neg (by decide)
    have e6 : ∀ y, val6 (F := Ideal) (BitVec.ofNat 32 0) (BitVec.ofNat 32 2) 1#32 x0 x1 x2 x3 y = y := fun y => by unfold val6; exact if_neg (by decide)
    have e7 : ∀ y, val7 (F := Ideal) (BitVec.ofNat 32 0) (BitVec.ofNat 32 2) 1#32 x0 x1 x2 x3 y = y := fun y => by unfold val7; exact if_neg (by decide)
    have e8 : ∀ y, val8 (F := Ideal) (BitVec.ofNat 32 0) (BitVec.ofNat 32 2) 1#32 x0 x1 x2 x3 y = y := fun y => by unfold val8; exact if_neg (by decide)
    have e9 : ∀ y, val9 (F := Ideal) (BitVec.ofNat 32 0) (BitVec.ofNat 32 2) 1#32 x0 x1 x2 x3 y = y := fun y => by unfold val9; exact if_neg (by decide)
    have e10 : ∀ y, val10 (F := Ideal) (BitVec.ofNat 32 0) (BitVec.ofNat 32 2) 1#32 x0 x1 x2 x3 y = y := fun y => by unfold val10; exact if_neg (by decide)
    have e11 : ∀ y, val11 (F := Ideal) (BitVec.ofNat 32 0) (BitVec.ofNat 32 2) 1#32 x0 x1 x2 x3 y = y := fun y => by unfold val11; exact if_neg (by decide)
    rw [e11, e10, e9, e8, e7, e6, e5, e4, e2, val3_apply x0 x1 x2 x3 b r d _ _ _ (by decide)]
  · have e2 : ∀ y, val2 (F := Ideal) (BitVec.ofNat 32 0) (BitVec.ofNat 32 3) 1#32 x0 x1 x2 x3 y = y := fun y => by unfold val2; exact if_neg (by decide)
    have e3 : ∀ y, val3 (F := Ideal) (BitVec.ofNat 32 0) (BitVec.ofNat 32 3) 1#32 x0 x1 x2 x3 y = y := fun y => by unfold val3; exact if_neg (by decide)
    have e5 : ∀ y, val5 (F := Ideal) (BitVec.ofNat 32 0) (BitVec.ofNat 32 3) 1#32 x0 x1 x2 x3 y = y := fun y => by unfold val5; exact if_neg (by decide)
    have e6 : ∀ y, val6 (F := Ideal) (BitVec.ofNat 32 0) (BitVec.ofNat 32 3) 1#32 x0 x1 x2 x3 y = y := fun y => by unfold val6; exact if_neg (by decide)
    have e7 : ∀ y, val7 (F := Ideal) (BitVec.ofNat 32 0) (BitVec.ofNat 32 3) 1#32 x0 x1 x2 x3 y = y := fun y => by unfold val7; exact if_neg (by decide)
    have e8 : ∀ y, val8 (F := Ideal) (BitVec.ofNat 32 0) (BitVec.ofNat 32 3) 1#32 x0 x1 x2 x3 y = y := fun y => by unfold val8; exact if_neg (by decide)
    have e9 : ∀ y, val9 (F := Ideal) (BitVec.ofNat 32 0) (BitVec.ofNat 32 3) 1#32 x0 x1 x2 x3 y = y := fun y => by unfold val9; exact if_neg (by decide)
    have e10 : ∀ y, val10 (F := Ideal) (BitVec.ofNat 32 0) (BitVec.ofNat 32 3) 1#32 x0 x1 x2 x3 y = y := fun y => by unfold val10; exact if_neg (by decide)
    have e11 : ∀ y, val11 (F := Ideal) (BitVec.ofNat 32 0) (BitVec.ofNat 32 3) 1#32 x0 x1 x2 x3 y = y := fun y => by unfold val11; exact if_neg (by decide)
    rw [e11, e10, e9, e8, e7, e6, e5, e3, e2, val4_apply x0 x1 x2 x3 b r d _ _ _ (by decide)]
  · have e2 : ∀ y, val2 (F := Ideal) (BitVec.ofNat 32 0) (BitVec.ofNat 32 4) 1#32 x0 x1 x2 x3 y = y := fun y => by unfold val2; exact if_neg (by decide)
    have e3 : ∀ y, val3 (F := Ideal) (BitVec.ofNat 32 0) (BitVec.ofNat 32 4) 1#32 x0 x1 x2 x3 y = y := fun y => by unfold val3; exact if_neg (by decide)
    have e4 : ∀ y, val4 (F := Ideal) (BitVec.ofNat 32 0) (BitVec.ofNat 32 4) 1#32 x0 x1 x2 x3 y = y := fun y => by unfold val4; exact if_neg (by decide)
    have e6 : ∀ y, val6 (F := Ideal) (BitVec.ofNat 32 0) (BitVec.ofNat 32 4) 1#32 x0 x1 x2 x3 y = y := fun y => by unfold val6; exact if_neg (by decide)
    have e7 : ∀ y, val7 (F := Ideal) (BitVec.ofNat 32 0) (BitVec.ofNat 32 4) 1#32 x0 x1 x2 x3 y = y := fun y => by unfold val7; exact if_neg (by decide)
    have e8 : ∀ y, val8 (F := Ideal) (BitVec.ofNat 32 0) (BitVec.ofNat 32 4) 1#32 x0 x1 x2 x3 y = y := fun y => by unfold val8; exact if_neg (by decide)
    have e9 : ∀ y, val9 (F := Ideal) (BitVec.ofNat 32 0) (BitVec.ofNat 32 4) 1#32 x0 x1 x2 x3 y = y := fun y => by unfold val9; exact if_neg (by decide)
    have e10 : ∀ y, val10 (F := Ideal) (BitVec.ofNat 32 0) (BitVec.ofNat 32 4) 1#32 x0 x1 x2 x3 y = y := fun y => by unfold val10; exact if_neg (by decide)
    have e11 : ∀ y, val11 (F := Ideal) (BitVec.ofNat 32 0) (BitVec.ofNat 32 4) 1#32 x0 x1 x2 x3 y = y := fun y => by unfold val11; exact if_neg (by decide)
    rw [e11, e10, e9, e8, e7, e6, e4, e3, e2, val5_apply x0 x1 x2 x3 b r d _ _ _ (by decide)]
  · have e2 : ∀ y, val2 (F := Ideal) (BitVec.ofNat 32 1) (BitVec.ofNat 32 2) 1#32 x0 x1 x2 x3 y = y := fun y => by unfold val2; exact if_neg (by decide)
    have e3 : ∀ y, val3 (F := Ideal) (BitVec.ofNat 32 1) (BitVec.ofNat 32 2) 1#32 x0 x1 x2 x3 y = y := fun y => by unfold val3; exact if_neg (by decide)
    have e4 : ∀ y, val4 (F := Ideal) (BitVec.ofNat 32 1) (BitVec.ofNat 32 2) 1#32 x0 x1 x2 x3 y = y := fun y => by unfold val4; exact if_neg (by decide)
    have e5 : ∀ y, val5 (F := Ideal) (BitVec.ofNat 32 1) (BitVec.ofNat 32 2) 1#32 x0 x1 x2 x3 y = y := fun y => by unfold val5; exact if_neg (by decide)
    have e7 : ∀ y, val7 (F := Ideal) (BitVec.ofNat 32 1) (BitVec.ofNat 32 2) 1#32 x0 x1 x2 x3 y = y := fun y => by unfold val7; exact if_neg (by decide)
    have e8 : ∀ y, val8 (F := Ideal) (BitVec.ofNat 32 1) (BitVec.ofNat 32 2) 1#32 x0 x1 x2 x3 y = y := fun y => by unfold val8; exact if_neg (by decide)
    have e9 : ∀ y, val9 (F := Ideal) (BitVec.ofNat 32 1) (BitVec.ofNat 32 2) 1#32 x0 x1 x2 x3 y = y := fun y => by unfold val9; exact if_neg (by decide)
    have e10 : ∀ y, val10 (F := Ideal) (BitVec.ofNat 32 1) (BitVec.ofNat 32 2) 1#32 x0 x1 x2 x3 y = y := fun y => by unfold val10; exact if_neg (by decide)
    have e11 : ∀ y, val11 (F := Ideal) (BitVec.ofNat 32 1) (BitVec.ofNat 32 2) 1#32 x0 x1 x2 x3 y = y := fun y => by unfold val11; exact if_neg (by decide)
    rw [e11, e10, e9, e8, e7, e5, e4, e3, e2, val6_apply x0 x1 x2 x3 b r d _ _ _ (by decide)]
  · have e2 : ∀ y, val2 (F := Ideal) (BitVec.ofNat 32 1) (BitVec.ofNat 32 3) 1#32 x0 x1 x2 x3 y = y := fun y => by unfold val2; exact if_neg (by decide)
    have e3 : ∀ y, val3 (F := Ideal) (BitVec.ofNat 32 1) (BitVec.ofNat 32 3) 1#32 x0 x1 x2 x3 y = y := fun y => by unfold val3; exact if_neg (by decide)
    have e4 : ∀ y, val4 (F := Ideal) (BitVec.ofNat 32 1) (BitVec.ofNat 32 3) 1#32 x0 x1 x2 x3 y = y := fun y => by unfold val4; exact if_neg (by decide)
    have e5 : ∀ y, val5 (F := Ideal) (BitVec.ofNat 32 1) (BitVec.ofNat 32 3) 1#32 x0 x1 x2 x3 y = y := fun y => by unfold val5; exact if_neg (by decide)
    have e6 : ∀ y, val6 (F := Ideal) (BitVec.ofNat 32 1) (BitVec.ofNat 32 3) 1#32 x0 x1 x2 x3 y = y := fun y => by unfold val6; exact if_neg (by decide)
    have e8 : ∀ y, val8 (F := Ideal) (BitVec.ofNat 32 1) (BitVec.ofNat 32 3) 1#32 x0 x1 x2 x3 y = y := fun y => by unfold val8; exact if_neg (by decide)
    have e9 : ∀ y, val9 (F := Ideal) (BitVec.ofNat 32 1) (BitVec.ofNat 32 3) 1#32 x0 x1 x2 x3 y = y := fun y => by unfold val9; exact if_neg (by decide)
    have e10 : ∀ y, val10 (F := Ideal) (BitVec.ofNat 32 1) (BitVec.ofNat 32 3) 1#32 x0 x1 x2 x3 y = y := fun y => by unfold val10; exact if_neg (by decide)
    have e11 : ∀ y, val11 (F := Ideal) (BitVec.ofNat 32 1) (BitVec.ofNat 32 3) 1#32 x0 x1 x2 x3 y = y := fun y => by unfold val11; exact if_neg (by decide)
    rw [e11, e10, e9, e8, e6, e5, e4, e3, e2, val7_apply x0 x1 x2 x3 b r d _ _ _ (by decide)]
  · have e2 : ∀ y, val2 (F := Ideal) (BitVec.ofNat 32 1) (BitVec.ofNat 32 4) 1#32 x0 x1 x2 x3 y = y := fun y => by unfold val2; exact if_neg (by decide)
    have e3 : ∀ y, val3 (F := Ideal) (BitVec.ofNat 32 1) (BitVec.ofNat 32 4) 1#32 x0 x1 x2 x3 y = y := fun y => by unfold val3; exact if_neg (by decide)
    have e4 : ∀ y, val4 (F := Ideal) (BitVec.ofNat 32 1) (BitVec.ofNat 32 4) 1#32 x0 x1 x2 x3 y = y := fun y => by unfold val4; exact if_neg (by decide)
    have e5 : ∀ y, val5 (F := Ideal) (BitVec.ofNat 32 1) (BitVec.ofNat 32 4) 1#32 x0 x1 x2 x3 y = y := fun y => by unfold val5; exact if_neg (by decide)
    have e6 : ∀ y, val6 (F := Ideal) (BitVec.ofNat 32 1) (BitVec.ofNat 32 4) 1#32 x0 x1 x2 x3 y = y := fun y => by unfold val6; exact if_neg (by decide)
    have e7 : ∀ y, val7 (F := Ideal) (BitVec.ofNat 32 1) (BitVec.ofNat 32 4) 1#32 x0 x1 x2 x3 y = y := fun y => by unfold val7; exact if_neg (by decide)
    have e9 : ∀ y, val9 (F := Ideal) (BitVec.ofNat 32 1) (BitVec.ofNat 32 4) 1#32 x0 x1 x2 x3 y = y := fun y => by unfold val9; exact if_neg (by decide)
    have e10 : ∀ y, val10 (F := Ideal) (BitVec.ofNat 32 1) (BitVec.ofNat 32 4) 1#32 x0 x1 x2 x3 y = y := fun y => by unfold val10; exact if_neg (by decide)
    have e11 : ∀ y, val11 (F := Ideal) (BitVec.ofNat 32 1) (BitVec.ofNat 32 4) 1#32 x0 x1 x2 x3 y = y := fun y => by unfold val11; exact if_neg (by decide)
    rw [e11, e10, e9, e7, e6, e5, e4, e3, e2, val8_apply x0 x1 x2 x3 b r d _ _ _ (by decide)]
  · have e2 : ∀ y, val2 (F := Ideal) (BitVec.ofNat 32 2) (BitVec.ofNat 32 3) 1#32 x0 x1 x2 x3 y = y := fun y => by unfold val2; exact if_neg (by decide)
    have e3 : ∀ y, val3 (F := Ideal) (BitVec.ofNat 32 2) (BitVec.ofNat 32 3) 1#32 x0 x1 x2 x3 y = y := fun y => by unfold val3; exact if_neg (by decide)
    have e4 : ∀ y, val4 (F := Ideal) (BitVec.ofNat 32 2) (BitVec.ofNat 32 3) 1#32 x0 x1 x2 x3 y = y := fun y => by unfold val4; exact if_neg (by decide)
    have e5 : ∀ y, val5 (F := Ideal) (BitVec.ofNat 32 2) (BitVec.ofNat 32 3) 1#32 x0 x1 x2 x3 y = y := fun y => by unfold val5; exact if_neg (by decide)
    have e6 : ∀ y, val6 (F := Ideal) (BitVec.ofNat 32 2) (BitVec.ofNat 32 3) 1#32 x0 x1 x2 x3 y = y := fun y => by unfold val6; exact if_neg (by decide)
    have e7 : ∀ y, val7 (F := Ideal) (BitVec.ofNat 32 2) (BitVec.ofNat 32 3) 1#32 x0 x1 x2 x3 y = y := fun y => by unfold val7; exact if_neg (by decide)
    have e8 : ∀ y, val8 (F := Ideal) (BitVec.ofNat 32 2) (BitVec.ofNat 32 3) 1#32 x0 x1 x2 x3 y = y := fun y => by unfold val8; exact if_neg (by decide)
    have e10 : ∀ y, val10 (F := Ideal) (BitVec.ofNat 32 2) (BitVec.ofNat 32 3) 1#32 x0 x1 x2 x3 y = y := fun y => by unfold val10; exact if_neg (by decide)
    have e11 : ∀ y, val11 (F := Ideal) (BitVec.ofNat 32 2) (BitVec.ofNat 32 3) 1#32 x0 x1 x2 x3 y = y := fun y => by unfold val11; exact if_neg (by decide)
    rw [e11, e10, e8, e7, e6, e5, e4, e3, e2, val9_apply x0 x1 x2 x3 b r d _ _ _ (by decide)]
  · have e2 : ∀ y, val2 (F := Ideal) (BitVec.ofNat 32 2) (BitVec.ofNat 32 4) 1#32 x0 x1 x2 x3 y = y := fun y => by unfold val2; exact if_neg (by decide)
    have e3 : ∀ y, val3 (F := Ideal) (BitVec.ofNat 32 2) (BitVec.ofNat 32 4) 1#32 x0 x1 x2 x3 y = y := fun y => by unfold val3; exact if_neg (by decide)
    have e4 : ∀ y, val4 (F := Ideal) (BitVec.ofNat 32 2) (BitVec.ofNat 32 4) 1#32 x0 x1 x2 x3 y = y := fun y => by unfold val4; exact if_neg (by decide)
    have e5 : ∀ y, val5 (F := Ideal) (BitVec.ofNat 32 2) (BitVec.ofNat 32 4) 1#32 x0 x1 x2 x3 y = y := fun y => by unfold val5; exact if_neg (by decide)
    have e6 : ∀ y, val6 (F := Ideal) (BitVec.ofNat 32 2) (BitVec.ofNat 32 4) 1#32 x0 x1 x2 x3 y = y := fun y => by unfold val6; exact if_neg (by decide)
    have e7 : ∀ y, val7 (F := Ideal) (BitVec.ofNat 32 2) (BitVec.ofNat 32 4) 1#32 x0 x1 x2 x3 y = y := fun y => by unfold val7; exact if_neg (by decide)
    have e8 : ∀ y, val8 (F := Ideal) (BitVec.ofNat 32 2) (BitVec.ofNat 32 4) 1#32 x0 x1 x2 x3 y = y := fun y => by unfold val8; exact if_neg (by decide)
    have e9 : ∀ y, val9 (F := Ideal) (BitVec.ofNat 32 2) (BitVec.ofNat 32 4) 1#32 x0 x1 x2 x3 y = y := fun y => by unfold val9; exact if_neg (by decide)
    have e11 : ∀ y, val11 (F := Ideal) (BitVec.ofNat 32 2) (BitVec.ofNat 32 4) 1#32 x0 x1 x2 x3 y = y := fun y => by unfold val11; exact if_neg (by decide)
    rw [e11, e9, e8, e7, e6, e5, e4, e3, e2, val10_apply x0 x1 x2 x3 b r d _ _ _ (by decide)]
  · have e2 : ∀ y, val2 (F := Ideal) (BitVec.ofNat 32 3) (BitVec.ofNat 32 4) 1#32 x0 x1 x2 x3 y = y := fun y => by unfold val2; exact if_neg (by decide)
    have e3 : ∀ y, val3 (F := Ideal) (BitVec.ofNat 32 3) (BitVec.ofNat 32 4) 1#32 x0 x1 x2 x3 y = y := fun y => by unfold val3; exact if_neg (by decide)
    have e4 : ∀ y, val4 (F := Ideal) (BitVec.ofNat 32 3) (BitVec.ofNat 32 4) 1#32 x0 x1 x2 x3 y = y := fun y => by unfold val4; exact if_neg (by decide)
    have e5 : ∀ y, val5 (F := Ideal) (BitVec.ofNat 32 3) (BitVec.ofNat 32 4) 1#32 x0 x1 x2 x3 y = y := fun y => by unfold val5; exact if_neg (by decide)
    have e6 : ∀ y, val6 (F := Ideal) (BitVec.ofNat 32 3) (BitVec.ofNat 32 4) 1#32 x0 x1 x2 x3 y = y := fun y => by unfold val6; exact if_neg (by decide)
    have e7 : ∀ y, val7 (F := Ideal) (BitVec.ofNat 32 3) (BitVec.ofNat 32 4) 1#32 x0 x1 x2 x3 y = y := fun y => by unfold val7; exact if_neg (by decide)
    have e8 : ∀ y, val8 (F := Ideal) (BitVec.ofNat 32 3) (BitVec.ofNat 32 4) 1#32 x0 x1 x2 x3 y = y := fun y => by unfold val8; exact if_neg (by decide)
    have e9 : ∀ y, val9 (F := Ideal) (BitVec.ofNat 32 3) (BitVec.ofNat 32 4) 1#32 x0 x1 x2 x3 y = y := fun y => by unfold val9; exact if_neg (by decide)
    have e10 : ∀ y, val10 (F := Ideal) (BitVec.ofNat 32 3) (BitVec.ofNat 32 4) 1#32 x0 x1 x2 x3 y = y := fun y => by unfold val10; exact if_neg (by decide)
    rw [e10, e9, e8, e7, e6, e5, e4, e3, e2, val11_apply x0 x1 x2 x3 b r d _ _ _ (by decide)]

/-- What a point of an item past the last leaves: the block as found, or zero. -/
theorem body_dead (i : grid0.Coords) (v2 v5 v8 : BitVec 32) : bodyVal (F := Ideal) i v2 v5 v8 0#32 x0 x1 x2 x3 o = val1 (F := Ideal) i v8 o := by
  have hd : ∀ b : BitVec 1, Scalar.cmpi .ne (Scalar.extui (Scalar.andi (Scalar.cmpi .eq 0#32 1#32) b) : BitVec 32) 0#32 ≠ 1#1 := by decide
  unfold bodyVal
  have e2 : ∀ y, val2 (F := Ideal) v2 v5 0#32 x0 x1 x2 x3 y = y := fun y => by
    unfold val2 k0_cond2; exact if_neg (hd _)
  have e3 : ∀ y, val3 (F := Ideal) v2 v5 0#32 x0 x1 x2 x3 y = y := fun y => by
    unfold val3 k0_cond3; exact if_neg (hd _)
  have e4 : ∀ y, val4 (F := Ideal) v2 v5 0#32 x0 x1 x2 x3 y = y := fun y => by
    unfold val4 k0_cond4; exact if_neg (hd _)
  have e5 : ∀ y, val5 (F := Ideal) v2 v5 0#32 x0 x1 x2 x3 y = y := fun y => by
    unfold val5 k0_cond5; exact if_neg (hd _)
  have e6 : ∀ y, val6 (F := Ideal) v2 v5 0#32 x0 x1 x2 x3 y = y := fun y => by
    unfold val6 k0_cond6; exact if_neg (hd _)
  have e7 : ∀ y, val7 (F := Ideal) v2 v5 0#32 x0 x1 x2 x3 y = y := fun y => by
    unfold val7 k0_cond7; exact if_neg (hd _)
  have e8 : ∀ y, val8 (F := Ideal) v2 v5 0#32 x0 x1 x2 x3 y = y := fun y => by
    unfold val8 k0_cond8; exact if_neg (hd _)
  have e9 : ∀ y, val9 (F := Ideal) v2 v5 0#32 x0 x1 x2 x3 y = y := fun y => by
    unfold val9 k0_cond9; exact if_neg (hd _)
  have e10 : ∀ y, val10 (F := Ideal) v2 v5 0#32 x0 x1 x2 x3 y = y := fun y => by
    unfold val10 k0_cond10; exact if_neg (hd _)
  have e11 : ∀ y, val11 (F := Ideal) v2 v5 0#32 x0 x1 x2 x3 y = y := fun y => by
    unfold val11 k0_cond11; exact if_neg (hd _)
  rw [e11, e10, e9, e8, e7, e6, e5, e4, e3, e2]

end Cert.Kernel4Ideal.Hand
end
-- ==== Proof.Experts.Blocks.lean ====
module

public import proofs.«01_k».proof.Proof.Experts.Step
public import Idealize.ShloMosaic.Lib.Pipeline.Covers

/-! # The blocks a point of the expert call reads, element by element. -/

@[expose] public section
set_option maxRecDepth 16384
noncomputable section
namespace Cert.Kernel4Ideal.Hand
open Cert.Kernel4Ideal Cert.Kernel4Ideal.Gen
open Idealize
open Idealize.ShloMosaic
open Idealize.ShloMosaic.TcCoe

variable (m : (ℓ : Loc nD τ sig) → Buf (Elt Ideal) ℓ) (hO : Ok m) (c : Dev nD)

/-- The block of rows a point reads. -/
theorem idx0 (t : Fin (cfgM m hO).N) : ((cfgM m hO).win 0).index t = ![(fld (tbl m) 1 (grid0.coords t 0)).toNat, 0] :=
  ix_0 (tbl m) (grid0.coords t)
/-- The tile of the gate weights a point reads. -/
theorem idx1 (t : Fin (cfgM m hO).N) : ((cfgM m hO).win 1).index t = ![(fld (tbl m) 2 (grid0.coords t 0)).toNat, 0, tile (tbl m) (grid0.coords t)] :=
  ix_1 (tbl m) (grid0.coords t)
/-- The tile of the up weights a point reads. -/
theorem idx2 (t : Fin (cfgM m hO).N) : ((cfgM m hO).win 2).index t = ![(fld (tbl m) 2 (grid0.coords t 0)).toNat, 0, tile (tbl m) (grid0.coords t)] :=
  ix_2 (tbl m) (grid0.coords t)
/-- The tile of the down weights a point reads. -/
theorem idx3 (t : Fin (cfgM m hO).N) : ((cfgM m hO).win 3).index t = ![(fld (tbl m) 2 (grid0.coords t 0)).toNat, tile (tbl m) (grid0.coords t), 0] :=
  ix_3 (tbl m) (grid0.coords t)
/-- The block of rows a point writes. -/
theorem idx4 (t : Fin (cfgM m hO).N) : ((cfgM m hO).win 4).index t = ![(fld (tbl m) 0 (grid0.coords t 0)).toNat, 0] :=
  ix_4 (tbl m) (grid0.coords t)

/-- The input rows of a point whose item names block `q`. -/
theorem iblk0 (t : Fin (cfgM m hO).N) (q : ℕ) (hq : (fld (tbl m) 1 (grid0.coords t 0)).toNat = q) (hb : q < 18) (r : Fin 1024) (k : Fin 2048) :
    (iblk m hO c 0 t : Vec Ideal S1024x2048 .bf16) (ix2 r k) = (V m c main_arg1 : Vec Ideal S18432x2048 .bf16) (ix2 ⟨q * 1024 + r.val, by omega⟩ k) := by
  blk_simp [iblk]
  congr 1
  funext a
  refine Fin.ext ((Pipeline.Window.rect_emb_val ..).trans ?_)
  rw [idx0, hq]
  fin_cases a
  · rfl
  · exact (congrArg (· + _) (Nat.zero_mul _)).trans (Nat.zero_add _)

/-- The gate's tile of a point of expert `e` at step `j`. -/
theorem rd1 (B : Vec Ideal S8x2048x7168 .f32) (t : Fin (cfgM m hO).N) (e j : ℕ) (he : (fld (tbl m) 2 (grid0.coords t 0)).toNat = e) (hj : tile (tbl m) (grid0.coords t) = j) (hb : e < 8) (hb' : j < 28)
    (k : Fin 2048) (l : Fin 256) :
    ((((cfgM m hO).win 1).blk t).view.read (Elt Ideal) B : Vec Ideal S1x2048x256 .f32) (ix3 0 k l) = B (ix3 ⟨e, hb⟩ k ⟨j * 256 + l.val, by omega⟩) := by
  blk_simp
  refine congrArg B (funext fun a => Fin.ext ((Pipeline.Window.rect_emb_val ..).trans ?_))
  rw [idx1, he, hj]
  fin_cases a
  · show e * 1 + 0 = e; omega
  · exact (congrArg (· + _) (Nat.zero_mul _)).trans (Nat.zero_add _)
  · rfl

/-- The same of the block as the call reads it. -/
theorem iblk1 (t : Fin (cfgM m hO).N) (e j : ℕ) (he : (fld (tbl m) 2 (grid0.coords t 0)).toNat = e) (hj : tile (tbl m) (grid0.coords t) = j) (hb : e < 8) (hb' : j < 28)
    (k : Fin 2048) (l : Fin 256) :
    (iblk m hO c 1 t : Vec Ideal S1x2048x256 .f32) (ix3 0 k l) = (V m c main_v126 : Vec Ideal S8x2048x7168 .f32) (ix3 ⟨e, hb⟩ k ⟨j * 256 + l.val, by omega⟩) :=
  rd1 m hO (V m c main_v126) t e j he hj hb hb' k l

/-- The other weights' tile of a point of expert `e` at step `j`. -/
theorem rd2 (B : Vec Ideal S8x2048x7168 .f32) (t : Fin (cfgM m hO).N) (e j : ℕ) (he : (fld (tbl m) 2 (grid0.coords t 0)).toNat = e) (hj : tile (tbl m) (grid0.coords t) = j) (hb : e < 8) (hb' : j < 28)
    (k : Fin 2048) (l : Fin 256) :
    ((((cfgM m hO).win 2).blk t).view.read (Elt Ideal) B : Vec Ideal S1x2048x256 .f32) (ix3 0 k l) = B (ix3 ⟨e, hb⟩ k ⟨j * 256 + l.val, by omega⟩) := by
  blk_simp
  refine congrArg B (funext fun a => Fin.ext ((Pipeline.Window.rect_emb_val ..).trans ?_))
  rw [idx2, he, hj]
  fin_cases a
  · show e * 1 + 0 = e; omega
  · exact (congrArg (· + _) (Nat.zero_mul _)).trans (Nat.zero_add _)
  · rfl

/-- The same of the block as the call reads it. -/
theorem iblk2 (t : Fin (cfgM m hO).N) (e j : ℕ) (he : (fld (tbl m) 2 (grid0.coords t 0)).toNat = e) (hj : tile (tbl m) (grid0.coords t) = j) (hb : e < 8) (hb' : j < 28)
    (k : Fin 2048) (l : Fin 256) :
    (iblk m hO c 2 t : Vec Ideal S1x2048x256 .f32) (ix3 0 k l) = (V m c main_v127 : Vec Ideal S8x2048x7168 .f32) (ix3 ⟨e, hb⟩ k ⟨j * 256 + l.val, by omega⟩) :=
  rd2 m hO (V m c main_v127) t e j he hj hb hb' k l

/-- The down weights' tile of a point of expert `e` at step `j`. -/
theorem rd3 (B : Vec Ideal S8x7168x2048 .f32) (t : Fin (cfgM m hO).N) (e j : ℕ) (he : (fld (tbl m) 2 (grid0.coords t 0)).toNat = e) (hj : tile (tbl m) (grid0.coords t) = j) (hb : e < 8) (hb' : j < 28)
    (l : Fin 256) (k : Fin 2048) :
    ((((cfgM m hO).win 3).blk t).view.read (Elt Ideal) B : Vec Ideal S1x256x2048 .f32) (ix3 0 l k) = B (ix3 ⟨e, hb⟩ ⟨j * 256 + l.val, by omega⟩ k) := by
  blk_simp
  refine congrArg B (funext fun a => Fin.ext ((Pipeline.Window.rect_emb_val ..).trans ?_))
  rw [idx3, he, hj]
  fin_cases a
  · show e * 1 + 0 = e; omega
  · rfl
  · exact (congrArg (· + _) (Nat.zero_mul _)).trans (Nat.zero_add _)

/-- The same of the block as the call reads it. -/
theorem iblk3 (t : Fin (cfgM m hO).N) (e j : ℕ) (he : (fld (tbl m) 2 (grid0.coords t 0)).toNat = e) (hj : tile (tbl m) (grid0.coords t) = j) (hb : e < 8) (hb' : j < 28)
    (l : Fin 256) (k : Fin 2048) :
    (iblk m hO c 3 t : Vec Ideal S1x256x2048 .f32) (ix3 0 l k) = (V m c main_v128 : Vec Ideal S8x7168x2048 .f32) (ix3 ⟨e, hb⟩ ⟨j * 256 + l.val, by omega⟩ k) :=
  rd3 m hO (V m c main_v128) t e j he hj hb hb' l k

end Cert.Kernel4Ideal.Hand
end
-- ==== Proof.Experts.Chain.lean ====
module

public import proofs.«01_k».proof.Proof.Experts.Region
public import proofs.«01_k».proof.Proof.Experts.Plan
public import Idealize.ShloMosaic.Lib.StableHlo.RunRead

@[expose] public section

set_option maxRecDepth 16384

noncomputable section

namespace Cert.Kernel4Ideal.Hand

open Cert.Kernel4Ideal Cert.Kernel4Ideal.Gen
open Idealize Idealize.ShloMosaic Idealize.ShloMosaic.TcCoe
open Cert.Experts

variable {F : FTy → Type} [FloatOps F]
variable (m : (ℓ : Loc nD τ sig) → Buf (Elt F) ℓ)

/-! What each buffer of the host program holds when the call is entered: the plan's function of the counts. Every
buffer is written once, so a buffer's final contents are its operation's function of its operands' final contents. -/

/-- The buffers the host operations write, in order. -/
abbrev W : List (Ref sig .tc) := [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_2, main_v5, main_v6, main_call1_call0_c, main_call1_call0_v0, main_v7, main_v8, main_v9, main_v10, main_c_3, main_v11, main_c_4, main_v12, main_c_5, main_call2_v0, main_call2_v1, main_call2_v2, main_call2_v3, main_call2_v4, main_call2_v5, main_call2_c, main_call2_v6, main_call2_v7, main_call2_c_0, main_call2_v8, main_v13, main_v14, main_c_6, main_v15, main_v16, main_v17, main_v18, main_v19, main_v20, main_v21, main_v22, main_c_7, main_v23, main_v24, main_v25, main_v26, main_v27, main_v28, main_v29, main_v30, main_c_8, main_v31, main_v32, main_call3_call0_c, main_call3_call0_v0, main_v33, main_c_9, main_v34, main_v35, main_c_10, main_call4_v0, main_call4_v1, main_v36, main_v37, main_v38, main_v39, main_c_11, main_v40, main_v41, main_c_12, main_v42, main_v43, main_c_13, main_v44, main_v45, main_v46, main_v47, main_v48, main_v49, main_v50, main_v51, main_c_14, main_v52, main_v53, main_c_15, main_v54, main_v55, main_c_16, main_v56, main_v57, main_v58, main_v59, main_v60, main_v61, main_v62, main_c_17, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v63, main_c_18, main_v64, main_v65, main_c_19, main_v66, main_v67, main_c_20, main_v68, main_v69, main_v70, main_v71, main_v72, main_v73, main_v74, main_c_21, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v75, main_c_22, main_v76, main_v77, main_c_23, main_v78, main_v79, main_c_24, main_v80, main_v81, main_v82, main_v83, main_v84, main_v85, main_v86, main_c_25, main_v87, main_v88, main_v89, main_c_26, main_v90, main_v91, main_c_27, main_v92, main_v93, main_v94, main_v95, main_v96, main_v97, main_v98, main_v99, main_v100, main_v101, main_v102, main_v103, main_c_28, main_v104, main_c_29, main_v105, main_v106, main_v107, main_c_30, main_v108, main_c_31, main_v109, main_v110, main_v111, main_v112, main_call8_v0, main_v113, main_c_32, main_v114, main_c_33, main_v115, main_v116, main_v117, main_v118, main_call9_v0, main_v119, main_c_34, main_v120, main_v121, main_v122, main_v123, main_v124, main_v125, main_v126, main_v127, main_v128]

/-- The host operations as one line. -/
abbrev opl : List (HloOp τ sig (Elt F)) := (opss (F := F)).flatten

/-- Each host operation writes the one buffer of its place. -/
theorem opl_writes : (opl (F := F)).map HloOp.writes = W.map fun w => {Proc.devRef (τ := τ) .tc w} := rfl

/-- A buffer's place in the order of writing (the prefetched table, kept in another memory, comes late). -/
abbrev key (r : Ref sig .tc) : ℕ := if r.space = .hbm then r.idx.val else 9999

/-- What an operation writes comes no earlier in the order of writing than the operation. -/
theorem key_le : ∀ j : Fin 232, min (5 + j.val) 233 ≤ key (W[j.val]'j.isLt) := by decide +kernel

/-- A buffer of an earlier place is not written from this place on. -/
theorem not_mem_drop {r : Ref sig .tc} {k : ℕ} (h : key r < min (5 + k) 233) : r ∉ W.drop k := by
  intro hm
  obtain ⟨j, hj, he⟩ := List.mem_iff_getElem.mp hm
  rw [List.length_drop] at hj
  rw [List.getElem_drop] at he
  have hl : W.length = 232 := rfl
  have := key_le ⟨k + j, by omega⟩
  simp only [he] at this
  omega

/-- A buffer not written from place `k` on holds after the first `k` operations what it holds at the end. -/
theorem upto_final (c : Dev nD) {a : Ref sig .tc} {k : ℕ} (h : key a < min (5 + k) 233) :
    StableHlo.upto (opl (F := F)) (fun b => m (c, b)) k (Proc.devRef .tc a) = V m c a := by
  have e := StableHlo.after_append (opl.take k) (opl.drop k) (fun b => m (c, b))
  rw [List.take_append_drop] at e
  show _ = StableHlo.after opl _ _
  rw [e]
  exact (StableHlo.after_unwritten (W.drop k) (by rw [List.map_drop, opl_writes, List.map_drop]) (not_mem_drop h) _).symm

/-- A buffer whose last writer is the operation at place `k` holds that operation's result. -/
theorem final_eq (c : Dev nD) {r : Ref sig .tc} {k : ℕ} {op : HloOp τ sig (Elt F)} (hop : (opl (F := F))[k]? = some op)
    (h : r ∉ W.drop (k + 1)) :
    V m c r = op.result (StableHlo.upto opl (fun b => m (c, b)) k) (Proc.devRef .tc r) := by
  obtain ⟨hk, he⟩ := List.getElem?_eq_some_iff.mp hop
  refine StableHlo.after_last_write (W.drop (k + 1)) (i := k) (op := op) (rest := opl.drop (k + 1)) ?_ ?_ h _
  · rw [← he]; exact List.drop_eq_getElem_cons hk
  · rw [List.map_drop, opl_writes, List.map_drop]

/-- A constant's buffer. -/
theorem e0 (c : Dev nD) {k : ℕ} {y : Ref sig .tc} {f hy} (hop : (opl (F := F))[k]? = some (StableHlo.nullary (τ := τ) y f hy))
    (h : key y < min (5 + (k + 1)) 233) : V m c y = f :=
  (final_eq m c hop (not_mem_drop h)).trans (StableHlo.nullary_result ..)

/-- The result of an operation on one buffer. -/
theorem e1 (c : Dev nD) {k : ℕ} {x y : Ref sig .tc} {f hx hy} (hop : (opl (F := F))[k]? = some (StableHlo.unary (τ := τ) x y f hx hy))
    (h : key y < min (5 + (k + 1)) 233) (kx : key x < min (5 + k) 233) {X} (ex : V m c x = X) : V m c y = f X :=
  (final_eq m c hop (not_mem_drop h)).trans ((StableHlo.unary_result ..).trans (congrArg f ((upto_final m c kx).trans ex)))

/-- The result of an operation on two buffers. -/
theorem e2 (c : Dev nD) {k : ℕ} {a b y : Ref sig .tc} {f ha hb hy}
    (hop : (opl (F := F))[k]? = some (StableHlo.binary (τ := τ) a b y f ha hb hy))
    (h : key y < min (5 + (k + 1)) 233) (ka : key a < min (5 + k) 233) (kb : key b < min (5 + k) 233) {A B} (ea : V m c a = A) (eb : V m c b = B) :
    V m c y = f A B :=
  (final_eq m c hop (not_mem_drop h)).trans ((StableHlo.binary_result ..).trans
    (congrArg₂ f ((upto_final m c ka).trans ea) ((upto_final m c kb).trans eb)))

/-- The result of an operation on three buffers. -/
theorem e3 (c : Dev nD) {k : ℕ} {d a b y : Ref sig .tc} {f hd ha hb hy}
    (hop : (opl (F := F))[k]? = some (StableHlo.ternary (τ := τ) d a b y f hd ha hb hy))
    (h : key y < min (5 + (k + 1)) 233) (kd : key d < min (5 + k) 233) (ka : key a < min (5 + k) 233) (kb : key b < min (5 + k) 233) {D A B} (ed : V m c d = D)
    (ea : V m c a = A) (eb : V m c b = B) : V m c y = f D A B :=
  (final_eq m c hop (not_mem_drop h)).trans ((StableHlo.ternary_result ..).trans
    (by rw [upto_final m c kd, upto_final m c ka, upto_final m c kb, ed, ea, eb]))

/-- The result of a reshape. -/
theorem eR (c : Dev nD) {k : ℕ} {x y : Ref sig .tc} {he hn hx hy}
    (hop : (opl (F := F))[k]? = some (StableHlo.reshape (τ := τ) x y he hn hx hy))
    (h : key y < min (5 + (k + 1)) 233) (kx : key x < min (5 + k) 233) {X} (ex : V m c x = X) :
    V m c y = fun i => he ▸ shapeCast y.ty.shape X hn i :=
  (final_eq m c hop (not_mem_drop h)).trans ((StableHlo.reshape_result ..).trans
    (by rw [upto_final m c kx, ex]))

/-- The result of a slice at a run-time offset. -/
theorem eI (c : Dev nD) {k : ℕ} {x i y : Ref sig .tc} {T f hT ha hix hy}
    (hop : (opl (F := F))[k]? = some (StableHlo.unaryIndexed (τ := τ) x ![i] T y f hT ha hix hy))
    (h : key y < min (5 + (k + 1)) 233) (kx : key x < min (5 + k) 233) (ki : key i < min (5 + k) 233) {X}
    {I : T.Contents (Elt F)} (ex : V m c x = X) (ei : V m c i ≍ I) :
    V m c y = f X (fun _ => I) :=
  (final_eq m c hop (not_mem_drop h)).trans ((StableHlo.unaryIndexed_result ..).trans
    (by
      rw [upto_final m c kx, ex]
      congr 1
      funext j
      obtain rfl : j = 0 := Subsingleton.elim _ _
      exact eq_of_heq ((cast_heq _ _).trans ((heq_of_eq (upto_final m c ki)).trans ei))))

/-- A constant's buffer inside a called function. -/
theorem t0 (c : Dev nD) {k : ℕ} {Y : BufTy} {y : StableHlo.TRef sig Y} {f}
    (hop : (opl (F := F))[k]? = some (StableHlo.TRef.nullary (τ := τ) y f))
    (h : key y.ref < min (5 + (k + 1)) 233) : V m c y.ref ≍ f :=
  (heq_of_eq ((final_eq m c hop (not_mem_drop h)).trans (StableHlo.nullary_result ..))).trans (cast_heq _ _)

/-- The result of an operation on one buffer inside a called function. -/
theorem t1 (c : Dev nD) {k : ℕ} {X Y : BufTy} {x : StableHlo.TRef sig X} {y : StableHlo.TRef sig Y} {f}
    (hop : (opl (F := F))[k]? = some (StableHlo.TRef.unary (τ := τ) x y f))
    (h : key y.ref < min (5 + (k + 1)) 233) (kx : key x.ref < min (5 + k) 233) {A : X.Contents (Elt F)}
    (ex : V m c x.ref ≍ A) : V m c y.ref ≍ f A := by
  have e : x.ofBuf (V m c x.ref) = A := eq_of_heq ((cast_heq _ _).trans ex)
  refine (heq_of_eq ((final_eq m c hop (not_mem_drop h)).trans (StableHlo.unary_result ..))).trans ((cast_heq _ _).trans ?_)
  rw [upto_final m c kx, e]

/-- The result of an operation on two buffers inside a called function. -/
theorem t2 (c : Dev nD) {k : ℕ} {X Z Y : BufTy} {x : StableHlo.TRef sig X} {z : StableHlo.TRef sig Z}
    {y : StableHlo.TRef sig Y} {f} (hop : (opl (F := F))[k]? = some (StableHlo.TRef.binary (τ := τ) x z y f))
    (h : key y.ref < min (5 + (k + 1)) 233) (kx : key x.ref < min (5 + k) 233) (kz : key z.ref < min (5 + k) 233)
    {A : X.Contents (Elt F)} {B : Z.Contents (Elt F)} (ex : V m c x.ref ≍ A) (ez : V m c z.ref ≍ B) :
    V m c y.ref ≍ f A B := by
  have e : x.ofBuf (V m c x.ref) = A := eq_of_heq ((cast_heq _ _).trans ex)
  have e' : z.ofBuf (V m c z.ref) = B := eq_of_heq ((cast_heq _ _).trans ez)
  refine (heq_of_eq ((final_eq m c hop (not_mem_drop h)).trans (StableHlo.binary_result ..))).trans ((cast_heq _ _).trans ?_)
  rw [upto_final m c kx, upto_final m c kz, e, e']

/-- The result of an operation on three buffers inside a called function. -/
theorem t3 (c : Dev nD) {k : ℕ} {X Z U Y : BufTy} {x : StableHlo.TRef sig X} {z : StableHlo.TRef sig Z}
    {u : StableHlo.TRef sig U} {y : StableHlo.TRef sig Y} {f}
    (hop : (opl (F := F))[k]? = some (StableHlo.TRef.ternary (τ := τ) x z u y f))
    (h : key y.ref < min (5 + (k + 1)) 233) (kx : key x.ref < min (5 + k) 233) (kz : key z.ref < min (5 + k) 233)
    (ku : key u.ref < min (5 + k) 233)
    {A : X.Contents (Elt F)} {B : Z.Contents (Elt F)} {C : U.Contents (Elt F)} (ex : V m c x.ref ≍ A)
    (ez : V m c z.ref ≍ B) (eu : V m c u.ref ≍ C) : V m c y.ref ≍ f A B C := by
  have e : x.ofBuf (V m c x.ref) = A := eq_of_heq ((cast_heq _ _).trans ex)
  have e' : z.ofBuf (V m c z.ref) = B := eq_of_heq ((cast_heq _ _).trans ez)
  have e'' : u.ofBuf (V m c u.ref) = C := eq_of_heq ((cast_heq _ _).trans eu)
  refine (heq_of_eq ((final_eq m c hop (not_mem_drop h)).trans (StableHlo.ternary_result ..))).trans ((cast_heq _ _).trans ?_)
  rw [upto_final m c kx, upto_final m c kz, upto_final m c ku, e, e', e'']

/-- `main_c` holds the plan's `c`. -/
theorem E_c (c : Dev nD) {cnt : IVec Plan.S8 32} (h0 : V m c main_arg0 = cnt) : V m c main_c = Plan.c cnt := by
  have h := e0 m c (k := 0) rfl (by decide)
  unfold Plan.c
  exact h

/-- `main_v0` holds the plan's `v0`. -/
theorem E_v0 (c : Dev nD) {cnt : IVec Plan.S8 32} (h0 : V m c main_arg0 = cnt) : V m c main_v0 = Plan.v0 cnt := by
  have h := e1 m c (k := 1) rfl (by decide) (by decide) (E_c m c h0)
  unfold Plan.v0
  exact h

/-- `main_v1` holds the plan's `v1`. -/
theorem E_v1 (c : Dev nD) {cnt : IVec Plan.S8 32} (h0 : V m c main_arg0 = cnt) : V m c main_v1 = Plan.v1 cnt := by
  have h := e2 m c (k := 2) rfl (by decide) (by decide) (by decide) h0 (E_v0 m c h0)
  unfold Plan.v1
  exact h

/-- `main_c_0` holds the plan's `c_0`. -/
theorem E_c_0 (c : Dev nD) {cnt : IVec Plan.S8 32} (h0 : V m c main_arg0 = cnt) : V m c main_c_0 = Plan.c_0 cnt := by
  have h := e0 m c (k := 3) rfl (by decide)
  unfold Plan.c_0
  exact h

/-- `main_v2` holds the plan's `v2`. -/
theorem E_v2 (c : Dev nD) {cnt : IVec Plan.S8 32} (h0 : V m c main_arg0 = cnt) : V m c main_v2 = Plan.v2 cnt := by
  have h := e1 m c (k := 4) rfl (by decide) (by decide) (E_c_0 m c h0)
  unfold Plan.v2
  exact h

/-- `main_v3` holds the plan's `v3`. -/
theorem E_v3 (c : Dev nD) {cnt : IVec Plan.S8 32} (h0 : V m c main_arg0 = cnt) : V m c main_v3 = Plan.v3 cnt := by
  have h := e2 m c (k := 5) rfl (by decide) (by decide) (by decide) (E_v1 m c h0) (E_v2 m c h0)
  unfold Plan.v3
  exact h

/-- `main_c_1` holds the plan's `c_1`. -/
theorem E_c_1 (c : Dev nD) {cnt : IVec Plan.S8 32} (h0 : V m c main_arg0 = cnt) : V m c main_c_1 = Plan.c_1 cnt := by
  have h := e0 m c (k := 6) rfl (by decide)
  unfold Plan.c_1
  exact h

/-- `main_call0_v0` holds the plan's `call0_v0`. -/
theorem E_call0_v0 (c : Dev nD) {cnt : IVec Plan.S8 32} (h0 : V m c main_arg0 = cnt) : V m c main_call0_v0 = Plan.call0_v0 cnt := by
  have h := t1 m c (k := 7) rfl (by decide) (by decide) (heq_of_eq (E_c_1 m c h0))
  unfold Plan.call0_v0
  exact eq_of_heq h

/-- `main_call0_v1` holds the plan's `call0_v1`. -/
theorem E_call0_v1 (c : Dev nD) {cnt : IVec Plan.S8 32} (h0 : V m c main_arg0 = cnt) : V m c main_call0_v1 = Plan.call0_v1 cnt := by
  have h := t1 m c (k := 8) rfl (by decide) (by decide) (heq_of_eq (E_call0_v0 m c h0))
  unfold Plan.call0_v1
  exact eq_of_heq h

/-- `main_call0_v2` holds the plan's `call0_v2`. -/
theorem E_call0_v2 (c : Dev nD) {cnt : IVec Plan.S8 32} (h0 : V m c main_arg0 = cnt) : V m c main_call0_v2 = Plan.call0_v2 cnt := by
  have h := t2 m c (k := 9) rfl (by decide) (by decide) (by decide) (heq_of_eq (E_v3 m c h0)) (heq_of_eq (E_call0_v1 m c h0))
  unfold Plan.call0_v2
  exact eq_of_heq h

/-- `main_call0_v3` holds the plan's `call0_v3`. -/
theorem E_call0_v3 (c : Dev nD) {cnt : IVec Plan.S8 32} (h0 : V m c main_arg0 = cnt) : V m c main_call0_v3 = Plan.call0_v3 cnt := by
  have h := t1 m c (k := 10) rfl (by decide) (by decide) (heq_of_eq (E_v3 m c h0))
  unfold Plan.call0_v3
  exact eq_of_heq h

/-- `main_call0_v4` holds the plan's `call0_v4`. -/
theorem E_call0_v4 (c : Dev nD) {cnt : IVec Plan.S8 32} (h0 : V m c main_arg0 = cnt) : V m c main_call0_v4 = Plan.call0_v4 cnt := by
  have h := t1 m c (k := 11) rfl (by decide) (by decide) (heq_of_eq (E_call0_v0 m c h0))
  unfold Plan.call0_v4
  exact eq_of_heq h

/-- `main_call0_v5` holds the plan's `call0_v5`. -/
theorem E_call0_v5 (c : Dev nD) {cnt : IVec Plan.S8 32} (h0 : V m c main_arg0 = cnt) : V m c main_call0_v5 = Plan.call0_v5 cnt := by
  have h := t1 m c (k := 12) rfl (by decide) (by decide) (heq_of_eq (E_call0_v4 m c h0))
  unfold Plan.call0_v5
  exact eq_of_heq h

/-- `main_call0_v6` holds the plan's `call0_v6`. -/
theorem E_call0_v6 (c : Dev nD) {cnt : IVec Plan.S8 32} (h0 : V m c main_arg0 = cnt) : V m c main_call0_v6 = Plan.call0_v6 cnt := by
  have h := t2 m c (k := 13) rfl (by decide) (by decide) (by decide) (heq_of_eq (E_call0_v3 m c h0)) (heq_of_eq (E_call0_v5 m c h0))
  unfold Plan.call0_v6
  exact eq_of_heq h

/-- `main_call0_v7` holds the plan's `call0_v7`. -/
theorem E_call0_v7 (c : Dev nD) {cnt : IVec Plan.S8 32} (h0 : V m c main_arg0 = cnt) : V m c main_call0_v7 = Plan.call0_v7 cnt := by
  have h := t1 m c (k := 14) rfl (by decide) (by decide) (heq_of_eq (E_call0_v0 m c h0))
  unfold Plan.call0_v7
  exact eq_of_heq h

/-- `main_call0_v8` holds the plan's `call0_v8`. -/
theorem E_call0_v8 (c : Dev nD) {cnt : IVec Plan.S8 32} (h0 : V m c main_arg0 = cnt) : V m c main_call0_v8 = Plan.call0_v8 cnt := by
  have h := t2 m c (k := 15) rfl (by decide) (by decide) (by decide) (heq_of_eq (E_v3 m c h0)) (heq_of_eq (E_call0_v7 m c h0))
  unfold Plan.call0_v8
  exact eq_of_heq h

/-- `main_call0_c` holds the plan's `call0_c`. -/
theorem E_call0_c (c : Dev nD) {cnt : IVec Plan.S8 32} (h0 : V m c main_arg0 = cnt) : V m c main_call0_c = Plan.call0_c cnt := by
  have h := t0 m c (k := 16) rfl (by decide)
  unfold Plan.call0_c
  exact eq_of_heq h

/-- `main_call0_v9` holds the plan's `call0_v9`. -/
theorem E_call0_v9 (c : Dev nD) {cnt : IVec Plan.S8 32} (h0 : V m c main_arg0 = cnt) : V m c main_call0_v9 = Plan.call0_v9 cnt := by
  have h := t1 m c (k := 17) rfl (by decide) (by decide) (heq_of_eq (E_call0_c m c h0))
  unfold Plan.call0_v9
  exact eq_of_heq h

/-- `main_call0_v10` holds the plan's `call0_v10`. -/
theorem E_call0_v10 (c : Dev nD) {cnt : IVec Plan.S8 32} (h0 : V m c main_arg0 = cnt) : V m c main_call0_v10 = Plan.call0_v10 cnt := by
  have h := t2 m c (k := 18) rfl (by decide) (by decide) (by decide) (heq_of_eq (E_call0_v8 m c h0)) (heq_of_eq (E_call0_v9 m c h0))
  unfold Plan.call0_v10
  exact eq_of_heq h

/-- `main_call0_v11` holds the plan's `call0_v11`. -/
theorem E_call0_v11 (c : Dev nD) {cnt : IVec Plan.S8 32} (h0 : V m c main_arg0 = cnt) : V m c main_call0_v11 = Plan.call0_v11 cnt := by
  have h := t2 m c (k := 19) rfl (by decide) (by decide) (by decide) (heq_of_eq (E_call0_v6 m c h0)) (heq_of_eq (E_call0_v10 m c h0))
  unfold Plan.call0_v11
  exact eq_of_heq h

/-- `main_call0_c_0` holds the plan's `call0_c_0`. -/
theorem E_call0_c_0 (c : Dev nD) {cnt : IVec Plan.S8 32} (h0 : V m c main_arg0 = cnt) : V m c main_call0_c_0 = Plan.call0_c_0 cnt := by
  have h := t0 m c (k := 20) rfl (by decide)
  unfold Plan.call0_c_0
  exact eq_of_heq h

/-- `main_call0_v12` holds the plan's `call0_v12`. -/
theorem E_call0_v12 (c : Dev nD) {cnt : IVec Plan.S8 32} (h0 : V m c main_arg0 = cnt) : V m c main_call0_v12 = Plan.call0_v12 cnt := by
  have h := t1 m c (k := 21) rfl (by decide) (by decide) (heq_of_eq (E_call0_c_0 m c h0))
  unfold Plan.call0_v12
  exact eq_of_heq h

/-- `main_call0_v13` holds the plan's `call0_v13`. -/
theorem E_call0_v13 (c : Dev nD) {cnt : IVec Plan.S8 32} (h0 : V m c main_arg0 = cnt) : V m c main_call0_v13 = Plan.call0_v13 cnt := by
  have h := t2 m c (k := 22) rfl (by decide) (by decide) (by decide) (heq_of_eq (E_call0_v2 m c h0)) (heq_of_eq (E_call0_v12 m c h0))
  unfold Plan.call0_v13
  exact eq_of_heq h

/-- `main_v4` holds the plan's `v4`. -/
theorem E_v4 (c : Dev nD) {cnt : IVec Plan.S8 32} (h0 : V m c main_arg0 = cnt) : V m c main_v4 = Plan.v4 cnt := by
  have h := t3 m c (k := 23) rfl (by decide) (by decide) (by decide) (by decide) (heq_of_eq (E_call0_v11 m c h0)) (heq_of_eq (E_call0_v13 m c h0)) (heq_of_eq (E_call0_v2 m c h0))
  unfold Plan.v4
  exact eq_of_heq h

/-- `main_c_2` holds the plan's `c_2`. -/
theorem E_c_2 (c : Dev nD) {cnt : IVec Plan.S8 32} (h0 : V m c main_arg0 = cnt) : V m c main_c_2 = Plan.c_2 cnt := by
  have h := e0 m c (k := 24) rfl (by decide)
  unfold Plan.c_2
  exact h

/-- `main_v5` holds the plan's `v5`. -/
theorem E_v5 (c : Dev nD) {cnt : IVec Plan.S8 32} (h0 : V m c main_arg0 = cnt) : V m c main_v5 = Plan.v5 cnt := by
  have h := e1 m c (k := 25) rfl (by decide) (by decide) (E_c_2 m c h0)
  unfold Plan.v5
  exact h

/-- `main_v6` holds the plan's `v6`. -/
theorem E_v6 (c : Dev nD) {cnt : IVec Plan.S8 32} (h0 : V m c main_arg0 = cnt) : V m c main_v6 = Plan.v6 cnt := by
  have h := e2 m c (k := 26) rfl (by decide) (by decide) (by decide) (E_v4 m c h0) (E_v5 m c h0)
  unfold Plan.v6
  exact h

/-- `main_call1_call0_c` holds the plan's `call1_call0_c`. -/
theorem E_call1_call0_c (c : Dev nD) {cnt : IVec Plan.S8 32} (h0 : V m c main_arg0 = cnt) : V m c main_call1_call0_c = Plan.call1_call0_c cnt := by
  have h := t0 m c (k := 27) rfl (by decide)
  unfold Plan.call1_call0_c
  exact eq_of_heq h

/-- `main_call1_call0_v0` holds the plan's `call1_call0_v0`. -/
theorem E_call1_call0_v0 (c : Dev nD) {cnt : IVec Plan.S8 32} (h0 : V m c main_arg0 = cnt) : V m c main_call1_call0_v0 = Plan.call1_call0_v0 cnt := by
  have h := t1 m c (k := 28) rfl (by decide) (by decide) (heq_of_eq (E_call1_call0_c m c h0))
  unfold Plan.call1_call0_v0
  exact eq_of_heq h

/-- `main_v7` holds the plan's `v7`. -/
theorem E_v7 (c : Dev nD) {cnt : IVec Plan.S8 32} (h0 : V m c main_arg0 = cnt) : V m c main_v7 = Plan.v7 cnt := by
  have h := t2 m c (k := 29) rfl (by decide) (by decide) (by decide) (heq_of_eq (E_v6 m c h0)) (heq_of_eq (E_call1_call0_v0 m c h0))
  unfold Plan.v7
  exact eq_of_heq h

/-- `main_v8` holds the plan's `v8`. -/
theorem E_v8 (c : Dev nD) {cnt : IVec Plan.S8 32} (h0 : V m c main_arg0 = cnt) : V m c main_v8 = Plan.v8 cnt := by
  have h := e2 m c (k := 30) rfl (by decide) (by decide) (by decide) (E_v7 m c h0) (E_v6 m c h0)
  unfold Plan.v8
  exact h

/-- `main_v9` holds the plan's `v9`. -/
theorem E_v9 (c : Dev nD) {cnt : IVec Plan.S8 32} (h0 : V m c main_arg0 = cnt) : V m c main_v9 = Plan.v9 cnt := by
  have h := e1 m c (k := 31) rfl (by decide) (by decide) (E_v7 m c h0)
  unfold Plan.v9
  exact h

/-- `main_v10` holds the plan's `v10`. -/
theorem E_v10 (c : Dev nD) {cnt : IVec Plan.S8 32} (h0 : V m c main_arg0 = cnt) : V m c main_v10 = Plan.v10 cnt := by
  have h := eR m c (k := 32) rfl (by decide) (by decide) (E_v9 m c h0)
  unfold Plan.v10
  exact h

/-- `main_c_3` holds the plan's `c_3`. -/
theorem E_c_3 (c : Dev nD) {cnt : IVec Plan.S8 32} (h0 : V m c main_arg0 = cnt) : V m c main_c_3 = Plan.c_3 cnt := by
  have h := e0 m c (k := 33) rfl (by decide)
  unfold Plan.c_3
  exact h

/-- `main_v11` holds the plan's `v11`. -/
theorem E_v11 (c : Dev nD) {cnt : IVec Plan.S8 32} (h0 : V m c main_arg0 = cnt) : V m c main_v11 = Plan.v11 cnt := by
  have h := e2 m c (k := 34) rfl (by decide) (by decide) (by decide) (E_v10 m c h0) (E_c_3 m c h0)
  unfold Plan.v11
  exact h

/-- `main_c_4` holds the plan's `c_4`. -/
theorem E_c_4 (c : Dev nD) {cnt : IVec Plan.S8 32} (h0 : V m c main_arg0 = cnt) : V m c main_c_4 = Plan.c_4 cnt := by
  have h := e0 m c (k := 35) rfl (by decide)
  unfold Plan.c_4
  exact h

/-- `main_v12` holds the plan's `v12`. -/
theorem E_v12 (c : Dev nD) {cnt : IVec Plan.S8 32} (h0 : V m c main_arg0 = cnt) : V m c main_v12 = Plan.v12 cnt := by
  have h := e2 m c (k := 36) rfl (by decide) (by decide) (by decide) (E_v11 m c h0) (E_c_4 m c h0)
  unfold Plan.v12
  exact h

/-- `main_c_5` holds the plan's `c_5`. -/
theorem E_c_5 (c : Dev nD) {cnt : IVec Plan.S8 32} (h0 : V m c main_arg0 = cnt) : V m c main_c_5 = Plan.c_5 cnt := by
  have h := e0 m c (k := 37) rfl (by decide)
  unfold Plan.c_5
  exact h

/-- `main_call2_v0` holds the plan's `call2_v0`. -/
theorem E_call2_v0 (c : Dev nD) {cnt : IVec Plan.S8 32} (h0 : V m c main_arg0 = cnt) : V m c main_call2_v0 = Plan.call2_v0 cnt := by
  have h := t1 m c (k := 38) rfl (by decide) (by decide) (heq_of_eq (E_c_5 m c h0))
  unfold Plan.call2_v0
  exact eq_of_heq h

/-- `main_call2_v1` holds the plan's `call2_v1`. -/
theorem E_call2_v1 (c : Dev nD) {cnt : IVec Plan.S8 32} (h0 : V m c main_arg0 = cnt) : V m c main_call2_v1 = Plan.call2_v1 cnt := by
  have h := t2 m c (k := 39) rfl (by decide) (by decide) (by decide) (heq_of_eq (E_v12 m c h0)) (heq_of_eq (E_call2_v0 m c h0))
  unfold Plan.call2_v1
  exact eq_of_heq h

/-- `main_call2_v2` holds the plan's `call2_v2`. -/
theorem E_call2_v2 (c : Dev nD) {cnt : IVec Plan.S8 32} (h0 : V m c main_arg0 = cnt) : V m c main_call2_v2 = Plan.call2_v2 cnt := by
  have h := t1 m c (k := 40) rfl (by decide) (by decide) (heq_of_eq (E_v12 m c h0))
  unfold Plan.call2_v2
  exact eq_of_heq h

/-- `main_call2_v3` holds the plan's `call2_v3`. -/
theorem E_call2_v3 (c : Dev nD) {cnt : IVec Plan.S8 32} (h0 : V m c main_arg0 = cnt) : V m c main_call2_v3 = Plan.call2_v3 cnt := by
  have h := t1 m c (k := 41) rfl (by decide) (by decide) (heq_of_eq (E_call2_v0 m c h0))
  unfold Plan.call2_v3
  exact eq_of_heq h

/-- `main_call2_v4` holds the plan's `call2_v4`. -/
theorem E_call2_v4 (c : Dev nD) {cnt : IVec Plan.S8 32} (h0 : V m c main_arg0 = cnt) : V m c main_call2_v4 = Plan.call2_v4 cnt := by
  have h := t2 m c (k := 42) rfl (by decide) (by decide) (by decide) (heq_of_eq (E_call2_v2 m c h0)) (heq_of_eq (E_call2_v3 m c h0))
  unfold Plan.call2_v4
  exact eq_of_heq h

/-- `main_call2_v5` holds the plan's `call2_v5`. -/
theorem E_call2_v5 (c : Dev nD) {cnt : IVec Plan.S8 32} (h0 : V m c main_arg0 = cnt) : V m c main_call2_v5 = Plan.call2_v5 cnt := by
  have h := t2 m c (k := 43) rfl (by decide) (by decide) (by decide) (heq_of_eq (E_v12 m c h0)) (heq_of_eq (E_call2_v0 m c h0))
  unfold Plan.call2_v5
  exact eq_of_heq h

/-- `main_call2_c` holds the plan's `call2_c`. -/
theorem E_call2_c (c : Dev nD) {cnt : IVec Plan.S8 32} (h0 : V m c main_arg0 = cnt) : V m c main_call2_c = Plan.call2_c cnt := by
  have h := t0 m c (k := 44) rfl (by decide)
  unfold Plan.call2_c
  exact eq_of_heq h

/-- `main_call2_v6` holds the plan's `call2_v6`. -/
theorem E_call2_v6 (c : Dev nD) {cnt : IVec Plan.S8 32} (h0 : V m c main_arg0 = cnt) : V m c main_call2_v6 = Plan.call2_v6 cnt := by
  have h := t2 m c (k := 45) rfl (by decide) (by decide) (by decide) (heq_of_eq (E_call2_v5 m c h0)) (heq_of_eq (E_call2_c m c h0))
  unfold Plan.call2_v6
  exact eq_of_heq h

/-- `main_call2_v7` holds the plan's `call2_v7`. -/
theorem E_call2_v7 (c : Dev nD) {cnt : IVec Plan.S8 32} (h0 : V m c main_arg0 = cnt) : V m c main_call2_v7 = Plan.call2_v7 cnt := by
  have h := t2 m c (k := 46) rfl (by decide) (by decide) (by decide) (heq_of_eq (E_call2_v4 m c h0)) (heq_of_eq (E_call2_v6 m c h0))
  unfold Plan.call2_v7
  exact eq_of_heq h

/-- `main_call2_c_0` holds the plan's `call2_c_0`. -/
theorem E_call2_c_0 (c : Dev nD) {cnt : IVec Plan.S8 32} (h0 : V m c main_arg0 = cnt) : V m c main_call2_c_0 = Plan.call2_c_0 cnt := by
  have h := t0 m c (k := 47) rfl (by decide)
  unfold Plan.call2_c_0
  exact eq_of_heq h

/-- `main_call2_v8` holds the plan's `call2_v8`. -/
theorem E_call2_v8 (c : Dev nD) {cnt : IVec Plan.S8 32} (h0 : V m c main_arg0 = cnt) : V m c main_call2_v8 = Plan.call2_v8 cnt := by
  have h := t2 m c (k := 48) rfl (by decide) (by decide) (by decide) (heq_of_eq (E_call2_v1 m c h0)) (heq_of_eq (E_call2_c_0 m c h0))
  unfold Plan.call2_v8
  exact eq_of_heq h

/-- `main_v13` holds the plan's `v13`. -/
theorem E_v13 (c : Dev nD) {cnt : IVec Plan.S8 32} (h0 : V m c main_arg0 = cnt) : V m c main_v13 = Plan.v13 cnt := by
  have h := t3 m c (k := 49) rfl (by decide) (by decide) (by decide) (by decide) (heq_of_eq (E_call2_v7 m c h0)) (heq_of_eq (E_call2_v8 m c h0)) (heq_of_eq (E_call2_v1 m c h0))
  unfold Plan.v13
  exact eq_of_heq h

/-- `main_v14` holds the plan's `v14`. -/
theorem E_v14 (c : Dev nD) {cnt : IVec Plan.S8 32} (h0 : V m c main_arg0 = cnt) : V m c main_v14 = Plan.v14 cnt := by
  have h := e0 m c (k := 50) rfl (by decide)
  unfold Plan.v14
  exact h

/-- `main_c_6` holds the plan's `c_6`. -/
theorem E_c_6 (c : Dev nD) {cnt : IVec Plan.S8 32} (h0 : V m c main_arg0 = cnt) : V m c main_c_6 = Plan.c_6 cnt := by
  have h := e0 m c (k := 51) rfl (by decide)
  unfold Plan.c_6
  exact h

/-- `main_v15` holds the plan's `v15`. -/
theorem E_v15 (c : Dev nD) {cnt : IVec Plan.S8 32} (h0 : V m c main_arg0 = cnt) : V m c main_v15 = Plan.v15 cnt := by
  have h := e1 m c (k := 52) rfl (by decide) (by decide) (E_c_6 m c h0)
  unfold Plan.v15
  exact h

/-- `main_v16` holds the plan's `v16`. -/
theorem E_v16 (c : Dev nD) {cnt : IVec Plan.S8 32} (h0 : V m c main_arg0 = cnt) : V m c main_v16 = Plan.v16 cnt := by
  have h := e2 m c (k := 53) rfl (by decide) (by decide) (by decide) (E_v14 m c h0) (E_v15 m c h0)
  unfold Plan.v16
  exact h

/-- `main_v17` holds the plan's `v17`. -/
theorem E_v17 (c : Dev nD) {cnt : IVec Plan.S8 32} (h0 : V m c main_arg0 = cnt) : V m c main_v17 = Plan.v17 cnt := by
  have h := e1 m c (k := 54) rfl (by decide) (by decide) (E_v16 m c h0)
  unfold Plan.v17
  exact h

/-- `main_v18` holds the plan's `v18`. -/
theorem E_v18 (c : Dev nD) {cnt : IVec Plan.S8 32} (h0 : V m c main_arg0 = cnt) : V m c main_v18 = Plan.v18 cnt := by
  have h := e1 m c (k := 55) rfl (by decide) (by decide) (E_v8 m c h0)
  unfold Plan.v18
  exact h

/-- `main_v19` holds the plan's `v19`. -/
theorem E_v19 (c : Dev nD) {cnt : IVec Plan.S8 32} (h0 : V m c main_arg0 = cnt) : V m c main_v19 = Plan.v19 cnt := by
  have h := e1 m c (k := 56) rfl (by decide) (by decide) (E_v18 m c h0)
  unfold Plan.v19
  exact h

/-- `main_v20` holds the plan's `v20`. -/
theorem E_v20 (c : Dev nD) {cnt : IVec Plan.S8 32} (h0 : V m c main_arg0 = cnt) : V m c main_v20 = Plan.v20 cnt := by
  have h := e1 m c (k := 57) rfl (by decide) (by decide) (E_v17 m c h0)
  unfold Plan.v20
  exact h

/-- `main_v21` holds the plan's `v21`. -/
theorem E_v21 (c : Dev nD) {cnt : IVec Plan.S8 32} (h0 : V m c main_arg0 = cnt) : V m c main_v21 = Plan.v21 cnt := by
  have h := e2 m c (k := 58) rfl (by decide) (by decide) (by decide) (E_v19 m c h0) (E_v20 m c h0)
  unfold Plan.v21
  exact h

/-- `main_v22` holds the plan's `v22`. -/
theorem E_v22 (c : Dev nD) {cnt : IVec Plan.S8 32} (h0 : V m c main_arg0 = cnt) : V m c main_v22 = Plan.v22 cnt := by
  have h := e1 m c (k := 59) rfl (by decide) (by decide) (E_v7 m c h0)
  unfold Plan.v22
  exact h

/-- `main_c_7` holds the plan's `c_7`. -/
theorem E_c_7 (c : Dev nD) {cnt : IVec Plan.S8 32} (h0 : V m c main_arg0 = cnt) : V m c main_c_7 = Plan.c_7 cnt := by
  have h := e0 m c (k := 60) rfl (by decide)
  unfold Plan.c_7
  exact h

/-- `main_v23` holds the plan's `v23`. -/
theorem E_v23 (c : Dev nD) {cnt : IVec Plan.S8 32} (h0 : V m c main_arg0 = cnt) : V m c main_v23 = Plan.v23 cnt := by
  have h := e1 m c (k := 61) rfl (by decide) (by decide) (E_c_7 m c h0)
  unfold Plan.v23
  exact h

/-- `main_v24` holds the plan's `v24`. -/
theorem E_v24 (c : Dev nD) {cnt : IVec Plan.S8 32} (h0 : V m c main_arg0 = cnt) : V m c main_v24 = Plan.v24 cnt := by
  have h := e2 m c (k := 62) rfl (by decide) (by decide) (by decide) (E_v17 m c h0) (E_v23 m c h0)
  unfold Plan.v24
  exact h

/-- `main_v25` holds the plan's `v25`. -/
theorem E_v25 (c : Dev nD) {cnt : IVec Plan.S8 32} (h0 : V m c main_arg0 = cnt) : V m c main_v25 = Plan.v25 cnt := by
  have h := e1 m c (k := 63) rfl (by decide) (by decide) (E_v22 m c h0)
  unfold Plan.v25
  exact h

/-- `main_v26` holds the plan's `v26`. -/
theorem E_v26 (c : Dev nD) {cnt : IVec Plan.S8 32} (h0 : V m c main_arg0 = cnt) : V m c main_v26 = Plan.v26 cnt := by
  have h := e1 m c (k := 64) rfl (by decide) (by decide) (E_v24 m c h0)
  unfold Plan.v26
  exact h

/-- `main_v27` holds the plan's `v27`. -/
theorem E_v27 (c : Dev nD) {cnt : IVec Plan.S8 32} (h0 : V m c main_arg0 = cnt) : V m c main_v27 = Plan.v27 cnt := by
  have h := e2 m c (k := 65) rfl (by decide) (by decide) (by decide) (E_v25 m c h0) (E_v26 m c h0)
  unfold Plan.v27
  exact h

/-- `main_v28` holds the plan's `v28`. -/
theorem E_v28 (c : Dev nD) {cnt : IVec Plan.S8 32} (h0 : V m c main_arg0 = cnt) : V m c main_v28 = Plan.v28 cnt := by
  have h := e2 m c (k := 66) rfl (by decide) (by decide) (by decide) (E_v27 m c h0) (E_v21 m c h0)
  unfold Plan.v28
  exact h

/-- `main_v29` holds the plan's `v29`. -/
theorem E_v29 (c : Dev nD) {cnt : IVec Plan.S8 32} (h0 : V m c main_arg0 = cnt) : V m c main_v29 = Plan.v29 cnt := by
  have h := eR m c (k := 67) rfl (by decide) (by decide) (E_v28 m c h0)
  unfold Plan.v29
  exact h

/-- `main_v30` holds the plan's `v30`. -/
theorem E_v30 (c : Dev nD) {cnt : IVec Plan.S8 32} (h0 : V m c main_arg0 = cnt) : V m c main_v30 = Plan.v30 cnt := by
  have h := e1 m c (k := 68) rfl (by decide) (by decide) (E_v29 m c h0)
  unfold Plan.v30
  exact h

/-- `main_c_8` holds the plan's `c_8`. -/
theorem E_c_8 (c : Dev nD) {cnt : IVec Plan.S8 32} (h0 : V m c main_arg0 = cnt) : V m c main_c_8 = Plan.c_8 cnt := by
  have h := e0 m c (k := 69) rfl (by decide)
  unfold Plan.c_8
  exact h

/-- `main_v31` holds the plan's `v31`. -/
theorem E_v31 (c : Dev nD) {cnt : IVec Plan.S8 32} (h0 : V m c main_arg0 = cnt) : V m c main_v31 = Plan.v31 cnt := by
  have h := e2 m c (k := 70) rfl (by decide) (by decide) (by decide) (E_v30 m c h0) (E_c_8 m c h0)
  unfold Plan.v31
  exact h

/-- `main_v32` holds the plan's `v32`. -/
theorem E_v32 (c : Dev nD) {cnt : IVec Plan.S8 32} (h0 : V m c main_arg0 = cnt) : V m c main_v32 = Plan.v32 cnt := by
  have h := e1 m c (k := 71) rfl (by decide) (by decide) (E_v29 m c h0)
  unfold Plan.v32
  exact h

/-- `main_call3_call0_c` holds the plan's `call3_call0_c`. -/
theorem E_call3_call0_c (c : Dev nD) {cnt : IVec Plan.S8 32} (h0 : V m c main_arg0 = cnt) : V m c main_call3_call0_c = Plan.call3_call0_c cnt := by
  have h := t0 m c (k := 72) rfl (by decide)
  unfold Plan.call3_call0_c
  exact eq_of_heq h

/-- `main_call3_call0_v0` holds the plan's `call3_call0_v0`. -/
theorem E_call3_call0_v0 (c : Dev nD) {cnt : IVec Plan.S8 32} (h0 : V m c main_arg0 = cnt) : V m c main_call3_call0_v0 = Plan.call3_call0_v0 cnt := by
  have h := t1 m c (k := 73) rfl (by decide) (by decide) (heq_of_eq (E_call3_call0_c m c h0))
  unfold Plan.call3_call0_v0
  exact eq_of_heq h

/-- `main_v33` holds the plan's `v33`. -/
theorem E_v33 (c : Dev nD) {cnt : IVec Plan.S8 32} (h0 : V m c main_arg0 = cnt) : V m c main_v33 = Plan.v33 cnt := by
  have h := t2 m c (k := 74) rfl (by decide) (by decide) (by decide) (heq_of_eq (E_v32 m c h0)) (heq_of_eq (E_call3_call0_v0 m c h0))
  unfold Plan.v33
  exact eq_of_heq h

/-- `main_c_9` holds the plan's `c_9`. -/
theorem E_c_9 (c : Dev nD) {cnt : IVec Plan.S8 32} (h0 : V m c main_arg0 = cnt) : V m c main_c_9 = Plan.c_9 cnt := by
  have h := e0 m c (k := 75) rfl (by decide)
  unfold Plan.c_9
  exact h

/-- `main_v34` holds the plan's `v34`. -/
theorem E_v34 (c : Dev nD) {cnt : IVec Plan.S8 32} (h0 : V m c main_arg0 = cnt) : V m c main_v34 = Plan.v34 cnt := by
  have h := e1 m c (k := 76) rfl (by decide) (by decide) (E_c_9 m c h0)
  unfold Plan.v34
  exact h

/-- `main_v35` holds the plan's `v35`. -/
theorem E_v35 (c : Dev nD) {cnt : IVec Plan.S8 32} (h0 : V m c main_arg0 = cnt) : V m c main_v35 = Plan.v35 cnt := by
  have h := e2 m c (k := 77) rfl (by decide) (by decide) (by decide) (E_v33 m c h0) (E_v34 m c h0)
  unfold Plan.v35
  exact h

/-- `main_c_10` holds the plan's `c_10`. -/
theorem E_c_10 (c : Dev nD) {cnt : IVec Plan.S8 32} (h0 : V m c main_arg0 = cnt) : V m c main_c_10 = Plan.c_10 cnt := by
  have h := e0 m c (k := 78) rfl (by decide)
  unfold Plan.c_10
  exact h

/-- `main_call4_v0` holds the plan's `call4_v0`. -/
theorem E_call4_v0 (c : Dev nD) {cnt : IVec Plan.S8 32} (h0 : V m c main_arg0 = cnt) : V m c main_call4_v0 = Plan.call4_v0 cnt := by
  have h := t1 m c (k := 79) rfl (by decide) (by decide) (heq_of_eq (E_c_10 m c h0))
  unfold Plan.call4_v0
  exact eq_of_heq h

/-- `main_call4_v1` holds the plan's `call4_v1`. -/
theorem E_call4_v1 (c : Dev nD) {cnt : IVec Plan.S8 32} (h0 : V m c main_arg0 = cnt) : V m c main_call4_v1 = Plan.call4_v1 cnt := by
  have h := t1 m c (k := 80) rfl (by decide) (by decide) (heq_of_eq (E_call4_v0 m c h0))
  unfold Plan.call4_v1
  exact eq_of_heq h

/-- `main_v36` holds the plan's `v36`. -/
theorem E_v36 (c : Dev nD) {cnt : IVec Plan.S8 32} (h0 : V m c main_arg0 = cnt) : V m c main_v36 = Plan.v36 cnt := by
  have h := t3 m c (k := 81) rfl (by decide) (by decide) (by decide) (by decide) (heq_of_eq (E_v29 m c h0)) (heq_of_eq (E_v35 m c h0)) (heq_of_eq (E_call4_v1 m c h0))
  unfold Plan.v36
  exact eq_of_heq h

/-- `main_v37` holds the plan's `v37`. -/
theorem E_v37 (c : Dev nD) {cnt : IVec Plan.S8 32} (h0 : V m c main_arg0 = cnt) : V m c main_v37 = Plan.v37 cnt := by
  have h := e0 m c (k := 82) rfl (by decide)
  unfold Plan.v37
  exact h

/-- `main_v38` holds the plan's `v38`. -/
theorem E_v38 (c : Dev nD) {cnt : IVec Plan.S8 32} (h0 : V m c main_arg0 = cnt) : V m c main_v38 = Plan.v38 cnt := by
  have h := e1 m c (k := 83) rfl (by decide) (by decide) (E_v37 m c h0)
  unfold Plan.v38
  exact h

/-- `main_v39` holds the plan's `v39`. -/
theorem E_v39 (c : Dev nD) {cnt : IVec Plan.S8 32} (h0 : V m c main_arg0 = cnt) : V m c main_v39 = Plan.v39 cnt := by
  have h := e1 m c (k := 84) rfl (by decide) (by decide) (E_v38 m c h0)
  unfold Plan.v39
  exact h

/-- `main_c_11` holds the plan's `c_11`. -/
theorem E_c_11 (c : Dev nD) {cnt : IVec Plan.S8 32} (h0 : V m c main_arg0 = cnt) : V m c main_c_11 = Plan.c_11 cnt := by
  have h := e0 m c (k := 85) rfl (by decide)
  unfold Plan.c_11
  exact h

/-- `main_v40` holds the plan's `v40`. -/
theorem E_v40 (c : Dev nD) {cnt : IVec Plan.S8 32} (h0 : V m c main_arg0 = cnt) : V m c main_v40 = Plan.v40 cnt := by
  have h := e1 m c (k := 86) rfl (by decide) (by decide) (E_c_11 m c h0)
  unfold Plan.v40
  exact h

/-- `main_v41` holds the plan's `v41`. -/
theorem E_v41 (c : Dev nD) {cnt : IVec Plan.S8 32} (h0 : V m c main_arg0 = cnt) : V m c main_v41 = Plan.v41 cnt := by
  have h := eR m c (k := 87) rfl (by decide) (by decide) (E_v39 m c h0)
  unfold Plan.v41
  exact h

/-- `main_c_12` holds the plan's `c_12`. -/
theorem E_c_12 (c : Dev nD) {cnt : IVec Plan.S8 32} (h0 : V m c main_arg0 = cnt) : V m c main_c_12 = Plan.c_12 cnt := by
  have h := e0 m c (k := 88) rfl (by decide)
  unfold Plan.c_12
  exact h

/-- `main_v42` holds the plan's `v42`. -/
theorem E_v42 (c : Dev nD) {cnt : IVec Plan.S8 32} (h0 : V m c main_arg0 = cnt) : V m c main_v42 = Plan.v42 cnt := by
  have h := e1 m c (k := 89) rfl (by decide) (by decide) (E_c_12 m c h0)
  unfold Plan.v42
  exact h

/-- `main_v43` holds the plan's `v43`. -/
theorem E_v43 (c : Dev nD) {cnt : IVec Plan.S8 32} (h0 : V m c main_arg0 = cnt) : V m c main_v43 = Plan.v43 cnt := by
  have h := e2 m c (k := 90) rfl (by decide) (by decide) (by decide) (E_v36 m c h0) (E_v42 m c h0)
  unfold Plan.v43
  exact h

/-- `main_c_13` holds the plan's `c_13`. -/
theorem E_c_13 (c : Dev nD) {cnt : IVec Plan.S8 32} (h0 : V m c main_arg0 = cnt) : V m c main_c_13 = Plan.c_13 cnt := by
  have h := e0 m c (k := 91) rfl (by decide)
  unfold Plan.c_13
  exact h

/-- `main_v44` holds the plan's `v44`. -/
theorem E_v44 (c : Dev nD) {cnt : IVec Plan.S8 32} (h0 : V m c main_arg0 = cnt) : V m c main_v44 = Plan.v44 cnt := by
  have h := e1 m c (k := 92) rfl (by decide) (by decide) (E_c_13 m c h0)
  unfold Plan.v44
  exact h

/-- `main_v45` holds the plan's `v45`. -/
theorem E_v45 (c : Dev nD) {cnt : IVec Plan.S8 32} (h0 : V m c main_arg0 = cnt) : V m c main_v45 = Plan.v45 cnt := by
  have h := e2 m c (k := 93) rfl (by decide) (by decide) (by decide) (E_v36 m c h0) (E_v44 m c h0)
  unfold Plan.v45
  exact h

/-- `main_v46` holds the plan's `v46`. -/
theorem E_v46 (c : Dev nD) {cnt : IVec Plan.S8 32} (h0 : V m c main_arg0 = cnt) : V m c main_v46 = Plan.v46 cnt := by
  have h := e3 m c (k := 94) rfl (by decide) (by decide) (by decide) (by decide) (E_v43 m c h0) (E_v45 m c h0) (E_v36 m c h0)
  unfold Plan.v46
  exact h

/-- `main_v47` holds the plan's `v47`. -/
theorem E_v47 (c : Dev nD) {cnt : IVec Plan.S8 32} (h0 : V m c main_arg0 = cnt) : V m c main_v47 = Plan.v47 cnt := by
  have h := e1 m c (k := 95) rfl (by decide) (by decide) (E_v46 m c h0)
  unfold Plan.v47
  exact h

/-- `main_v48` holds the plan's `v48`. -/
theorem E_v48 (c : Dev nD) {cnt : IVec Plan.S8 32} (h0 : V m c main_arg0 = cnt) : V m c main_v48 = Plan.v48 cnt := by
  have h := e3 m c (k := 96) rfl (by decide) (by decide) (by decide) (by decide) (E_v40 m c h0) (E_v47 m c h0) (E_v41 m c h0)
  unfold Plan.v48
  exact h

/-- `main_v49` holds the plan's `v49`. -/
theorem E_v49 (c : Dev nD) {cnt : IVec Plan.S8 32} (h0 : V m c main_arg0 = cnt) : V m c main_v49 = Plan.v49 cnt := by
  have h := e0 m c (k := 97) rfl (by decide)
  unfold Plan.v49
  exact h

/-- `main_v50` holds the plan's `v50`. -/
theorem E_v50 (c : Dev nD) {cnt : IVec Plan.S8 32} (h0 : V m c main_arg0 = cnt) : V m c main_v50 = Plan.v50 cnt := by
  have h := e1 m c (k := 98) rfl (by decide) (by decide) (E_v49 m c h0)
  unfold Plan.v50
  exact h

/-- `main_v51` holds the plan's `v51`. -/
theorem E_v51 (c : Dev nD) {cnt : IVec Plan.S8 32} (h0 : V m c main_arg0 = cnt) : V m c main_v51 = Plan.v51 cnt := by
  have h := e1 m c (k := 99) rfl (by decide) (by decide) (E_v50 m c h0)
  unfold Plan.v51
  exact h

/-- `main_c_14` holds the plan's `c_14`. -/
theorem E_c_14 (c : Dev nD) {cnt : IVec Plan.S8 32} (h0 : V m c main_arg0 = cnt) : V m c main_c_14 = Plan.c_14 cnt := by
  have h := e0 m c (k := 100) rfl (by decide)
  unfold Plan.c_14
  exact h

/-- `main_v52` holds the plan's `v52`. -/
theorem E_v52 (c : Dev nD) {cnt : IVec Plan.S8 32} (h0 : V m c main_arg0 = cnt) : V m c main_v52 = Plan.v52 cnt := by
  have h := e1 m c (k := 101) rfl (by decide) (by decide) (E_c_14 m c h0)
  unfold Plan.v52
  exact h

/-- `main_v53` holds the plan's `v53`. -/
theorem E_v53 (c : Dev nD) {cnt : IVec Plan.S8 32} (h0 : V m c main_arg0 = cnt) : V m c main_v53 = Plan.v53 cnt := by
  have h := eR m c (k := 102) rfl (by decide) (by decide) (E_v51 m c h0)
  unfold Plan.v53
  exact h

/-- `main_c_15` holds the plan's `c_15`. -/
theorem E_c_15 (c : Dev nD) {cnt : IVec Plan.S8 32} (h0 : V m c main_arg0 = cnt) : V m c main_c_15 = Plan.c_15 cnt := by
  have h := e0 m c (k := 103) rfl (by decide)
  unfold Plan.c_15
  exact h

/-- `main_v54` holds the plan's `v54`. -/
theorem E_v54 (c : Dev nD) {cnt : IVec Plan.S8 32} (h0 : V m c main_arg0 = cnt) : V m c main_v54 = Plan.v54 cnt := by
  have h := e1 m c (k := 104) rfl (by decide) (by decide) (E_c_15 m c h0)
  unfold Plan.v54
  exact h

/-- `main_v55` holds the plan's `v55`. -/
theorem E_v55 (c : Dev nD) {cnt : IVec Plan.S8 32} (h0 : V m c main_arg0 = cnt) : V m c main_v55 = Plan.v55 cnt := by
  have h := e2 m c (k := 105) rfl (by decide) (by decide) (by decide) (E_v36 m c h0) (E_v54 m c h0)
  unfold Plan.v55
  exact h

/-- `main_c_16` holds the plan's `c_16`. -/
theorem E_c_16 (c : Dev nD) {cnt : IVec Plan.S8 32} (h0 : V m c main_arg0 = cnt) : V m c main_c_16 = Plan.c_16 cnt := by
  have h := e0 m c (k := 106) rfl (by decide)
  unfold Plan.c_16
  exact h

/-- `main_v56` holds the plan's `v56`. -/
theorem E_v56 (c : Dev nD) {cnt : IVec Plan.S8 32} (h0 : V m c main_arg0 = cnt) : V m c main_v56 = Plan.v56 cnt := by
  have h := e1 m c (k := 107) rfl (by decide) (by decide) (E_c_16 m c h0)
  unfold Plan.v56
  exact h

/-- `main_v57` holds the plan's `v57`. -/
theorem E_v57 (c : Dev nD) {cnt : IVec Plan.S8 32} (h0 : V m c main_arg0 = cnt) : V m c main_v57 = Plan.v57 cnt := by
  have h := e2 m c (k := 108) rfl (by decide) (by decide) (by decide) (E_v36 m c h0) (E_v56 m c h0)
  unfold Plan.v57
  exact h

/-- `main_v58` holds the plan's `v58`. -/
theorem E_v58 (c : Dev nD) {cnt : IVec Plan.S8 32} (h0 : V m c main_arg0 = cnt) : V m c main_v58 = Plan.v58 cnt := by
  have h := e3 m c (k := 109) rfl (by decide) (by decide) (by decide) (by decide) (E_v55 m c h0) (E_v57 m c h0) (E_v36 m c h0)
  unfold Plan.v58
  exact h

/-- `main_v59` holds the plan's `v59`. -/
theorem E_v59 (c : Dev nD) {cnt : IVec Plan.S8 32} (h0 : V m c main_arg0 = cnt) : V m c main_v59 = Plan.v59 cnt := by
  have h := e1 m c (k := 110) rfl (by decide) (by decide) (E_v58 m c h0)
  unfold Plan.v59
  exact h

/-- `main_v60` holds the plan's `v60`. -/
theorem E_v60 (c : Dev nD) {cnt : IVec Plan.S8 32} (h0 : V m c main_arg0 = cnt) : V m c main_v60 = Plan.v60 cnt := by
  have h := e3 m c (k := 111) rfl (by decide) (by decide) (by decide) (by decide) (E_v52 m c h0) (E_v59 m c h0) (E_v53 m c h0)
  unfold Plan.v60
  exact h

/-- `main_v61` holds the plan's `v61`. -/
theorem E_v61 (c : Dev nD) {cnt : IVec Plan.S8 32} (h0 : V m c main_arg0 = cnt) : V m c main_v61 = Plan.v61 cnt := by
  have h := e1 m c (k := 112) rfl (by decide) (by decide) (E_v17 m c h0)
  unfold Plan.v61
  exact h

/-- `main_v62` holds the plan's `v62`. -/
theorem E_v62 (c : Dev nD) {cnt : IVec Plan.S8 32} (h0 : V m c main_arg0 = cnt) : V m c main_v62 = Plan.v62 cnt := by
  have h := e2 m c (k := 113) rfl (by decide) (by decide) (by decide) (E_v21 m c h0) (E_v61 m c h0)
  unfold Plan.v62
  exact h

/-- `main_c_17` holds the plan's `c_17`. -/
theorem E_c_17 (c : Dev nD) {cnt : IVec Plan.S8 32} (h0 : V m c main_arg0 = cnt) : V m c main_c_17 = Plan.c_17 cnt := by
  have h := e0 m c (k := 114) rfl (by decide)
  unfold Plan.c_17
  exact h

/-- `main_call5_v0` holds the plan's `call5_v0`. -/
theorem E_call5_v0 (c : Dev nD) {cnt : IVec Plan.S8 32} (h0 : V m c main_arg0 = cnt) : V m c main_call5_v0 = Plan.call5_v0 cnt := by
  have h := t1 m c (k := 115) rfl (by decide) (by decide) (heq_of_eq (E_c_17 m c h0))
  unfold Plan.call5_v0
  exact eq_of_heq h

/-- `main_call5_v1` holds the plan's `call5_v1`. -/
theorem E_call5_v1 (c : Dev nD) {cnt : IVec Plan.S8 32} (h0 : V m c main_arg0 = cnt) : V m c main_call5_v1 = Plan.call5_v1 cnt := by
  have h := t1 m c (k := 116) rfl (by decide) (by decide) (heq_of_eq (E_call5_v0 m c h0))
  unfold Plan.call5_v1
  exact eq_of_heq h

/-- `main_call5_v2` holds the plan's `call5_v2`. -/
theorem E_call5_v2 (c : Dev nD) {cnt : IVec Plan.S8 32} (h0 : V m c main_arg0 = cnt) : V m c main_call5_v2 = Plan.call5_v2 cnt := by
  have h := t2 m c (k := 117) rfl (by decide) (by decide) (by decide) (heq_of_eq (E_v62 m c h0)) (heq_of_eq (E_call5_v1 m c h0))
  unfold Plan.call5_v2
  exact eq_of_heq h

/-- `main_call5_v3` holds the plan's `call5_v3`. -/
theorem E_call5_v3 (c : Dev nD) {cnt : IVec Plan.S8 32} (h0 : V m c main_arg0 = cnt) : V m c main_call5_v3 = Plan.call5_v3 cnt := by
  have h := t1 m c (k := 118) rfl (by decide) (by decide) (heq_of_eq (E_v62 m c h0))
  unfold Plan.call5_v3
  exact eq_of_heq h

/-- `main_call5_v4` holds the plan's `call5_v4`. -/
theorem E_call5_v4 (c : Dev nD) {cnt : IVec Plan.S8 32} (h0 : V m c main_arg0 = cnt) : V m c main_call5_v4 = Plan.call5_v4 cnt := by
  have h := t1 m c (k := 119) rfl (by decide) (by decide) (heq_of_eq (E_call5_v0 m c h0))
  unfold Plan.call5_v4
  exact eq_of_heq h

/-- `main_call5_v5` holds the plan's `call5_v5`. -/
theorem E_call5_v5 (c : Dev nD) {cnt : IVec Plan.S8 32} (h0 : V m c main_arg0 = cnt) : V m c main_call5_v5 = Plan.call5_v5 cnt := by
  have h := t1 m c (k := 120) rfl (by decide) (by decide) (heq_of_eq (E_call5_v4 m c h0))
  unfold Plan.call5_v5
  exact eq_of_heq h

/-- `main_call5_v6` holds the plan's `call5_v6`. -/
theorem E_call5_v6 (c : Dev nD) {cnt : IVec Plan.S8 32} (h0 : V m c main_arg0 = cnt) : V m c main_call5_v6 = Plan.call5_v6 cnt := by
  have h := t2 m c (k := 121) rfl (by decide) (by decide) (by decide) (heq_of_eq (E_call5_v3 m c h0)) (heq_of_eq (E_call5_v5 m c h0))
  unfold Plan.call5_v6
  exact eq_of_heq h

/-- `main_call5_v7` holds the plan's `call5_v7`. -/
theorem E_call5_v7 (c : Dev nD) {cnt : IVec Plan.S8 32} (h0 : V m c main_arg0 = cnt) : V m c main_call5_v7 = Plan.call5_v7 cnt := by
  have h := t1 m c (k := 122) rfl (by decide) (by decide) (heq_of_eq (E_call5_v0 m c h0))
  unfold Plan.call5_v7
  exact eq_of_heq h

/-- `main_call5_v8` holds the plan's `call5_v8`. -/
theorem E_call5_v8 (c : Dev nD) {cnt : IVec Plan.S8 32} (h0 : V m c main_arg0 = cnt) : V m c main_call5_v8 = Plan.call5_v8 cnt := by
  have h := t2 m c (k := 123) rfl (by decide) (by decide) (by decide) (heq_of_eq (E_v62 m c h0)) (heq_of_eq (E_call5_v7 m c h0))
  unfold Plan.call5_v8
  exact eq_of_heq h

/-- `main_call5_c` holds the plan's `call5_c`. -/
theorem E_call5_c (c : Dev nD) {cnt : IVec Plan.S8 32} (h0 : V m c main_arg0 = cnt) : V m c main_call5_c = Plan.call5_c cnt := by
  have h := t0 m c (k := 124) rfl (by decide)
  unfold Plan.call5_c
  exact eq_of_heq h

/-- `main_call5_v9` holds the plan's `call5_v9`. -/
theorem E_call5_v9 (c : Dev nD) {cnt : IVec Plan.S8 32} (h0 : V m c main_arg0 = cnt) : V m c main_call5_v9 = Plan.call5_v9 cnt := by
  have h := t1 m c (k := 125) rfl (by decide) (by decide) (heq_of_eq (E_call5_c m c h0))
  unfold Plan.call5_v9
  exact eq_of_heq h

/-- `main_call5_v10` holds the plan's `call5_v10`. -/
theorem E_call5_v10 (c : Dev nD) {cnt : IVec Plan.S8 32} (h0 : V m c main_arg0 = cnt) : V m c main_call5_v10 = Plan.call5_v10 cnt := by
  have h := t2 m c (k := 126) rfl (by decide) (by decide) (by decide) (heq_of_eq (E_call5_v8 m c h0)) (heq_of_eq (E_call5_v9 m c h0))
  unfold Plan.call5_v10
  exact eq_of_heq h

/-- `main_call5_v11` holds the plan's `call5_v11`. -/
theorem E_call5_v11 (c : Dev nD) {cnt : IVec Plan.S8 32} (h0 : V m c main_arg0 = cnt) : V m c main_call5_v11 = Plan.call5_v11 cnt := by
  have h := t2 m c (k := 127) rfl (by decide) (by decide) (by decide) (heq_of_eq (E_call5_v6 m c h0)) (heq_of_eq (E_call5_v10 m c h0))
  unfold Plan.call5_v11
  exact eq_of_heq h

/-- `main_call5_c_0` holds the plan's `call5_c_0`. -/
theorem E_call5_c_0 (c : Dev nD) {cnt : IVec Plan.S8 32} (h0 : V m c main_arg0 = cnt) : V m c main_call5_c_0 = Plan.call5_c_0 cnt := by
  have h := t0 m c (k := 128) rfl (by decide)
  unfold Plan.call5_c_0
  exact eq_of_heq h

/-- `main_call5_v12` holds the plan's `call5_v12`. -/
theorem E_call5_v12 (c : Dev nD) {cnt : IVec Plan.S8 32} (h0 : V m c main_arg0 = cnt) : V m c main_call5_v12 = Plan.call5_v12 cnt := by
  have h := t1 m c (k := 129) rfl (by decide) (by decide) (heq_of_eq (E_call5_c_0 m c h0))
  unfold Plan.call5_v12
  exact eq_of_heq h

/-- `main_call5_v13` holds the plan's `call5_v13`. -/
theorem E_call5_v13 (c : Dev nD) {cnt : IVec Plan.S8 32} (h0 : V m c main_arg0 = cnt) : V m c main_call5_v13 = Plan.call5_v13 cnt := by
  have h := t2 m c (k := 130) rfl (by decide) (by decide) (by decide) (heq_of_eq (E_call5_v2 m c h0)) (heq_of_eq (E_call5_v12 m c h0))
  unfold Plan.call5_v13
  exact eq_of_heq h

/-- `main_v63` holds the plan's `v63`. -/
theorem E_v63 (c : Dev nD) {cnt : IVec Plan.S8 32} (h0 : V m c main_arg0 = cnt) : V m c main_v63 = Plan.v63 cnt := by
  have h := t3 m c (k := 131) rfl (by decide) (by decide) (by decide) (by decide) (heq_of_eq (E_call5_v11 m c h0)) (heq_of_eq (E_call5_v13 m c h0)) (heq_of_eq (E_call5_v2 m c h0))
  unfold Plan.v63
  exact eq_of_heq h

/-- `main_c_18` holds the plan's `c_18`. -/
theorem E_c_18 (c : Dev nD) {cnt : IVec Plan.S8 32} (h0 : V m c main_arg0 = cnt) : V m c main_c_18 = Plan.c_18 cnt := by
  have h := e0 m c (k := 132) rfl (by decide)
  unfold Plan.c_18
  exact h

/-- `main_v64` holds the plan's `v64`. -/
theorem E_v64 (c : Dev nD) {cnt : IVec Plan.S8 32} (h0 : V m c main_arg0 = cnt) : V m c main_v64 = Plan.v64 cnt := by
  have h := e1 m c (k := 133) rfl (by decide) (by decide) (E_c_18 m c h0)
  unfold Plan.v64
  exact h

/-- `main_v65` holds the plan's `v65`. -/
theorem E_v65 (c : Dev nD) {cnt : IVec Plan.S8 32} (h0 : V m c main_arg0 = cnt) : V m c main_v65 = Plan.v65 cnt := by
  have h := eR m c (k := 134) rfl (by decide) (by decide) (E_v63 m c h0)
  unfold Plan.v65
  exact h

/-- `main_c_19` holds the plan's `c_19`. -/
theorem E_c_19 (c : Dev nD) {cnt : IVec Plan.S8 32} (h0 : V m c main_arg0 = cnt) : V m c main_c_19 = Plan.c_19 cnt := by
  have h := e0 m c (k := 135) rfl (by decide)
  unfold Plan.c_19
  exact h

/-- `main_v66` holds the plan's `v66`. -/
theorem E_v66 (c : Dev nD) {cnt : IVec Plan.S8 32} (h0 : V m c main_arg0 = cnt) : V m c main_v66 = Plan.v66 cnt := by
  have h := e1 m c (k := 136) rfl (by decide) (by decide) (E_c_19 m c h0)
  unfold Plan.v66
  exact h

/-- `main_v67` holds the plan's `v67`. -/
theorem E_v67 (c : Dev nD) {cnt : IVec Plan.S8 32} (h0 : V m c main_arg0 = cnt) : V m c main_v67 = Plan.v67 cnt := by
  have h := e2 m c (k := 137) rfl (by decide) (by decide) (by decide) (E_v36 m c h0) (E_v66 m c h0)
  unfold Plan.v67
  exact h

/-- `main_c_20` holds the plan's `c_20`. -/
theorem E_c_20 (c : Dev nD) {cnt : IVec Plan.S8 32} (h0 : V m c main_arg0 = cnt) : V m c main_c_20 = Plan.c_20 cnt := by
  have h := e0 m c (k := 138) rfl (by decide)
  unfold Plan.c_20
  exact h

/-- `main_v68` holds the plan's `v68`. -/
theorem E_v68 (c : Dev nD) {cnt : IVec Plan.S8 32} (h0 : V m c main_arg0 = cnt) : V m c main_v68 = Plan.v68 cnt := by
  have h := e1 m c (k := 139) rfl (by decide) (by decide) (E_c_20 m c h0)
  unfold Plan.v68
  exact h

/-- `main_v69` holds the plan's `v69`. -/
theorem E_v69 (c : Dev nD) {cnt : IVec Plan.S8 32} (h0 : V m c main_arg0 = cnt) : V m c main_v69 = Plan.v69 cnt := by
  have h := e2 m c (k := 140) rfl (by decide) (by decide) (by decide) (E_v36 m c h0) (E_v68 m c h0)
  unfold Plan.v69
  exact h

/-- `main_v70` holds the plan's `v70`. -/
theorem E_v70 (c : Dev nD) {cnt : IVec Plan.S8 32} (h0 : V m c main_arg0 = cnt) : V m c main_v70 = Plan.v70 cnt := by
  have h := e3 m c (k := 141) rfl (by decide) (by decide) (by decide) (by decide) (E_v67 m c h0) (E_v69 m c h0) (E_v36 m c h0)
  unfold Plan.v70
  exact h

/-- `main_v71` holds the plan's `v71`. -/
theorem E_v71 (c : Dev nD) {cnt : IVec Plan.S8 32} (h0 : V m c main_arg0 = cnt) : V m c main_v71 = Plan.v71 cnt := by
  have h := e1 m c (k := 142) rfl (by decide) (by decide) (E_v70 m c h0)
  unfold Plan.v71
  exact h

/-- `main_v72` holds the plan's `v72`. -/
theorem E_v72 (c : Dev nD) {cnt : IVec Plan.S8 32} (h0 : V m c main_arg0 = cnt) : V m c main_v72 = Plan.v72 cnt := by
  have h := e3 m c (k := 143) rfl (by decide) (by decide) (by decide) (by decide) (E_v64 m c h0) (E_v71 m c h0) (E_v65 m c h0)
  unfold Plan.v72
  exact h

/-- `main_v73` holds the plan's `v73`. -/
theorem E_v73 (c : Dev nD) {cnt : IVec Plan.S8 32} (h0 : V m c main_arg0 = cnt) : V m c main_v73 = Plan.v73 cnt := by
  have h := e1 m c (k := 144) rfl (by decide) (by decide) (E_v17 m c h0)
  unfold Plan.v73
  exact h

/-- `main_v74` holds the plan's `v74`. -/
theorem E_v74 (c : Dev nD) {cnt : IVec Plan.S8 32} (h0 : V m c main_arg0 = cnt) : V m c main_v74 = Plan.v74 cnt := by
  have h := e2 m c (k := 145) rfl (by decide) (by decide) (by decide) (E_v27 m c h0) (E_v73 m c h0)
  unfold Plan.v74
  exact h

/-- `main_c_21` holds the plan's `c_21`. -/
theorem E_c_21 (c : Dev nD) {cnt : IVec Plan.S8 32} (h0 : V m c main_arg0 = cnt) : V m c main_c_21 = Plan.c_21 cnt := by
  have h := e0 m c (k := 146) rfl (by decide)
  unfold Plan.c_21
  exact h

/-- `main_call6_v0` holds the plan's `call6_v0`. -/
theorem E_call6_v0 (c : Dev nD) {cnt : IVec Plan.S8 32} (h0 : V m c main_arg0 = cnt) : V m c main_call6_v0 = Plan.call6_v0 cnt := by
  have h := t1 m c (k := 147) rfl (by decide) (by decide) (heq_of_eq (E_c_21 m c h0))
  unfold Plan.call6_v0
  exact eq_of_heq h

/-- `main_call6_v1` holds the plan's `call6_v1`. -/
theorem E_call6_v1 (c : Dev nD) {cnt : IVec Plan.S8 32} (h0 : V m c main_arg0 = cnt) : V m c main_call6_v1 = Plan.call6_v1 cnt := by
  have h := t1 m c (k := 148) rfl (by decide) (by decide) (heq_of_eq (E_call6_v0 m c h0))
  unfold Plan.call6_v1
  exact eq_of_heq h

/-- `main_call6_v2` holds the plan's `call6_v2`. -/
theorem E_call6_v2 (c : Dev nD) {cnt : IVec Plan.S8 32} (h0 : V m c main_arg0 = cnt) : V m c main_call6_v2 = Plan.call6_v2 cnt := by
  have h := t2 m c (k := 149) rfl (by decide) (by decide) (by decide) (heq_of_eq (E_v74 m c h0)) (heq_of_eq (E_call6_v1 m c h0))
  unfold Plan.call6_v2
  exact eq_of_heq h

/-- `main_call6_v3` holds the plan's `call6_v3`. -/
theorem E_call6_v3 (c : Dev nD) {cnt : IVec Plan.S8 32} (h0 : V m c main_arg0 = cnt) : V m c main_call6_v3 = Plan.call6_v3 cnt := by
  have h := t1 m c (k := 150) rfl (by decide) (by decide) (heq_of_eq (E_v74 m c h0))
  unfold Plan.call6_v3
  exact eq_of_heq h

/-- `main_call6_v4` holds the plan's `call6_v4`. -/
theorem E_call6_v4 (c : Dev nD) {cnt : IVec Plan.S8 32} (h0 : V m c main_arg0 = cnt) : V m c main_call6_v4 = Plan.call6_v4 cnt := by
  have h := t1 m c (k := 151) rfl (by decide) (by decide) (heq_of_eq (E_call6_v0 m c h0))
  unfold Plan.call6_v4
  exact eq_of_heq h

/-- `main_call6_v5` holds the plan's `call6_v5`. -/
theorem E_call6_v5 (c : Dev nD) {cnt : IVec Plan.S8 32} (h0 : V m c main_arg0 = cnt) : V m c main_call6_v5 = Plan.call6_v5 cnt := by
  have h := t1 m c (k := 152) rfl (by decide) (by decide) (heq_of_eq (E_call6_v4 m c h0))
  unfold Plan.call6_v5
  exact eq_of_heq h

/-- `main_call6_v6` holds the plan's `call6_v6`. -/
theorem E_call6_v6 (c : Dev nD) {cnt : IVec Plan.S8 32} (h0 : V m c main_arg0 = cnt) : V m c main_call6_v6 = Plan.call6_v6 cnt := by
  have h := t2 m c (k := 153) rfl (by decide) (by decide) (by decide) (heq_of_eq (E_call6_v3 m c h0)) (heq_of_eq (E_call6_v5 m c h0))
  unfold Plan.call6_v6
  exact eq_of_heq h

/-- `main_call6_v7` holds the plan's `call6_v7`. -/
theorem E_call6_v7 (c : Dev nD) {cnt : IVec Plan.S8 32} (h0 : V m c main_arg0 = cnt) : V m c main_call6_v7 = Plan.call6_v7 cnt := by
  have h := t1 m c (k := 154) rfl (by decide) (by decide) (heq_of_eq (E_call6_v0 m c h0))
  unfold Plan.call6_v7
  exact eq_of_heq h

/-- `main_call6_v8` holds the plan's `call6_v8`. -/
theorem E_call6_v8 (c : Dev nD) {cnt : IVec Plan.S8 32} (h0 : V m c main_arg0 = cnt) : V m c main_call6_v8 = Plan.call6_v8 cnt := by
  have h := t2 m c (k := 155) rfl (by decide) (by decide) (by decide) (heq_of_eq (E_v74 m c h0)) (heq_of_eq (E_call6_v7 m c h0))
  unfold Plan.call6_v8
  exact eq_of_heq h

/-- `main_call6_c` holds the plan's `call6_c`. -/
theorem E_call6_c (c : Dev nD) {cnt : IVec Plan.S8 32} (h0 : V m c main_arg0 = cnt) : V m c main_call6_c = Plan.call6_c cnt := by
  have h := t0 m c (k := 156) rfl (by decide)
  unfold Plan.call6_c
  exact eq_of_heq h

/-- `main_call6_v9` holds the plan's `call6_v9`. -/
theorem E_call6_v9 (c : Dev nD) {cnt : IVec Plan.S8 32} (h0 : V m c main_arg0 = cnt) : V m c main_call6_v9 = Plan.call6_v9 cnt := by
  have h := t1 m c (k := 157) rfl (by decide) (by decide) (heq_of_eq (E_call6_c m c h0))
  unfold Plan.call6_v9
  exact eq_of_heq h

/-- `main_call6_v10` holds the plan's `call6_v10`. -/
theorem E_call6_v10 (c : Dev nD) {cnt : IVec Plan.S8 32} (h0 : V m c main_arg0 = cnt) : V m c main_call6_v10 = Plan.call6_v10 cnt := by
  have h := t2 m c (k := 158) rfl (by decide) (by decide) (by decide) (heq_of_eq (E_call6_v8 m c h0)) (heq_of_eq (E_call6_v9 m c h0))
  unfold Plan.call6_v10
  exact eq_of_heq h

/-- `main_call6_v11` holds the plan's `call6_v11`. -/
theorem E_call6_v11 (c : Dev nD) {cnt : IVec Plan.S8 32} (h0 : V m c main_arg0 = cnt) : V m c main_call6_v11 = Plan.call6_v11 cnt := by
  have h := t2 m c (k := 159) rfl (by decide) (by decide) (by decide) (heq_of_eq (E_call6_v6 m c h0)) (heq_of_eq (E_call6_v10 m c h0))
  unfold Plan.call6_v11
  exact eq_of_heq h

/-- `main_call6_c_0` holds the plan's `call6_c_0`. -/
theorem E_call6_c_0 (c : Dev nD) {cnt : IVec Plan.S8 32} (h0 : V m c main_arg0 = cnt) : V m c main_call6_c_0 = Plan.call6_c_0 cnt := by
  have h := t0 m c (k := 160) rfl (by decide)
  unfold Plan.call6_c_0
  exact eq_of_heq h

/-- `main_call6_v12` holds the plan's `call6_v12`. -/
theorem E_call6_v12 (c : Dev nD) {cnt : IVec Plan.S8 32} (h0 : V m c main_arg0 = cnt) : V m c main_call6_v12 = Plan.call6_v12 cnt := by
  have h := t1 m c (k := 161) rfl (by decide) (by decide) (heq_of_eq (E_call6_c_0 m c h0))
  unfold Plan.call6_v12
  exact eq_of_heq h

/-- `main_call6_v13` holds the plan's `call6_v13`. -/
theorem E_call6_v13 (c : Dev nD) {cnt : IVec Plan.S8 32} (h0 : V m c main_arg0 = cnt) : V m c main_call6_v13 = Plan.call6_v13 cnt := by
  have h := t2 m c (k := 162) rfl (by decide) (by decide) (by decide) (heq_of_eq (E_call6_v2 m c h0)) (heq_of_eq (E_call6_v12 m c h0))
  unfold Plan.call6_v13
  exact eq_of_heq h

/-- `main_v75` holds the plan's `v75`. -/
theorem E_v75 (c : Dev nD) {cnt : IVec Plan.S8 32} (h0 : V m c main_arg0 = cnt) : V m c main_v75 = Plan.v75 cnt := by
  have h := t3 m c (k := 163) rfl (by decide) (by decide) (by decide) (by decide) (heq_of_eq (E_call6_v11 m c h0)) (heq_of_eq (E_call6_v13 m c h0)) (heq_of_eq (E_call6_v2 m c h0))
  unfold Plan.v75
  exact eq_of_heq h

/-- `main_c_22` holds the plan's `c_22`. -/
theorem E_c_22 (c : Dev nD) {cnt : IVec Plan.S8 32} (h0 : V m c main_arg0 = cnt) : V m c main_c_22 = Plan.c_22 cnt := by
  have h := e0 m c (k := 164) rfl (by decide)
  unfold Plan.c_22
  exact h

/-- `main_v76` holds the plan's `v76`. -/
theorem E_v76 (c : Dev nD) {cnt : IVec Plan.S8 32} (h0 : V m c main_arg0 = cnt) : V m c main_v76 = Plan.v76 cnt := by
  have h := e1 m c (k := 165) rfl (by decide) (by decide) (E_c_22 m c h0)
  unfold Plan.v76
  exact h

/-- `main_v77` holds the plan's `v77`. -/
theorem E_v77 (c : Dev nD) {cnt : IVec Plan.S8 32} (h0 : V m c main_arg0 = cnt) : V m c main_v77 = Plan.v77 cnt := by
  have h := eR m c (k := 166) rfl (by decide) (by decide) (E_v75 m c h0)
  unfold Plan.v77
  exact h

/-- `main_c_23` holds the plan's `c_23`. -/
theorem E_c_23 (c : Dev nD) {cnt : IVec Plan.S8 32} (h0 : V m c main_arg0 = cnt) : V m c main_c_23 = Plan.c_23 cnt := by
  have h := e0 m c (k := 167) rfl (by decide)
  unfold Plan.c_23
  exact h

/-- `main_v78` holds the plan's `v78`. -/
theorem E_v78 (c : Dev nD) {cnt : IVec Plan.S8 32} (h0 : V m c main_arg0 = cnt) : V m c main_v78 = Plan.v78 cnt := by
  have h := e1 m c (k := 168) rfl (by decide) (by decide) (E_c_23 m c h0)
  unfold Plan.v78
  exact h

/-- `main_v79` holds the plan's `v79`. -/
theorem E_v79 (c : Dev nD) {cnt : IVec Plan.S8 32} (h0 : V m c main_arg0 = cnt) : V m c main_v79 = Plan.v79 cnt := by
  have h := e2 m c (k := 169) rfl (by decide) (by decide) (by decide) (E_v36 m c h0) (E_v78 m c h0)
  unfold Plan.v79
  exact h

/-- `main_c_24` holds the plan's `c_24`. -/
theorem E_c_24 (c : Dev nD) {cnt : IVec Plan.S8 32} (h0 : V m c main_arg0 = cnt) : V m c main_c_24 = Plan.c_24 cnt := by
  have h := e0 m c (k := 170) rfl (by decide)
  unfold Plan.c_24
  exact h

/-- `main_v80` holds the plan's `v80`. -/
theorem E_v80 (c : Dev nD) {cnt : IVec Plan.S8 32} (h0 : V m c main_arg0 = cnt) : V m c main_v80 = Plan.v80 cnt := by
  have h := e1 m c (k := 171) rfl (by decide) (by decide) (E_c_24 m c h0)
  unfold Plan.v80
  exact h

/-- `main_v81` holds the plan's `v81`. -/
theorem E_v81 (c : Dev nD) {cnt : IVec Plan.S8 32} (h0 : V m c main_arg0 = cnt) : V m c main_v81 = Plan.v81 cnt := by
  have h := e2 m c (k := 172) rfl (by decide) (by decide) (by decide) (E_v36 m c h0) (E_v80 m c h0)
  unfold Plan.v81
  exact h

/-- `main_v82` holds the plan's `v82`. -/
theorem E_v82 (c : Dev nD) {cnt : IVec Plan.S8 32} (h0 : V m c main_arg0 = cnt) : V m c main_v82 = Plan.v82 cnt := by
  have h := e3 m c (k := 173) rfl (by decide) (by decide) (by decide) (by decide) (E_v79 m c h0) (E_v81 m c h0) (E_v36 m c h0)
  unfold Plan.v82
  exact h

/-- `main_v83` holds the plan's `v83`. -/
theorem E_v83 (c : Dev nD) {cnt : IVec Plan.S8 32} (h0 : V m c main_arg0 = cnt) : V m c main_v83 = Plan.v83 cnt := by
  have h := e1 m c (k := 174) rfl (by decide) (by decide) (E_v82 m c h0)
  unfold Plan.v83
  exact h

/-- `main_v84` holds the plan's `v84`. -/
theorem E_v84 (c : Dev nD) {cnt : IVec Plan.S8 32} (h0 : V m c main_arg0 = cnt) : V m c main_v84 = Plan.v84 cnt := by
  have h := e3 m c (k := 175) rfl (by decide) (by decide) (by decide) (by decide) (E_v76 m c h0) (E_v83 m c h0) (E_v77 m c h0)
  unfold Plan.v84
  exact h

/-- `main_v85` holds the plan's `v85`. -/
theorem E_v85 (c : Dev nD) {cnt : IVec Plan.S8 32} (h0 : V m c main_arg0 = cnt) : V m c main_v85 = Plan.v85 cnt := by
  have h := e1 m c (k := 176) rfl (by decide) (by decide) (E_v17 m c h0)
  unfold Plan.v85
  exact h

/-- `main_v86` holds the plan's `v86`. -/
theorem E_v86 (c : Dev nD) {cnt : IVec Plan.S8 32} (h0 : V m c main_arg0 = cnt) : V m c main_v86 = Plan.v86 cnt := by
  have h := e2 m c (k := 177) rfl (by decide) (by decide) (by decide) (E_v21 m c h0) (E_v85 m c h0)
  unfold Plan.v86
  exact h

/-- `main_c_25` holds the plan's `c_25`. -/
theorem E_c_25 (c : Dev nD) {cnt : IVec Plan.S8 32} (h0 : V m c main_arg0 = cnt) : V m c main_c_25 = Plan.c_25 cnt := by
  have h := e0 m c (k := 178) rfl (by decide)
  unfold Plan.c_25
  exact h

/-- `main_v87` holds the plan's `v87`. -/
theorem E_v87 (c : Dev nD) {cnt : IVec Plan.S8 32} (h0 : V m c main_arg0 = cnt) : V m c main_v87 = Plan.v87 cnt := by
  have h := e1 m c (k := 179) rfl (by decide) (by decide) (E_c_25 m c h0)
  unfold Plan.v87
  exact h

/-- `main_v88` holds the plan's `v88`. -/
theorem E_v88 (c : Dev nD) {cnt : IVec Plan.S8 32} (h0 : V m c main_arg0 = cnt) : V m c main_v88 = Plan.v88 cnt := by
  have h := eR m c (k := 180) rfl (by decide) (by decide) (E_v86 m c h0)
  unfold Plan.v88
  exact h

/-- `main_v89` holds the plan's `v89`. -/
theorem E_v89 (c : Dev nD) {cnt : IVec Plan.S8 32} (h0 : V m c main_arg0 = cnt) : V m c main_v89 = Plan.v89 cnt := by
  have h := e1 m c (k := 181) rfl (by decide) (by decide) (E_v88 m c h0)
  unfold Plan.v89
  exact h

/-- `main_c_26` holds the plan's `c_26`. -/
theorem E_c_26 (c : Dev nD) {cnt : IVec Plan.S8 32} (h0 : V m c main_arg0 = cnt) : V m c main_c_26 = Plan.c_26 cnt := by
  have h := e0 m c (k := 182) rfl (by decide)
  unfold Plan.c_26
  exact h

/-- `main_v90` holds the plan's `v90`. -/
theorem E_v90 (c : Dev nD) {cnt : IVec Plan.S8 32} (h0 : V m c main_arg0 = cnt) : V m c main_v90 = Plan.v90 cnt := by
  have h := e1 m c (k := 183) rfl (by decide) (by decide) (E_c_26 m c h0)
  unfold Plan.v90
  exact h

/-- `main_v91` holds the plan's `v91`. -/
theorem E_v91 (c : Dev nD) {cnt : IVec Plan.S8 32} (h0 : V m c main_arg0 = cnt) : V m c main_v91 = Plan.v91 cnt := by
  have h := e2 m c (k := 184) rfl (by decide) (by decide) (by decide) (E_v36 m c h0) (E_v90 m c h0)
  unfold Plan.v91
  exact h

/-- `main_c_27` holds the plan's `c_27`. -/
theorem E_c_27 (c : Dev nD) {cnt : IVec Plan.S8 32} (h0 : V m c main_arg0 = cnt) : V m c main_c_27 = Plan.c_27 cnt := by
  have h := e0 m c (k := 185) rfl (by decide)
  unfold Plan.c_27
  exact h

/-- `main_v92` holds the plan's `v92`. -/
theorem E_v92 (c : Dev nD) {cnt : IVec Plan.S8 32} (h0 : V m c main_arg0 = cnt) : V m c main_v92 = Plan.v92 cnt := by
  have h := e1 m c (k := 186) rfl (by decide) (by decide) (E_c_27 m c h0)
  unfold Plan.v92
  exact h

/-- `main_v93` holds the plan's `v93`. -/
theorem E_v93 (c : Dev nD) {cnt : IVec Plan.S8 32} (h0 : V m c main_arg0 = cnt) : V m c main_v93 = Plan.v93 cnt := by
  have h := e2 m c (k := 187) rfl (by decide) (by decide) (by decide) (E_v36 m c h0) (E_v92 m c h0)
  unfold Plan.v93
  exact h

/-- `main_v94` holds the plan's `v94`. -/
theorem E_v94 (c : Dev nD) {cnt : IVec Plan.S8 32} (h0 : V m c main_arg0 = cnt) : V m c main_v94 = Plan.v94 cnt := by
  have h := e3 m c (k := 188) rfl (by decide) (by decide) (by decide) (by decide) (E_v91 m c h0) (E_v93 m c h0) (E_v36 m c h0)
  unfold Plan.v94
  exact h

/-- `main_v95` holds the plan's `v95`. -/
theorem E_v95 (c : Dev nD) {cnt : IVec Plan.S8 32} (h0 : V m c main_arg0 = cnt) : V m c main_v95 = Plan.v95 cnt := by
  have h := e1 m c (k := 189) rfl (by decide) (by decide) (E_v94 m c h0)
  unfold Plan.v95
  exact h

/-- `main_v96` holds the plan's `v96`. -/
theorem E_v96 (c : Dev nD) {cnt : IVec Plan.S8 32} (h0 : V m c main_arg0 = cnt) : V m c main_v96 = Plan.v96 cnt := by
  have h := e3 m c (k := 190) rfl (by decide) (by decide) (by decide) (by decide) (E_v87 m c h0) (E_v95 m c h0) (E_v89 m c h0)
  unfold Plan.v96
  exact h

/-- `main_v97` holds the plan's `v97`. -/
theorem E_v97 (c : Dev nD) {cnt : IVec Plan.S8 32} (h0 : V m c main_arg0 = cnt) : V m c main_v97 = Plan.v97 cnt := by
  have h := e0 m c (k := 191) rfl (by decide)
  unfold Plan.v97
  exact h

/-- `main_v98` holds the plan's `v98`. -/
theorem E_v98 (c : Dev nD) {cnt : IVec Plan.S8 32} (h0 : V m c main_arg0 = cnt) : V m c main_v98 = Plan.v98 cnt := by
  have h := e1 m c (k := 192) rfl (by decide) (by decide) (E_v31 m c h0)
  unfold Plan.v98
  exact h

/-- `main_v99` holds the plan's `v99`. -/
theorem E_v99 (c : Dev nD) {cnt : IVec Plan.S8 32} (h0 : V m c main_arg0 = cnt) : V m c main_v99 = Plan.v99 cnt := by
  have h := e2 m c (k := 193) rfl (by decide) (by decide) (by decide) (E_v97 m c h0) (E_v98 m c h0)
  unfold Plan.v99
  exact h

/-- `main_v100` holds the plan's `v100`. -/
theorem E_v100 (c : Dev nD) {cnt : IVec Plan.S8 32} (h0 : V m c main_arg0 = cnt) : V m c main_v100 = Plan.v100 cnt := by
  have h := e1 m c (k := 194) rfl (by decide) (by decide) (E_v31 m c h0)
  unfold Plan.v100
  exact h

/-- `main_v101` holds the plan's `v101`. -/
theorem E_v101 (c : Dev nD) {cnt : IVec Plan.S8 32} (h0 : V m c main_arg0 = cnt) : V m c main_v101 = Plan.v101 cnt := by
  have h := e2 m c (k := 195) rfl (by decide) (by decide) (by decide) (E_v97 m c h0) (E_v100 m c h0)
  unfold Plan.v101
  exact h

/-- `main_v102` holds the plan's `v102`. -/
theorem E_v102 (c : Dev nD) {cnt : IVec Plan.S8 32} (h0 : V m c main_arg0 = cnt) : V m c main_v102 = Plan.v102 cnt := by
  have h := e1 m c (k := 196) rfl (by decide) (by decide) (E_v13 m c h0)
  unfold Plan.v102
  exact h

/-- `main_v103` holds the plan's `v103`. -/
theorem E_v103 (c : Dev nD) {cnt : IVec Plan.S8 32} (h0 : V m c main_arg0 = cnt) : V m c main_v103 = Plan.v103 cnt := by
  have h := e2 m c (k := 197) rfl (by decide) (by decide) (by decide) (E_v102 m c h0) (E_v101 m c h0)
  unfold Plan.v103
  exact h

/-- `main_c_28` holds the plan's `c_28`. -/
theorem E_c_28 (c : Dev nD) {cnt : IVec Plan.S8 32} (h0 : V m c main_arg0 = cnt) : V m c main_c_28 = Plan.c_28 cnt := by
  have h := e0 m c (k := 198) rfl (by decide)
  unfold Plan.c_28
  exact h

/-- `main_v104` holds the plan's `v104`. -/
theorem E_v104 (c : Dev nD) {cnt : IVec Plan.S8 32} (h0 : V m c main_arg0 = cnt) : V m c main_v104 = Plan.v104 cnt := by
  have h := e2 m c (k := 199) rfl (by decide) (by decide) (by decide) (E_v31 m c h0) (E_c_28 m c h0)
  unfold Plan.v104
  exact h

/-- `main_c_29` holds the plan's `c_29`. -/
theorem E_c_29 (c : Dev nD) {cnt : IVec Plan.S8 32} (h0 : V m c main_arg0 = cnt) : V m c main_c_29 = Plan.c_29 cnt := by
  have h := e0 m c (k := 200) rfl (by decide)
  unfold Plan.c_29
  exact h

/-- `main_v105` holds the plan's `v105`. -/
theorem E_v105 (c : Dev nD) {cnt : IVec Plan.S8 32} (h0 : V m c main_arg0 = cnt) : V m c main_v105 = Plan.v105 cnt := by
  have h := e1 m c (k := 201) rfl (by decide) (by decide) (E_c_29 m c h0)
  unfold Plan.v105
  exact h

/-- `main_v106` holds the plan's `v106`. -/
theorem E_v106 (c : Dev nD) {cnt : IVec Plan.S8 32} (h0 : V m c main_arg0 = cnt) : V m c main_v106 = Plan.v106 cnt := by
  have h := e2 m c (k := 202) rfl (by decide) (by decide) (by decide) (E_v103 m c h0) (E_v105 m c h0)
  unfold Plan.v106
  exact h

/-- `main_v107` holds the plan's `v107`. -/
theorem E_v107 (c : Dev nD) {cnt : IVec Plan.S8 32} (h0 : V m c main_arg0 = cnt) : V m c main_v107 = Plan.v107 cnt := by
  have h := t3 m c (k := 203) rfl (by decide) (by decide) (by decide) (by decide) (heq_of_eq (E_v99 m c h0)) (heq_of_eq (E_v48 m c h0)) (heq_of_eq (E_v106 m c h0))
  unfold Plan.v107
  exact eq_of_heq h

/-- `main_c_30` holds the plan's `c_30`. -/
theorem E_c_30 (c : Dev nD) {cnt : IVec Plan.S8 32} (h0 : V m c main_arg0 = cnt) : V m c main_c_30 = Plan.c_30 cnt := by
  have h := e0 m c (k := 204) rfl (by decide)
  unfold Plan.c_30
  exact h

/-- `main_v108` holds the plan's `v108`. -/
theorem E_v108 (c : Dev nD) {cnt : IVec Plan.S8 32} (h0 : V m c main_arg0 = cnt) : V m c main_v108 = Plan.v108 cnt := by
  have h := e2 m c (k := 205) rfl (by decide) (by decide) (by decide) (E_v104 m c h0) (E_c_30 m c h0)
  unfold Plan.v108
  exact h

/-- `main_c_31` holds the plan's `c_31`. -/
theorem E_c_31 (c : Dev nD) {cnt : IVec Plan.S8 32} (h0 : V m c main_arg0 = cnt) : V m c main_c_31 = Plan.c_31 cnt := by
  have h := e0 m c (k := 206) rfl (by decide)
  unfold Plan.c_31
  exact h

/-- `main_v109` holds the plan's `v109`. -/
theorem E_v109 (c : Dev nD) {cnt : IVec Plan.S8 32} (h0 : V m c main_arg0 = cnt) : V m c main_v109 = Plan.v109 cnt := by
  have h := e2 m c (k := 207) rfl (by decide) (by decide) (by decide) (E_v104 m c h0) (E_c_31 m c h0)
  unfold Plan.v109
  exact h

/-- `main_v110` holds the plan's `v110`. -/
theorem E_v110 (c : Dev nD) {cnt : IVec Plan.S8 32} (h0 : V m c main_arg0 = cnt) : V m c main_v110 = Plan.v110 cnt := by
  have h := e3 m c (k := 208) rfl (by decide) (by decide) (by decide) (by decide) (E_v108 m c h0) (E_v109 m c h0) (E_v104 m c h0)
  unfold Plan.v110
  exact h

/-- `main_v111` holds the plan's `v111`. -/
theorem E_v111 (c : Dev nD) {cnt : IVec Plan.S8 32} (h0 : V m c main_arg0 = cnt) : V m c main_v111 = Plan.v111 cnt := by
  have h := eI m c (k := 209) rfl (by decide) (by decide) (by decide) (E_v48 m c h0) (heq_of_eq (E_v110 m c h0))
  unfold Plan.v111
  exact h

/-- `main_v112` holds the plan's `v112`. -/
theorem E_v112 (c : Dev nD) {cnt : IVec Plan.S8 32} (h0 : V m c main_arg0 = cnt) : V m c main_v112 = Plan.v112 cnt := by
  have h := eR m c (k := 210) rfl (by decide) (by decide) (E_v111 m c h0)
  unfold Plan.v112
  exact h

/-- `main_call8_v0` holds the plan's `call8_v0`. -/
theorem E_call8_v0 (c : Dev nD) {cnt : IVec Plan.S8 32} (h0 : V m c main_arg0 = cnt) : V m c main_call8_v0 = Plan.call8_v0 cnt := by
  have h := t1 m c (k := 211) rfl (by decide) (by decide) (heq_of_eq (E_v112 m c h0))
  unfold Plan.call8_v0
  exact eq_of_heq h

/-- `main_v113` holds the plan's `v113`. -/
theorem E_v113 (c : Dev nD) {cnt : IVec Plan.S8 32} (h0 : V m c main_arg0 = cnt) : V m c main_v113 = Plan.v113 cnt := by
  have h := t3 m c (k := 212) rfl (by decide) (by decide) (by decide) (by decide) (heq_of_eq (E_v99 m c h0)) (heq_of_eq (E_v48 m c h0)) (heq_of_eq (E_call8_v0 m c h0))
  unfold Plan.v113
  exact eq_of_heq h

/-- `main_c_32` holds the plan's `c_32`. -/
theorem E_c_32 (c : Dev nD) {cnt : IVec Plan.S8 32} (h0 : V m c main_arg0 = cnt) : V m c main_c_32 = Plan.c_32 cnt := by
  have h := e0 m c (k := 213) rfl (by decide)
  unfold Plan.c_32
  exact h

/-- `main_v114` holds the plan's `v114`. -/
theorem E_v114 (c : Dev nD) {cnt : IVec Plan.S8 32} (h0 : V m c main_arg0 = cnt) : V m c main_v114 = Plan.v114 cnt := by
  have h := e2 m c (k := 214) rfl (by decide) (by decide) (by decide) (E_v104 m c h0) (E_c_32 m c h0)
  unfold Plan.v114
  exact h

/-- `main_c_33` holds the plan's `c_33`. -/
theorem E_c_33 (c : Dev nD) {cnt : IVec Plan.S8 32} (h0 : V m c main_arg0 = cnt) : V m c main_c_33 = Plan.c_33 cnt := by
  have h := e0 m c (k := 215) rfl (by decide)
  unfold Plan.c_33
  exact h

/-- `main_v115` holds the plan's `v115`. -/
theorem E_v115 (c : Dev nD) {cnt : IVec Plan.S8 32} (h0 : V m c main_arg0 = cnt) : V m c main_v115 = Plan.v115 cnt := by
  have h := e2 m c (k := 216) rfl (by decide) (by decide) (by decide) (E_v104 m c h0) (E_c_33 m c h0)
  unfold Plan.v115
  exact h

/-- `main_v116` holds the plan's `v116`. -/
theorem E_v116 (c : Dev nD) {cnt : IVec Plan.S8 32} (h0 : V m c main_arg0 = cnt) : V m c main_v116 = Plan.v116 cnt := by
  have h := e3 m c (k := 217) rfl (by decide) (by decide) (by decide) (by decide) (E_v114 m c h0) (E_v115 m c h0) (E_v104 m c h0)
  unfold Plan.v116
  exact h

/-- `main_v117` holds the plan's `v117`. -/
theorem E_v117 (c : Dev nD) {cnt : IVec Plan.S8 32} (h0 : V m c main_arg0 = cnt) : V m c main_v117 = Plan.v117 cnt := by
  have h := eI m c (k := 218) rfl (by decide) (by decide) (by decide) (E_v60 m c h0) (heq_of_eq (E_v116 m c h0))
  unfold Plan.v117
  exact h

/-- `main_v118` holds the plan's `v118`. -/
theorem E_v118 (c : Dev nD) {cnt : IVec Plan.S8 32} (h0 : V m c main_arg0 = cnt) : V m c main_v118 = Plan.v118 cnt := by
  have h := eR m c (k := 219) rfl (by decide) (by decide) (E_v117 m c h0)
  unfold Plan.v118
  exact h

/-- `main_call9_v0` holds the plan's `call9_v0`. -/
theorem E_call9_v0 (c : Dev nD) {cnt : IVec Plan.S8 32} (h0 : V m c main_arg0 = cnt) : V m c main_call9_v0 = Plan.call9_v0 cnt := by
  have h := t1 m c (k := 220) rfl (by decide) (by decide) (heq_of_eq (E_v118 m c h0))
  unfold Plan.call9_v0
  exact eq_of_heq h

/-- `main_v119` holds the plan's `v119`. -/
theorem E_v119 (c : Dev nD) {cnt : IVec Plan.S8 32} (h0 : V m c main_arg0 = cnt) : V m c main_v119 = Plan.v119 cnt := by
  have h := t3 m c (k := 221) rfl (by decide) (by decide) (by decide) (by decide) (heq_of_eq (E_v99 m c h0)) (heq_of_eq (E_v60 m c h0)) (heq_of_eq (E_call9_v0 m c h0))
  unfold Plan.v119
  exact eq_of_heq h

/-- `main_c_34` holds the plan's `c_34`. -/
theorem E_c_34 (c : Dev nD) {cnt : IVec Plan.S8 32} (h0 : V m c main_arg0 = cnt) : V m c main_c_34 = Plan.c_34 cnt := by
  have h := e0 m c (k := 222) rfl (by decide)
  unfold Plan.c_34
  exact h

/-- `main_v120` holds the plan's `v120`. -/
theorem E_v120 (c : Dev nD) {cnt : IVec Plan.S8 32} (h0 : V m c main_arg0 = cnt) : V m c main_v120 = Plan.v120 cnt := by
  have h := e1 m c (k := 223) rfl (by decide) (by decide) (E_c_34 m c h0)
  unfold Plan.v120
  exact h

/-- `main_v121` holds the plan's `v121`. -/
theorem E_v121 (c : Dev nD) {cnt : IVec Plan.S8 32} (h0 : V m c main_arg0 = cnt) : V m c main_v121 = Plan.v121 cnt := by
  have h := e2 m c (k := 224) rfl (by decide) (by decide) (by decide) (E_v103 m c h0) (E_v120 m c h0)
  unfold Plan.v121
  exact h

/-- `main_v122` holds the plan's `v122`. -/
theorem E_v122 (c : Dev nD) {cnt : IVec Plan.S8 32} (h0 : V m c main_arg0 = cnt) : V m c main_v122 = Plan.v122 cnt := by
  have h := e1 m c (k := 225) rfl (by decide) (by decide) (E_v121 m c h0)
  unfold Plan.v122
  exact h

/-- `main_v123` holds the plan's `v123`. -/
theorem E_v123 (c : Dev nD) {cnt : IVec Plan.S8 32} (h0 : V m c main_arg0 = cnt) : V m c main_v123 = Plan.v123 cnt := by
  have h := t3 m c (k := 226) rfl (by decide) (by decide) (by decide) (by decide) (heq_of_eq (E_v99 m c h0)) (heq_of_eq (E_v96 m c h0)) (heq_of_eq (E_v122 m c h0))
  unfold Plan.v123
  exact eq_of_heq h

/-- `main_v124` holds the plan's `v124`. -/
theorem E_v124 (c : Dev nD) {cnt : IVec Plan.S8 32} (h0 : V m c main_arg0 = cnt) : V m c main_v124 = Plan.v124 cnt := by
  have h := e1 m c (k := 227) rfl (by decide) (by decide) (E_v99 m c h0)
  unfold Plan.v124
  exact h

/-- The prefetched table. -/
theorem E_v125 (c : Dev nD) {cnt : IVec Plan.S8 32} (h0 : V m c main_arg0 = cnt) : V m c main_v125 = Plan.v125 cnt := by
  refine (final_eq m c (k := 228) rfl (by decide)).trans ((StableHlo.nary_result ..).trans ?_)
  unfold Plan.v125
  rw [← E_v107 m c h0]
  rw [← E_v113 m c h0]
  rw [← E_v119 m c h0]
  rw [← E_v72 m c h0]
  rw [← E_v84 m c h0]
  rw [← E_v123 m c h0]
  rw [← E_v124 m c h0]
  rw [← upto_final m c (a := main_v107) (k := 228) (by decide)]
  rw [← upto_final m c (a := main_v113) (k := 228) (by decide)]
  rw [← upto_final m c (a := main_v119) (k := 228) (by decide)]
  rw [← upto_final m c (a := main_v72) (k := 228) (by decide)]
  rw [← upto_final m c (a := main_v84) (k := 228) (by decide)]
  rw [← upto_final m c (a := main_v123) (k := 228) (by decide)]
  rw [← upto_final m c (a := main_v124) (k := 228) (by decide)]
  rfl

end Cert.Kernel4Ideal.Hand
-- ==== Proof.Experts.Table.lean ====
module

public import proofs.«01_k».proof.Proof.Experts.Words
public import proofs.«01_k».proof.Proof.Experts.Chain
public import proofs.«01_k».proof.Proof.Experts.Run

/-! # The table the expert call prefetches: its fields, the block numbers inside their arrays, the items that open a block. -/

@[expose] public section
set_option maxRecDepth 16384
noncomputable section
namespace Cert.Kernel4Ideal.Hand
open Cert.Kernel4Ideal Cert.Kernel4Ideal.Gen
open Idealize
open Idealize.ShloMosaic hiding ix0 ix1 ix2 ix3 eq_ix1 eq_ix2 eq_ix3
open Idealize.ShloMosaic.ValueIdx
open Idealize.ShloMosaic.TcCoe
open Cert.Experts

variable {F : FTy → Type} [FloatOps F]
variable (m : (ℓ : Loc nD τ sig) → Buf (Elt F) ℓ)

/-- The counts the call is launched with. -/
def cnt : IVec Plan.S8 32 := m (((0 : Dev nD).tc : Thread nD τ).loc main_arg0)

/-- Field `r` of item `w` is row `r` of the plan at `w`. -/
theorem fld_row (r : Fin 7) (w : Fin 26) : fld (tbl m) r w = Plan.row (cnt m) r (ix1 w) := by
  have h : V m (0 : Dev nD) main_v125 = Plan.v125 (cnt m) := E_v125 m 0 (V_main_arg0 m 0)
  refine (congrFun h _).trans (Plan.v125_at (cnt m) r w _ rfl)

/-- The output block of an item. -/
theorem fld_ob (hs : Plan.Small (cnt m)) (w : Fin 26) : fld (tbl m) 0 w = BitVec.ofNat 32 (Order.ob (Plan.A (cnt m)) w.val) :=
  (fld_row m 0 w).trans (Plan.f_ob hs w)
/-- Whether an item starts from zero. -/
theorem fld_z (hs : Plan.Small (cnt m)) (w : Fin 26) : fld (tbl m) 5 w = if Order.Z (Plan.A (cnt m)) w.val then 1#32 else 0#32 :=
  (fld_row m 5 w).trans (Plan.f_z hs w)
/-- Whether an item is live. -/
theorem fld_lv (hs : Plan.Small (cnt m)) (w : Fin 26) : fld (tbl m) 6 w = if w.val < Order.nl (Plan.A (cnt m)) then 1#32 else 0#32 :=
  (fld_row m 6 w).trans (Plan.f_lv hs w)

/-- Every block number is one of its array's. -/
theorem ok (hs : Plan.Small (cnt m)) : Ok m :=
  ok_of _ (fun w => by rw [fld_row]; exact Plan.f_ob_lt hs w) (fun w => by rw [fld_row]; exact Plan.f_xb_lt hs w)
    (fun w => by rw [fld_row]; exact Plan.f_ex_lt hs w)

/-- An item whose block is not the one of the item before zeroes its block. -/
theorem opens (hs : Plan.Small (cnt m)) : Opens m := by
  have hm := Plan.A_mono (cnt := cnt m)
  have h0 := Plan.A_zero (cnt := cnt m)
  refine ⟨?_, fun w h hne => ?_⟩
  · rw [fld_z m hs]; exact if_pos (Order.ob_zero _ hm h0).2
  · rw [fld_z m hs]
    rcases Order.ob_step _ hm h0 w with he | he
    · refine absurd ?_ hne
      rw [fld_ob m hs, fld_ob m hs]; exact congrArg _ he
    · exact if_pos he.2

end Cert.Kernel4Ideal.Hand
end
-- ==== Proof.Experts.Accum.lean ====
module

public import proofs.«01_k».proof.Proof.Experts.Blocks
public import proofs.«01_k».proof.Proof.Experts.Table

/-! # The output block after each point of the expert call, and after each item. -/

@[expose] public section
set_option maxRecDepth 16384
noncomputable section
namespace Cert.Kernel4Ideal.Hand
open Cert.Kernel4Ideal Cert.Kernel4Ideal.Gen
open Idealize
open Idealize.ShloMosaic
open Idealize.ShloMosaic.TcCoe
open Cert.Experts

section Terms
variable (X : Vec Ideal S18432x2048 .bf16) (G U : Vec Ideal S8x2048x7168 .f32) (D : Vec Ideal S8x7168x2048 .f32)

/-- What hidden element `f` of expert `e` contributes to the output at row `g` and column `d`. -/
def term (e : Fin 8) (g : Fin 18432) (d : Fin 2048) (f : Fin 7168) : EReal :=
  hid (fun c => X (ix2 g c)) (fun c => G (ix3 e c f)) (fun c => U (ix3 e c f)) * D (ix3 e f d)

/-- What the tile `j` of the hidden dimension contributes. -/
def ptN (d : Fin 2048) (e g j : ℕ) : EReal :=
  if h : e < 8 ∧ g < 18432 ∧ j < 28 then ∑ k : Fin 256, term X G U D ⟨e, h.1⟩ ⟨g, h.2.1⟩ d ⟨j * 256 + k.val, by omega⟩ else 0

/-- What the first `n` tiles contribute. -/
def accN (d : Fin 2048) (e g n : ℕ) : EReal := ∑ j ∈ Finset.range n, ptN X G U D d e g j

/-- The result of an expert on a row, or zero where there is none. -/
def held (d : Fin 2048) (o : Option ℕ) (g : ℕ) : EReal := o.elim 0 fun e => accN X G U D d e g 28

end Terms

section Words
variable (x0 : Vec Ideal S1024x2048 .bf16) (x1 x2 : Vec Ideal S1x2048x256 .f32) (x3 : Vec Ideal S1x256x2048 .f32) (o : Vec Ideal S1024x2048 .f32)

/-- A live point's block, its words given by equations. -/
theorem body_live' (i : grid0.Coords) (lo hi : ℕ) (hl : lo < hi) (hh : hi ≤ 4) (v8 : BitVec 32) (r : Fin 1024) (d : Fin 2048)
    (v2 v5 v11 : BitVec 32) (h2 : v2 = BitVec.ofNat 32 lo) (h5 : v5 = BitVec.ofNat 32 hi) (h11 : v11 = 1#32) :
    bodyVal (F := Ideal) i v2 v5 v8 v11 x0 x1 x2 x3 o (ix2 r d)
      = if 256 * lo ≤ r.val ∧ r.val < 256 * hi then val1 (F := Ideal) i v8 o (ix2 r d) + part (fun c => x0 (ix2 r c)) x1 x2 x3 d
        else val1 (F := Ideal) i v8 o (ix2 r d) := by
  subst h2 h5 h11; exact body_live x0 x1 x2 x3 o i lo hi hl hh v8 r d

/-- The block of a point past the last item, its word given by an equation. -/
theorem body_dead' (i : grid0.Coords) (v2 v5 v8 v11 : BitVec 32) (h11 : v11 = 0#32) (r : Fin 1024) (d : Fin 2048) :
    bodyVal (F := Ideal) i v2 v5 v8 v11 x0 x1 x2 x3 o (ix2 r d) = val1 (F := Ideal) i v8 o (ix2 r d) := by
  subst h11; exact congrFun (body_dead x0 x1 x2 x3 o i v2 v5 v8) _

end Words

/-- A small number's word counts as the number. -/
theorem toNat_small (x : ℕ) (h : x < 4294967296) : (BitVec.ofNat 32 x).toNat = x := by rw [BitVec.toNat_ofNat]; omega

variable (m : (ℓ : Loc nD τ sig) → Buf (Elt Ideal) ℓ) (hs : Plan.Small (cnt m)) (c : Dev nD)

/-- The tiles' contributions, of the arrays the call reads. -/
abbrev ptM (d : Fin 2048) (e g j : ℕ) : EReal := ptN (V m c main_arg1) (V m c main_v126) (V m c main_v127) (V m c main_v128) d e g j
/-- What the first tiles contribute, of the arrays the call reads. -/
abbrev accM (d : Fin 2048) (e g n : ℕ) : EReal := accN (V m c main_arg1) (V m c main_v126) (V m c main_v127) (V m c main_v128) d e g n
/-- The result of an expert or zero, of the arrays the call reads. -/
abbrev heldM (d : Fin 2048) (o : Option ℕ) (g : ℕ) : EReal := held (V m c main_arg1) (V m c main_v126) (V m c main_v127) (V m c main_v128) d o g

include hs in
/-- What the body starts from: zero at the first step of an item that starts afresh, else the block as found. -/
theorem val1_apply (i : grid0.Coords) (o : Vec Ideal S1024x2048 .f32) (r : Fin 1024) (d : Fin 2048) :
    val1 (F := Ideal) i (fld (tbl m) 5 (i 0)) o (ix2 r d) = if Order.Z (Plan.A (cnt m)) (i 0).val ∧ (i 1).val = 0 then 0 else o (ix2 r d) := by
  have hc : k0_cond1 i (fld (tbl m) 5 (i 0)) = 1#1 ↔ Order.Z (Plan.A (cnt m)) (i 0).val ∧ (i 1).val = 0 := by
    refine (cond1_iff i _).trans (and_congr_left fun _ => ?_)
    have hf := fld_z m hs (i 0)
    by_cases hz : Order.Z (Plan.A (cnt m)) (i 0).val
    · exact ⟨fun _ => hz, fun _ => hf.trans (if_pos hz)⟩
    · exact ⟨fun h => absurd (h.symm.trans (hf.trans (if_neg hz))) (by decide), fun h => absurd h hz⟩
  unfold val1
  by_cases h : k0_cond1 i (fld (tbl m) 5 (i 0)) = 1#1
  · rw [if_pos h, if_pos (hc.mp h)]; exact zero_apply r d
  · rw [if_neg h, if_neg (fun h' => h (hc.mpr h'))]

/-- The part a live point adds is its tile's contribution. -/
theorem part_eq (t : Fin (cfgM m (ok m hs)).N) (hw : (grid0.coords t 0).val < Order.nl (Plan.A (cnt m))) (r : Fin 1024) (d : Fin 2048) :
    part (fun k => (iblk m (ok m hs) c 0 t : Vec Ideal S1024x2048 .bf16) (ix2 r k)) (iblk m (ok m hs) c 1 t) (iblk m (ok m hs) c 2 t) (iblk m (ok m hs) c 3 t) d
      = ptM m c d (Order.ex (Plan.A (cnt m)) (grid0.coords t 0).val) (1024 * Order.ob (Plan.A (cnt m)) (grid0.coords t 0).val + r.val) (grid0.coords t 1).val := by
  obtain ⟨h18, h8, -, -⟩ := Order.live_spec (Plan.A (cnt m)) Plan.A_mono Plan.A_zero hw
  have hj : (grid0.coords t 1).val < 28 := (grid0.coords t 1).isLt
  have hq : (fld (tbl m) 1 (grid0.coords t 0)).toNat = Order.ob (Plan.A (cnt m)) (grid0.coords t 0).val := by
    exact (congrArg BitVec.toNat ((fld_row m 1 (grid0.coords t 0)).trans (Plan.f_xb hs (grid0.coords t 0) hw))).trans (toNat_small _ (by omega))
  have he : (fld (tbl m) 2 (grid0.coords t 0)).toNat = Order.ex (Plan.A (cnt m)) (grid0.coords t 0).val := by
    exact (congrArg BitVec.toNat ((fld_row m 2 (grid0.coords t 0)).trans (Plan.f_ex hs (grid0.coords t 0) hw))).trans (toNat_small _ (by omega))
  have ht : tile (tbl m) (grid0.coords t) = (grid0.coords t 1).val := by
    unfold tile; exact if_pos ((fld_lv m hs (grid0.coords t 0)).trans (if_pos hw))
  have e0 := fun k => iblk0 m (ok m hs) c t _ hq h18 r k
  have e1 := fun k l => iblk1 m (ok m hs) c t _ _ he ht h8 hj k l
  have e2 := fun k l => iblk2 m (ok m hs) c t _ _ he ht h8 hj k l
  have e3 := fun k l => iblk3 m (ok m hs) c t _ _ he ht h8 hj k l
  have hg : 1024 * Order.ob (Plan.A (cnt m)) (grid0.coords t 0).val + r.val < 18432 := by omega
  unfold part ptM ptN
  rw [dif_pos ⟨h8, hg, hj⟩]
  refine Finset.sum_congr rfl fun k _ => ?_
  unfold term
  refine congrArg₂ (· * ·) ?_ (e3 k d)
  refine congr (congr (congrArg hid (funext fun x => (e0 x).trans ?_)) (funext fun x => e1 x k)) (funext fun x => e2 x k)
  refine congrArg (fun z => (V m c main_arg1 : Vec Ideal S18432x2048 .bf16) (ix2 z x)) (Fin.ext ?_)
  show _ * 1024 + r.val = 1024 * _ + r.val
  omega

/-- One point of the call at an element: a written tile takes up the hidden tile's contribution, the others are kept. -/
theorem step_apply (t : Fin (cfgM m (ok m hs)).N) (o : Vec Ideal S1024x2048 .f32) (r : Fin 1024) (d : Fin 2048) (w j : ℕ)
    (hw : (grid0.coords t 0).val = w) (hj : (grid0.coords t 1).val = j) :
    stepVal m (ok m hs) c t o (ix2 r d)
      = if Order.Wr (Plan.A (cnt m)) w (r.val / 256) then (if Order.Z (Plan.A (cnt m)) w ∧ j = 0 then 0 else o (ix2 r d)) + ptM m c d (Order.ex (Plan.A (cnt m)) w) (1024 * Order.ob (Plan.A (cnt m)) w + r.val) j
        else (if Order.Z (Plan.A (cnt m)) w ∧ j = 0 then 0 else o (ix2 r d)) := by
  subst hw hj
  have hv := val1_apply m hs (grid0.coords t) o r d
  have hlv := fld_lv m hs (grid0.coords t 0)
  unfold stepVal
  by_cases hw : (grid0.coords t 0).val < Order.nl (Plan.A (cnt m))
  · obtain ⟨h18, h8, -, hlt⟩ := Order.live_spec (Plan.A (cnt m)) Plan.A_mono Plan.A_zero hw
    have hlo := (fld_row m 3 (grid0.coords t 0)).trans (Plan.v72_live hs (grid0.coords t 0) hw)
    have hhi := (fld_row m 4 (grid0.coords t 0)).trans (Plan.v84_live hs (grid0.coords t 0) hw)
    refine (body_live' _ _ _ _ _ _ _ _ ?_ ?_ _ r d _ _ _ hlo hhi (hlv.trans (if_pos hw))).trans
      (if_congr ?_ (congrArg₂ (· + ·) hv (part_eq m hs c t hw r d)) hv)
    · omega
    · omega
    · unfold Order.Wr
      have := r.isLt
      constructor
      · rintro ⟨h1, h2⟩; exact ⟨hw, by omega, by omega⟩
      · rintro ⟨-, h1, h2⟩; exact ⟨by omega, by omega⟩
  · refine (body_dead' _ _ _ _ _ _ _ _ _ _ (hlv.trans (if_neg hw)) r d).trans (hv.trans ?_)
    rw [if_neg (fun h : Order.Wr (Plan.A (cnt m)) _ _ => hw h.1)]

/-- The element before an item's first point. -/
def before (r : Fin 1024) (d : Fin 2048) : ℕ → EReal
  | 0 => 0
  | w + 1 => heldM m c d (Order.Dn (Plan.A (cnt m)) w (r.val / 256)) (1024 * Order.ob (Plan.A (cnt m)) w + r.val)

/-- The element after step `j` of item `w`. -/
def during (r : Fin 1024) (d : Fin 2048) (w j : ℕ) : EReal :=
  if Order.Wr (Plan.A (cnt m)) w (r.val / 256) then accM m c d (Order.ex (Plan.A (cnt m)) w) (1024 * Order.ob (Plan.A (cnt m)) w + r.val) (j + 1)
  else if Order.Z (Plan.A (cnt m)) w then 0 else before m c r d w

/-- A tile that an item writes without starting afresh was zero before. -/
theorem before_fresh (r : Fin 1024) (d : Fin 2048) (w : ℕ) (hW : Order.Wr (Plan.A (cnt m)) w (r.val / 256)) (hZ : ¬ Order.Z (Plan.A (cnt m)) w) : before m c r d w = 0 := by
  cases w with
  | zero => rfl
  | succ w =>
    have := r.isLt
    have h := (Order.dn_fresh (Plan.A (cnt m)) Plan.A_mono Plan.A_zero w (r.val / 256) (by omega) hW).resolve_left hZ
    show held _ _ _ _ d _ _ = 0
    rw [h]; rfl

/-- After an item's last step a tile holds the result the plan gives it. -/
theorem during_last (r : Fin 1024) (d : Fin 2048) (w : ℕ) :
    during m c r d w 27 = heldM m c d (Order.Dn (Plan.A (cnt m)) w (r.val / 256)) (1024 * Order.ob (Plan.A (cnt m)) w + r.val) := by
  unfold during
  cases w with
  | zero =>
    show _ = held _ _ _ _ d (if _ then _ else _) _
    split
    · rfl
    · split <;> rfl
  | succ w =>
    show _ = held _ _ _ _ d (if _ then _ else if _ then _ else _) _
    by_cases hW : Order.Wr (Plan.A (cnt m)) (w + 1) (r.val / 256)
    · rw [if_pos hW, if_pos hW]; rfl
    · rw [if_neg hW, if_neg hW]
      by_cases hZ : Order.Z (Plan.A (cnt m)) (w + 1)
      · rw [if_pos hZ, if_pos hZ]; rfl
      · rw [if_neg hZ, if_neg hZ]
        rcases Order.ob_step (Plan.A (cnt m)) Plan.A_mono Plan.A_zero w with h | h
        · rw [h]; rfl
        · exact absurd h.2 hZ

/-- The output block after every point. -/
theorem outs_apply (r : Fin 1024) (d : Fin 2048) (w : ℕ) : w < 26 → ∀ j, j < 28 → ∀ h,
    outs m (ok m hs) c (28 * w + j) h (ix2 r d) = during m c r d w j := by
  have hN : (cfgM m (ok m hs)).N = 728 := N_0
  have hG : grid0.N = 728 := N_0
  induction w using Nat.strong_induction_on with
  | _ w ihw =>
    intro hw j
    induction j with
    | zero =>
      intro hj h
      have hc0 : (grid0.coords (⟨28 * w + 0, h⟩ : Fin (cfgM m (ok m hs)).N) 0).val = w := (coords0 _).trans (by show (28 * w + 0) / 28 % 26 = w; omega)
      have hc1 : (grid0.coords (⟨28 * w + 0, h⟩ : Fin (cfgM m (ok m hs)).N) 1).val = 0 := (coords1 _).trans (by show (28 * w + 0) / 1 % 28 = 0; omega)
      have hp : prev m (ok m hs) c ⟨28 * w + 0, h⟩ (ix2 r d) = before m c r d w := by
        cases w with
        | zero => exact zero_apply r d
        | succ w =>
          have hne : ¬ (28 * (w + 1) + 0 = 0) := by omega
          have e : ∀ (n : ℕ) (hn : n < (cfgM m (ok m hs)).N), n = 28 * w + 27 → outs m (ok m hs) c n hn (ix2 r d) = during m c r d w 27 := by
            intro n hn he; subst he; exact ihw w (Nat.lt_succ_self w) (by omega) 27 (by omega) hn
          unfold prev
          rw [dif_neg hne]
          exact (e _ _ (by show 28 * (w + 1) + 0 - 1 = _; omega)).trans (during_last m c r d w)
      refine (congrFun (outs_eq m (ok m hs) c ⟨28 * w + 0, h⟩) (ix2 r d)).trans ?_
      rw [step_apply m hs c _ _ r d w 0 hc0 hc1, hp]
      unfold during
      by_cases hW : Order.Wr (Plan.A (cnt m)) w (r.val / 256)
      · rw [if_pos hW, if_pos hW]
        have hz : (if Order.Z (Plan.A (cnt m)) w ∧ 0 = 0 then 0 else before m c r d w) = 0 := by
          by_cases hZ : Order.Z (Plan.A (cnt m)) w
          · exact if_pos ⟨hZ, rfl⟩
          · rw [if_neg (fun h => hZ h.1)]; exact before_fresh m c r d w hW hZ
        rw [hz]
        unfold accM accN
        rw [Finset.sum_range_succ, Finset.sum_range_zero]
      · rw [if_neg hW, if_neg hW]
        refine if_congr (and_iff_left rfl) rfl rfl
    | succ j ihj =>
      intro hj h
      have hc0 : (grid0.coords (⟨28 * w + (j + 1), h⟩ : Fin (cfgM m (ok m hs)).N) 0).val = w := (coords0 _).trans (by show (28 * w + (j + 1)) / 28 % 26 = w; omega)
      have hc1 : (grid0.coords (⟨28 * w + (j + 1), h⟩ : Fin (cfgM m (ok m hs)).N) 1).val = j + 1 := (coords1 _).trans (by show (28 * w + (j + 1)) / 1 % 28 = j + 1; omega)
      have hp : prev m (ok m hs) c ⟨28 * w + (j + 1), h⟩ (ix2 r d) = during m c r d w j := by
        unfold prev
        rw [dif_neg (by show ¬ (28 * w + (j + 1) = 0); omega)]
        exact ihj (by omega) _
      refine (congrFun (outs_eq m (ok m hs) c ⟨28 * w + (j + 1), h⟩) (ix2 r d)).trans ?_
      rw [step_apply m hs c _ _ r d w (j + 1) hc0 hc1, hp, if_neg (fun h : Order.Z (Plan.A (cnt m)) w ∧ j + 1 = 0 => by omega)]
      unfold during
      by_cases hW : Order.Wr (Plan.A (cnt m)) w (r.val / 256)
      · rw [if_pos hW, if_pos hW, if_pos hW]
        unfold accM accN
        rw [Finset.sum_range_succ _ (j + 1)]
      · rw [if_neg hW, if_neg hW, if_neg hW]

end Cert.Kernel4Ideal.Hand
end
-- ==== Proof.Experts.Array.lean ====
module

public import proofs.«01_k».proof.Proof.Experts.Accum

/-! # The array the expert call writes: each row holds the result of the expert that owns its tile, or zero. -/

@[expose] public section
set_option maxRecDepth 16384
noncomputable section
namespace Cert.Kernel4Ideal.Hand
open Cert.Kernel4Ideal Cert.Kernel4Ideal.Gen
open Idealize
open Idealize.ShloMosaic
open Idealize.ShloMosaic.TcCoe
open Cert.Experts

/-- The result at a row and a column: the sum over the experts of their results, those that do not own the row's tile left out. -/
def outAt (X : Vec Ideal S18432x2048 .bf16) (G U : Vec Ideal S8x2048x7168 .f32) (D : Vec Ideal S8x7168x2048 .f32) (a : ℕ → ℕ) (g : Fin 18432) (d : Fin 2048) : EReal :=
  ∑ e : Fin 8, if a e.val ≤ g.val / 256 ∧ g.val / 256 < a (e.val + 1) then accN X G U D d e.val g.val 28 else 0

/-- The result of a tile's owner is that sum. -/
theorem held_owner (X : Vec Ideal S18432x2048 .bf16) (G U : Vec Ideal S8x2048x7168 .f32) (D : Vec Ideal S8x7168x2048 .f32) (a : ℕ → ℕ) (hm : Monotone a)
    (g : Fin 18432) (d : Fin 2048) (o : Option ℕ) (ho : Order.Owns a (g.val / 256) o) : held X G U D d o g.val = outAt X G U D a g d := by
  unfold outAt
  cases o with
  | none =>
    have h8 := ho.2 rfl
    refine (Finset.sum_eq_zero fun e _ => if_neg fun h => ?_).symm
    have : a (e.val + 1) ≤ a 8 := hm e.isLt
    omega
  | some e =>
    obtain ⟨he, h1, h2⟩ := ho.1 e rfl
    refine Eq.symm ?_
    rw [Finset.sum_eq_single (⟨e, he⟩ : Fin 8) (fun b _ hb => if_neg fun h => ?_) (fun h => absurd (Finset.mem_univ _) h)]
    · exact if_pos (And.intro h1 h2)
    rcases Nat.lt_trichotomy b.val e with hlt | heq | hgt
    · have : a (b.val + 1) ≤ a e := hm hlt
      omega
    · exact hb (Fin.ext heq)
    · have : a (e + 1) ≤ a b.val := hm hgt
      omega

variable (m : (ℓ : Loc nD τ sig) → Buf (Elt Ideal) ℓ) (hs : Plan.Small (cnt m)) (c : Dev nD)

/-- Every output block is some item's. -/
theorem exists_item (a : ℕ → ℕ) (hm : Monotone a) (h0 : a 0 = 0) (b : ℕ) (hb : b < 18) : ∃ w, w < 26 ∧ Order.ob a w = b := by
  have H : ∀ w b, b ≤ Order.ob a w → ∃ w', w' ≤ w ∧ Order.ob a w' = b := by
    intro w
    induction w with
    | zero => intro b hb; exact ⟨0, Nat.le_refl 0, by have := (Order.ob_zero a hm h0).1; omega⟩
    | succ w ih =>
      intro b hb
      have hst := Order.ob_step a hm h0 w
      rcases Nat.lt_or_ge (Order.ob a w) b with h | h
      · exact ⟨w + 1, Nat.le_refl _, by omega⟩
      · obtain ⟨w', h1, h2⟩ := ih b h; exact ⟨w', by omega, h2⟩
  obtain ⟨w, h1, h2⟩ := H 25 b (by rw [Order.ob_last a hm h0]; omega)
  exact ⟨w, by omega, h2⟩

include hs in
/-- The output block of an item, as a number. -/
theorem fld_ob_nat (w : Fin 26) : (fld (tbl m) 0 w).toNat = Order.ob (Plan.A (cnt m)) w.val :=
  (congrArg BitVec.toNat (fld_ob m hs w)).trans (toNat_small _ (by have := Order.ob_lt (Plan.A (cnt m)) Plan.A_mono Plan.A_zero w.val; omega))

/-- The output's blocks cover its array. -/
theorem covers4 : ((cfgM m (ok m hs)).win 4).Covers := by
  refine ((cfgM m (ok m hs)).win 4).covers_of_index_surj rfl (by decide : ∀ a : Fin 2, 0 < S1024x2048.size a) fun β => ?_
  have h0 : (β (0 : Fin 2)).val < 18 := (β (0 : Fin 2)).isLt.trans_eq (show (18432 + 1024 - 1) / 1024 = 18 by decide)
  have h1 : (β (1 : Fin 2)).val < 1 := (β (1 : Fin 2)).isLt.trans_eq (show (2048 + 2048 - 1) / 2048 = 1 by decide)
  obtain ⟨w, hw, he⟩ := exists_item (Plan.A (cnt m)) Plan.A_mono Plan.A_zero _ h0
  have hG : grid0.N = 728 := N_0
  have ht : 28 * w < grid0.N := by omega
  have hc0 : (grid0.coords ⟨28 * w, ht⟩ 0).val = w := (coords0 _).trans (by show (28 * w) / 28 % 26 = w; omega)
  have hf : (fld (tbl m) 0 (grid0.coords ⟨28 * w, ht⟩ 0)).toNat = (β (0 : Fin 2)).val :=
    (fld_ob_nat m hs _).trans ((congrArg (Order.ob (Plan.A (cnt m))) hc0).trans he)
  refine ⟨⟨28 * w, ht⟩, (fun a => ?_ : ∀ a : Fin 2, _)⟩
  rw [idx4]
  fin_cases a
  · exact hf
  · show 0 = (β (1 : Fin 2)).val; omega

/-- A point that writes its block back is its item's last, and the next item's block is another. -/
theorem flush_last (t : Fin (cfgM m (ok m hs)).N) (hf : ((cfgM m (ok m hs)).win 4).flush t = true) :
    t.val % 28 = 27 ∧ (Order.ob (Plan.A (cnt m)) (t.val / 28 + 1) ≠ Order.ob (Plan.A (cnt m)) (t.val / 28) ∨ t.val / 28 = 25) := by
  have hN : t.val < 728 := lt_of_lt_of_eq t.isLt N_0
  have hN' : (cfgM m (ok m hs)).N = 728 := N_0
  have hG : grid0.N = 728 := N_0
  unfold Pipeline.Window.flush at hf
  rw [Bool.and_eq_true, Bool.or_eq_true, decide_eq_true_eq, decide_eq_true_eq] at hf
  rcases hf.2 with h | ⟨h, hx⟩
  · have h' : t.val + 1 = (cfgM m (ok m hs)).N := h
    exact ⟨by omega, .inr (by omega)⟩
  · have ht1 : t.val + 1 < 728 := lt_of_lt_of_eq h N_0
    have a0 := coords0 t
    have b0 := coords0 (⟨t.val + 1, by omega⟩ : Fin grid0.N)
    have b0' : (grid0.coords (⟨t.val + 1, by omega⟩ : Fin grid0.N) 0).val = (t.val + 1) / 28 % 26 := b0
    have hne : Order.ob (Plan.A (cnt m)) ((t.val + 1) / 28) ≠ Order.ob (Plan.A (cnt m)) (t.val / 28) := by
      intro he
      apply hx
      show cc0_transform_4 k0_off1_inb numel1_S1 (tbl m) (grid0.coords ⟨t.val + 1, h⟩) = cc0_transform_4 k0_off1_inb numel1_S1 (tbl m) (grid0.coords t)
      rw [ix_4, ix_4]
      refine congrArg (fun x : ℕ => ![x, 0]) ((fld_ob_nat m hs _).trans (((congrArg (Order.ob (Plan.A (cnt m))) ?_).trans (he.trans (congrArg (Order.ob (Plan.A (cnt m))) ?_))).trans (fld_ob_nat m hs _).symm))
      · exact b0'.trans (by omega)
      · exact (a0.trans (by omega)).symm
    have h27 : t.val % 28 = 27 := by
      by_contra hd
      exact hne (congrArg _ (by omega))
    refine ⟨h27, .inl ?_⟩
    rwa [show (t.val + 1) / 28 = t.val / 28 + 1 by omega] at hne

/-- The array of every element the call writes. -/
def outArr : Vec Ideal S18432x2048 .f32 := fun i =>
  outAt (V m c main_arg1) (V m c main_v126) (V m c main_v127) (V m c main_v128) (Plan.A (cnt m)) (i 0) (i 1)

/-- What a point that writes back leaves at an element of its block. -/
theorem flushed (t : Fin (cfgM m (ok m hs)).N) (hf : ((cfgM m (ok m hs)).win 4).flush t = true) (r : Fin 1024) (d : Fin 2048) (g : Fin 18432)
    (hg : g.val = 1024 * Order.ob (Plan.A (cnt m)) (t.val / 28) + r.val) :
    outs m (ok m hs) c t.val t.isLt (ix2 r d) = outArr m c (ix2 g d) := by
  obtain ⟨h27, hl⟩ := flush_last m hs t hf
  have hN : t.val < 728 := lt_of_lt_of_eq t.isLt N_0
  have e : ∀ (n : ℕ) (hn : n < (cfgM m (ok m hs)).N), n = 28 * (t.val / 28) + 27 → outs m (ok m hs) c n hn (ix2 r d) = during m c r d (t.val / 28) 27 := by
    intro n hn he; subst he; exact outs_apply m hs c r d (t.val / 28) (by omega) 27 (by omega) hn
  refine (e t.val t.isLt (by omega)).trans ((during_last m c r d _).trans ?_)
  have := r.isLt
  have ho := Order.dn_final (Plan.A (cnt m)) Plan.A_mono Plan.A_zero (t.val / 28) (r.val / 256) (by omega) hl
  rw [show 4 * Order.ob (Plan.A (cnt m)) (t.val / 28) + r.val / 256 = g.val / 256 by omega] at ho
  refine Eq.trans ?_ (held_owner _ _ _ _ _ Plan.A_mono g d _ ho)
  show held _ _ _ _ d _ _ = held _ _ _ _ d _ _
  rw [hg]

/-- The array the call writes, after the run. -/
theorem array : (dats m (ok m hs) 0 c).arrAt 4 (cfgM m (ok m hs)).N = outArr m c := by
  refine (dats m (ok m hs) 0 c).arrAt_eq_of_covers 4 _ (covers4 m hs) fun t hf y => ?_
  blk_simp
  rw [after4]
  revert y
  suffices H : ∀ y : S1024x2048.Idx, outs m (ok m hs) c t.val t.isLt y = outArr m c ((((cfgM m (ok m hs)).win 4).blk t).view.emb y) from H
  intro y
  idx_vars y
  have hN : t.val < 728 := lt_of_lt_of_eq t.isLt N_0
  have hob := Order.ob_lt (Plan.A (cnt m)) Plan.A_mono Plan.A_zero (t.val / 28)
  have a0 : (grid0.coords t 0).val = t.val / 28 := (coords0 t).trans (by omega)
  have hq : (fld (tbl m) 0 (grid0.coords t 0)).toNat = Order.ob (Plan.A (cnt m)) (t.val / 28) := (fld_ob_nat m hs _).trans (congrArg _ a0)
  refine (flushed m hs c t hf _ _ ⟨1024 * Order.ob (Plan.A (cnt m)) (t.val / 28) + _, by omega⟩ rfl).trans (congrArg (outArr m c) (funext fun a => Fin.ext (Eq.symm ?_)))
  refine (Pipeline.Window.rect_emb_val ((cfgM m (ok m hs)).win 4) t _ a).trans ?_
  rw [idx4, hq]
  fin_cases a
  · show _ * 1024 + _ = 1024 * _ + _
    exact congrArg (· + _) (Nat.mul_comm 1024 _).symm
  · exact (congrArg (· + _) (Nat.zero_mul _)).trans (Nat.zero_add _)

end Cert.Kernel4Ideal.Hand
end
-- ==== Proof.Experts.Reference.lean ====
module

public import proofs.«01_k».proof.Proof.Gen.Reference4Ideal.Run
public import proofs.«01_k».proof.Proof.Experts.Readings
public import Idealize.ShloMosaic.Lib.Pointwise
public import Idealize.ShloMosaic.Lib.Tactic.CleanTypes

/-! # What the reference of the expert call computes, read at an element of its result. -/

@[expose] public section
set_option maxRecDepth 16384
noncomputable section
namespace Cert.Reference4Ideal.Hand
open Cert.Reference4Ideal Cert.Reference4Ideal.Gen Cert.Reference4Ideal.Value
open Idealize
open Idealize.ShloMosaic
open Idealize.ShloMosaic.TcCoe
open Cert.Experts

/-- One row times one column of an expert's gate or up weights. -/
def lin (X : FVec Ideal S18432x2048 .bf16) (W : FVec Ideal S1x8x2048x7168 .f32) (e : Fin 8) (g : Fin 18432) (f : Fin 7168) : EReal :=
  ∑ c : Fin 2048, X (ix2 g c) * W (ix4 0 e c f)

/-- One hidden element's contribution to an expert's result. -/
def contribution (X : FVec Ideal S18432x2048 .bf16) (G U : FVec Ideal S1x8x2048x7168 .f32) (D : FVec Ideal S1x8x7168x2048 .f32)
    (e : Fin 8) (g : Fin 18432) (d : Fin 2048) (f : Fin 7168) : EReal :=
  lin X G e g f * Ideal.div 1 (1 + Ideal.exp (-(lin X G e g f))) * lin X U e g f * D (ix4 0 e f d)

/-- The result at a row and a column: over the experts, the result of those whose rows include the row. -/
def mixture (X : FVec Ideal S18432x2048 .bf16) (G U : FVec Ideal S1x8x2048x7168 .f32) (D : FVec Ideal S1x8x7168x2048 .f32) (a : ℕ → ℕ)
    (g : Fin 18432) (d : Fin 2048) : EReal :=
  ∑ e : Fin 8, if 256 * a e.val ≤ g.val ∧ g.val < 256 * a (e.val + 1) then ∑ f : Fin 7168, contribution X G U D e g d f else 0

/-- The reference's operations, the two tables of row numbers by their names. -/
def whole (cnt : IVec Plan.S8 32) (X : FVec Ideal S18432x2048 .bf16) (G U : FVec Ideal S1x8x2048x7168 .f32) (D : FVec Ideal S1x8x7168x2048 .f32) : FVec Ideal S18432x2048 .f32 :=
  Host.reduceAdd (F := Ideal) (select (broadcastInDim S8x18432x2048 ![0, 1, 2] bcast_S8x18432x1_S8x18432x2048_0_1_2 (broadcastInDim S8x18432x1 ![0, 1] bcast_S8x18432_S8x18432x1_0_1 (andi (cmpi .sle (broadcastInDim S8x18432 ![0, 1] bcast_S8x1_S8x18432_0_1 (broadcastInDim S8x1 ![0] bcast_S8_S8x1_0 (Plan.v8 cnt))) (broadcastInDim S8x18432 ![0, 1] bcast_S1x18432_S8x18432_0_1 (broadcastInDim S1x18432 ![1] bcast_S18432_S1x18432_1 (iotaInDim S18432 32 0)))) (cmpi .slt (broadcastInDim S8x18432 ![0, 1] bcast_S1x18432_S8x18432_0_1 (broadcastInDim S1x18432 ![1] bcast_S18432_S1x18432_1 (iotaInDim S18432 32 0))) (broadcastInDim S8x18432 ![0, 1] bcast_S8x1_S8x18432_0_1 (broadcastInDim S8x1 ![0] bcast_S8_S8x1_0 (Plan.v7 cnt))))))) (Host.dotGeneral dot_S8x18432x7168_S8x7168x2048_S8x18432x2048_2_1_1_2_0_0 none (mulf (mulf (transpose S8x18432x7168 [0, 2, 1] (Host.dotGeneral dot_S8x2048x7168_S18432x2048_S8x7168x18432_1_1_02_0_n_n none (shapeCast _ G shapeCasts_S1x8x2048x7168_S8x2048x7168) (extf .f32 X bitsLt_bf16_f32)) transposes_S8x7168x18432_S8x18432x7168_0_2_1) (Host.divf (broadcastInDim S8x18432x7168 ![] bcast_S_S8x18432x7168 (constant S_ .f32 0x3F800000#32)) (addf (broadcastInDim S8x18432x7168 ![] bcast_S_S8x18432x7168 (constant S_ .f32 0x3F800000#32)) (Host.exp (Host.negf (transpose S8x18432x7168 [0, 2, 1] (Host.dotGeneral dot_S8x2048x7168_S18432x2048_S8x7168x18432_1_1_02_0_n_n none (shapeCast _ G shapeCasts_S1x8x2048x7168_S8x2048x7168) (extf .f32 X bitsLt_bf16_f32)) transposes_S8x7168x18432_S8x18432x7168_0_2_1)))))) (transpose S8x18432x7168 [0, 2, 1] (Host.dotGeneral dot_S8x2048x7168_S18432x2048_S8x7168x18432_1_1_02_0_n_n none (shapeCast _ U shapeCasts_S1x8x2048x7168_S8x2048x7168) (extf .f32 X bitsLt_bf16_f32)) transposes_S8x7168x18432_S8x18432x7168_0_2_1)) (shapeCast _ D shapeCasts_S1x8x7168x2048_S8x7168x2048)) (broadcastInDim S8x18432x2048 ![] bcast_S_S8x18432x2048 (id (constant S_ .f32 0x00000000#32)))) (constant S_ .f32 0x00000000#32) reducesTo_S8x18432x2048_S18432x2048_d0 h_S_

/-- A row times a column, the factors the other way round. -/
theorem lin_comm (X : FVec Ideal S18432x2048 .bf16) (W : FVec Ideal S1x8x2048x7168 .f32) (e : Fin 8) (g : Fin 18432) (f : Fin 7168) :
    (∑ c : Fin 2048, W (ix4 0 e c f) * X (ix2 g c)) = lin X W e g f :=
  Finset.sum_congr rfl fun _ _ => mul_comm _ _

/-- The test that a row is among an expert's rows. -/
theorem owns_word (cnt : IVec Plan.S8 32) (hs : Plan.Small cnt) (e : Fin 8) (g : Fin 18432) :
    IntOp.andi (IntOp.cmpi .sle (Plan.v8 cnt (ix1 e)) (BitVec.ofNat 32 g.val)) (IntOp.cmpi .slt (BitVec.ofNat 32 g.val) (Plan.v7 cnt (ix1 e)))
      = BitVec.ofBool (decide (256 * Plan.A cnt e.val ≤ g.val ∧ g.val < 256 * Plan.A cnt (e.val + 1))) := by
  have h8 : Plan.v8 cnt (ix1 e) = _ := Plan.v8_eq hs e
  have h7 : Plan.v7 cnt (ix1 e) = _ := Plan.v7_eq hs e
  have b8 := Plan.A_le hs e.val
  have b7 := Plan.A_le hs (e.val + 1)
  have hg := g.isLt
  have he := e.isLt
  have c1 : IntOp.cmpi .sle (Plan.v8 cnt (ix1 e)) (BitVec.ofNat 32 g.val) = BitVec.ofBool (decide (256 * Plan.A cnt e.val ≤ g.val)) := by
    rw [h8]
    show BitVec.ofBool (BitVec.sle _ _) = _
    congr 1
    rw [BitVec.sle_eq_not_slt, Routing.slt_ofNat32 (by omega) (by omega), ← decide_not]
    simp only [Nat.not_lt]
  have c2 : IntOp.cmpi .slt (BitVec.ofNat 32 g.val) (Plan.v7 cnt (ix1 e)) = BitVec.ofBool (decide (g.val < 256 * Plan.A cnt (e.val + 1))) := by
    rw [h7]
    show BitVec.ofBool (BitVec.slt _ _) = _
    rw [Routing.slt_ofNat32 (by omega) (by omega)]
  rw [c1, c2]
  by_cases p : 256 * Plan.A cnt e.val ≤ g.val <;> by_cases q : g.val < 256 * Plan.A cnt (e.val + 1) <;> simp only [p, q, and_self, and_true, and_false] <;> rfl

/-- The operations, read at a row and a column. -/
theorem whole_apply (cnt : IVec Plan.S8 32) (hs : Plan.Small cnt) (X : FVec Ideal S18432x2048 .bf16) (G U : FVec Ideal S1x8x2048x7168 .f32)
    (D : FVec Ideal S1x8x7168x2048 .f32) (g : Fin 18432) (d : Fin 2048) :
    whole cnt X G U D (ix2 g d) = mixture X G U D (Plan.A cnt) g d := by
  unfold whole
  pointwise []
  unfold mixture
  refine Finset.sum_congr rfl fun e _ => ?_
  rw [owns_word cnt hs e g, Plan.select_bool]
  by_cases h : 256 * Plan.A cnt e.val ≤ g.val ∧ g.val < 256 * Plan.A cnt (e.val + 1)
  · rw [if_pos h, if_pos h]
    refine Finset.sum_congr rfl fun f _ => ?_
    rw [lin_comm X G e g f, lin_comm X U e g f]
    rfl
  · rw [if_neg h, if_neg h]
    exact Ideal.ofBits_zero_f32

variable (m : (ℓ : Loc nD τ sig) → Buf (Elt Ideal) ℓ) (c : Dev nD)

/-- The reference's result is those operations of its arguments. -/
theorem res_eq : (res_out0 m c : FVec Ideal S18432x2048 .f32)
    = whole (m (c.tc.loc main_arg0) : IVec Plan.S8 32) (m (c.tc.loc main_arg1)) (m (c.tc.loc main_arg2)) (m (c.tc.loc main_arg3)) (m (c.tc.loc main_arg4)) := by
  unfold res_out0 res_main_v34 whole
  dsimp only [Plan.v8, Plan.v7, Plan.v6, Plan.v5, Plan.c_2, Plan.v4, Plan.call0_v13, Plan.call0_v12, Plan.call0_c_0, Plan.call0_v11, Plan.call0_v10,
    Plan.call0_v9, Plan.call0_c, Plan.call0_v8, Plan.call0_v7, Plan.call0_v6, Plan.call0_v5, Plan.call0_v4, Plan.call0_v3, Plan.call0_v2, Plan.call0_v1,
    Plan.call0_v0, Plan.c_1, Plan.v3, Plan.v2, Plan.c_0, Plan.v1, Plan.v0, Plan.c, Plan.call1_call0_v0, Plan.call1_call0_c]
  rfl

end Cert.Reference4Ideal.Hand

end
-- ==== Proof.Experts.Equation.lean ====
module

public import proofs.«01_k».proof.Proof.Experts.Array
public import proofs.«01_k».proof.Proof.Experts.Reference

/-! # The expert call's array is the reference's. -/

@[expose] public section
set_option maxRecDepth 16384
noncomputable section
namespace Cert.Kernel4Ideal.Hand
open Cert.Kernel4Ideal Cert.Kernel4Ideal.Gen
open Idealize
open Idealize.ShloMosaic
open Idealize.ShloMosaic.TcCoe
open Cert.Experts
open Cert.Reference4Ideal.Hand (lin contribution mixture)

/-- The 28 tiles of 256 hidden elements are the 7168. -/
theorem accN_all (X : Vec Ideal S18432x2048 .bf16) (G U : Vec Ideal S8x2048x7168 .f32) (D : Vec Ideal S8x7168x2048 .f32)
    (e : Fin 8) (g : Fin 18432) (d : Fin 2048) : accN X G U D d e.val g.val 28 = ∑ f : Fin 7168, term X G U D e g d f := by
  unfold accN
  rw [Finset.sum_range]
  have h : ∀ j : Fin 28, ptN X G U D d e.val g.val j.val = ∑ k : Fin 256, term X G U D e g d (finProdFinEquiv (m := 28) (n := 256) (j, k)) := fun j => by
    unfold ptN
    rw [dif_pos ⟨e.isLt, g.isLt, j.isLt⟩]
    refine Finset.sum_congr rfl fun k _ => congrArg (term X G U D e g d) (Fin.ext ?_)
    show j.val * 256 + k.val = k.val + 256 * j.val
    omega
  rw [Finset.sum_congr rfl fun j _ => h j, ← Fintype.sum_prod_type' (fun j k => term X G U D e g d (finProdFinEquiv (m := 28) (n := 256) (j, k)))]
  exact Equiv.sum_comp (finProdFinEquiv (m := 28) (n := 256)) (fun f : Fin 7168 => term X G U D e g d f)

section Weights
variable (X : Vec Ideal S18432x2048 .bf16) (G U : Vec Ideal S8x2048x7168 .f32) (D : Vec Ideal S8x7168x2048 .f32)
variable (G' U' : Vec Ideal S1x8x2048x7168 .f32) (D' : Vec Ideal S1x8x7168x2048 .f32)

/-- The kernel's contribution of a hidden element is the reference's. -/
theorem term_eq (hG : ∀ e k f, G (ix3 e k f) = G' (ix4 0 e k f)) (hU : ∀ e k f, U (ix3 e k f) = U' (ix4 0 e k f))
    (hD : ∀ e f d, D (ix3 e f d) = D' (ix4 0 e f d)) (e : Fin 8) (g : Fin 18432) (d : Fin 2048) (f : Fin 7168) :
    term X G U D e g d f = contribution X G' U' D' e g d f := by
  unfold term hid contribution lin
  simp only [hG, hU, hD]

/-- The kernel's result at an element is the reference's. -/
theorem outAt_eq (hG : ∀ e k f, G (ix3 e k f) = G' (ix4 0 e k f)) (hU : ∀ e k f, U (ix3 e k f) = U' (ix4 0 e k f))
    (hD : ∀ e f d, D (ix3 e f d) = D' (ix4 0 e f d)) (a : ℕ → ℕ) (g : Fin 18432) (d : Fin 2048) :
    outAt X G U D a g d = mixture X G' U' D' a g d := by
  unfold outAt mixture
  refine Finset.sum_congr rfl fun e _ => ?_
  refine if_congr (by omega) ?_ rfl
  rw [accN_all]
  exact Finset.sum_congr rfl fun f _ => term_eq X G U D G' U' D' hG hU hD e g d f

end Weights

/-- A leading axis of length one dropped, read at an element. -/
theorem shape_w (w : Vec Ideal S1x8x2048x7168 .f32) (e : Fin 8) (k : Fin 2048) (f : Fin 7168) :
    shapeCast S8x2048x7168 w (by decide) (ix3 e k f) = w (ix4 0 e k f) := by pointwise []

/-- The same of the down weights. -/
theorem shape_d (w : Vec Ideal S1x8x7168x2048 .f32) (e : Fin 8) (f : Fin 7168) (d : Fin 2048) :
    shapeCast S8x7168x2048 w (by decide) (ix3 e f d) = w (ix4 0 e f d) := by pointwise []

variable (m : (ℓ : Loc nD τ sig) → Buf (Elt Ideal) ℓ) (c : Dev nD)

/-- A reshape the line of host operations ends with, read back to what it reads. -/
theorem reshaped {k : ℕ} {x y : Ref sig .tc} {he hn hx hy} (hop : (opl (F := Ideal))[k]? = some (StableHlo.reshape (τ := τ) x y he hn hx hy))
    (h : y ∉ W.drop (k + 1)) (kx : key x < min (5 + k) 233) {X} (ex : V m c x = X) : V m c y = fun i => he ▸ shapeCast y.ty.shape X hn i :=
  (final_eq m c hop h).trans ((StableHlo.reshape_result ..).trans (by rw [upto_final m c kx, ex]))

/-- The gate weights the call reads are the argument's, without its leading axis. -/
theorem V_gate (e : Fin 8) (k : Fin 2048) (f : Fin 7168) :
    (V m c main_v126 : Vec Ideal S8x2048x7168 .f32) (ix3 e k f) = (m (c.tc.loc main_arg2) : Vec Ideal S1x8x2048x7168 .f32) (ix4 0 e k f) := by
  refine (congrFun (reshaped m c (k := 229) (y := main_v126) rfl (by decide) (by decide) (V_main_arg2 m c)) _).trans ?_
  generalize m (c.tc.loc main_arg2) = w
  exact shape_w w e k f

/-- The up weights the call reads are the argument's, without its leading axis. -/
theorem V_up (e : Fin 8) (k : Fin 2048) (f : Fin 7168) :
    (V m c main_v127 : Vec Ideal S8x2048x7168 .f32) (ix3 e k f) = (m (c.tc.loc main_arg3) : Vec Ideal S1x8x2048x7168 .f32) (ix4 0 e k f) := by
  refine (congrFun (reshaped m c (k := 230) (y := main_v127) rfl (by decide) (by decide) (V_main_arg3 m c)) _).trans ?_
  generalize m (c.tc.loc main_arg3) = w
  exact shape_w w e k f

/-- The down weights the call reads are the argument's, without its leading axis. -/
theorem V_down (e : Fin 8) (f : Fin 7168) (d : Fin 2048) :
    (V m c main_v128 : Vec Ideal S8x7168x2048 .f32) (ix3 e f d) = (m (c.tc.loc main_arg4) : Vec Ideal S1x8x7168x2048 .f32) (ix4 0 e f d) := by
  refine (congrFun (reshaped m c (k := 231) (y := main_v128) rfl (by decide) (by decide) (V_main_arg4 m c)) _).trans ?_
  generalize m (c.tc.loc main_arg4) = w
  exact shape_d w e f d

end Cert.Kernel4Ideal.Hand
end
-- ==== Proof.Experts.Claims.lean ====
module

public import proofs.«01_k».proof.Defs
public import proofs.«01_k».proof.Proof.Gen.Pre_counts_in_range
public import proofs.«01_k».proof.Proof.Experts.BitsTable
public import proofs.«01_k».proof.Proof.Experts.Equation
public import Idealize.ShloMosaic.Lib.Claim
public import Idealize.ShloMosaic.Lib.Quiescent
public import Idealize.ShloMosaic.Lib.ReduceAll

/-! The claims about the experts' call of the sparse channel mixer. -/

@[expose] public section
set_option maxRecDepth 16384
noncomputable section
namespace Cert.Proof.Experts
open Idealize
open Idealize.ShloMosaic
open Idealize.ShloMosaic.TcCoe
open Idealize.SL.Sem
open Cert.Experts

/-- A scalar has one index. -/
instance : Subsingleton Cert.Pre_counts_in_range.S_.Idx := ⟨fun a b => by rw [ValueIdx.eq_ix0 a, ValueIdx.eq_ix0 b]⟩

/-- The precondition says that every expert takes at most all of the routed tokens. -/
theorem small_of {F : FTy → Type} [FloatOps F] (cnt : IVec Plan.S8 32) (X : FVec F Cert.Pre_counts_in_range.S18432x2048 .bf16)
    (G U : FVec F Cert.Pre_counts_in_range.S1x8x2048x7168 .f32) (D : FVec F Cert.Pre_counts_in_range.S1x8x7168x2048 .f32)
    (h : (Cert.Pre_counts_in_range.fn (F := F) cnt X G U D).1 = (fun _ => 1#1) ∧ (Cert.Pre_counts_in_range.fn (F := F) cnt X G U D).2 = fun _ => 1#1) :
    Plan.Small cnt := by
  intro e
  dsimp only [Cert.Pre_counts_in_range.fn] at h
  have h1 := Host.reduce_andi_all _ _ _ _ ix0 (congrFun h.1 ix0) (ValueIdx.ix1 e)
  have h2 := Host.reduce_andi_all _ _ _ _ ix0 (congrFun h.2 ix0) (ValueIdx.ix1 e)
  have g1 := IntOp.cmpi_sge.mp h1
  have g2 := IntOp.cmpi_sle.mp h2
  have z1 : (0#32).toInt ≤ (cnt (ValueIdx.ix1 e)).toInt := g1
  have z2 : (cnt (ValueIdx.ix1 e)).toInt ≤ (16384#32).toInt := g2
  have e1 : (0#32).toInt = 0 := by decide
  have e2 : (16384#32).toInt = 16384 := by decide
  rw [e1] at z1
  rw [e2] at z2
  rw [BitVec.toInt_eq_toNat_cond] at z1 z2
  split at z1 <;> omega

/-- On the machine's floats the call ends, on every device, with its arguments unchanged and its counters at zero. -/
theorem quiescent_kernel4 : Cert.quiescent_Kernel4 := fun m g h =>
  have hs : Plan.Small (Cert.Kernel4.Hand.cnt m) := small_of _ _ _ _ _ (h 0)
  (θ_run Cert.Kernel4.defs _ _).mono (fun r h => ⟨fun c => (h.1 c).2, h.2⟩)
    (Cert.Kernel4.Hand.run_all m g (Cert.Kernel4.Hand.ok m hs) (Cert.Kernel4.Hand.opens m hs))

/-- The precondition on the ideal numbers. -/
theorem small_ideal (m : (ℓ : Loc Cert.Kernel4Ideal.nD Cert.Kernel4Ideal.τ Cert.Kernel4Ideal.sig) → Buf (Elt Ideal) ℓ) (h : Cert.Pre_Kernel4Ideal m) :
    Plan.Small (Cert.Kernel4Ideal.Hand.cnt m) := small_of _ _ _ _ _ (h 0)

/-- The same of the call on the ideal numbers. -/
theorem quiescent_kernel4Ideal : Cert.quiescent_Kernel4Ideal := fun m g h =>
  (θ_run Cert.Kernel4Ideal.defs _ _).mono (fun r h => ⟨fun c => (h.1 c).2, h.2⟩)
    (Cert.Kernel4Ideal.Hand.run_all m g (Cert.Kernel4Ideal.Hand.ok m (small_ideal m h)) (Cert.Kernel4Ideal.Hand.opens m (small_ideal m h)))

/-- The same of the reference. -/
theorem quiescent_reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The same of the reference, under the precondition. -/
theorem quiescent_reference4Ideal_pre : Cert.quiescent_Reference4Ideal_pre_counts_in_range := fun m g _ => quiescent_reference4Ideal m g trivial

/-- There is one device. -/
theorem dev_eq (c : Dev Cert.Kernel4Ideal.nD) : c = 0 := Subsingleton.elim _ _

/-- The reference's result of arguments that agree with the call's is the call's array. -/
theorem result_eq (m : (ℓ : Loc Cert.Kernel4Ideal.nD Cert.Kernel4Ideal.τ Cert.Kernel4Ideal.sig) → Buf (Elt Ideal) ℓ) (hs : Plan.Small (Cert.Kernel4Ideal.Hand.cnt m))
    (c : Dev Cert.Kernel4Ideal.nD) :
    Cert.Reference4Ideal.Hand.whole (Cert.Kernel4Ideal.Hand.cnt m) (m (c.tc.loc Cert.Kernel4Ideal.main_arg1)) (m (c.tc.loc Cert.Kernel4Ideal.main_arg2))
        (m (c.tc.loc Cert.Kernel4Ideal.main_arg3)) (m (c.tc.loc Cert.Kernel4Ideal.main_arg4))
      = Cert.Kernel4Ideal.Hand.outArr m c := by
  funext i
  idx_vars i
  refine (Cert.Reference4Ideal.Hand.whole_apply _ hs _ _ _ _ _ _).trans ?_
  refine (Cert.Kernel4Ideal.Hand.outAt_eq _ _ _ _ _ _ _ (Cert.Kernel4Ideal.Hand.V_gate m c) (Cert.Kernel4Ideal.Hand.V_up m c) (Cert.Kernel4Ideal.Hand.V_down m c) _ _ _).symm.trans ?_
  unfold Cert.Kernel4Ideal.Hand.outArr
  rw [show Cert.Kernel4Ideal.Hand.V m c Cert.Kernel4Ideal.main_arg1 = m (c.tc.loc Cert.Kernel4Ideal.main_arg1) from Cert.Kernel4Ideal.Hand.V_main_arg1 m c]
  rfl

/-- On the ideal numbers the call and the reference end with the same rows, and with their arguments unchanged. -/
theorem algebraic4 : Cert.algebraic_Kernel4Ideal_Reference4Ideal := by
  intro m g m' g' hpre hagree
  have hs := small_ideal m hpre
  refine ⟨fun c => Cert.Kernel4Ideal.Hand.outArr m c, ?_, ?_⟩
  · exact (θ_run Cert.Kernel4Ideal.defs _ _).mono (fun r h c => ⟨((h.1 c).1).trans (Cert.Kernel4Ideal.Hand.array m hs c), (h.1 c).2⟩)
      (Cert.Kernel4Ideal.Hand.run_all m g (Cert.Kernel4Ideal.Hand.ok m hs) (Cert.Kernel4Ideal.Hand.opens m hs))
  · refine (θ_run Cert.Reference4Ideal.defs _ _).mono (fun r h c => ⟨(h c).1.trans ?_, (h c).2⟩) (Cert.Reference4Ideal.Value.run m' g')
    obtain ⟨h0, h1, h2, h3, h4⟩ := hagree c
    refine (Cert.Reference4Ideal.Hand.res_eq m' c).trans (Eq.trans ?_ (result_eq m hs c))
    have hc : m (c.tc.loc Cert.Kernel4Ideal.main_arg0) = Cert.Kernel4Ideal.Hand.cnt m := by rw [dev_eq c]; rfl
    rw [← hc]
    congr 1

end Cert.Proof.Experts
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.InProj.Claims
public import proofs.«01_k».proof.Proof.Ffn.Claims
public import proofs.«01_k».proof.Proof.Experts.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_counts_in_range.Gen.facts, by
    exact ⟨InProj.quiescent_kernel, InProj.quiescent_kernelIdeal, InProj.quiescent_referenceIdeal,
      Ffn.quiescent_kernel2, Ffn.quiescent_kernel2Ideal, Ffn.quiescent_reference2Ideal,
      Ffn.quiescent_kernel3, Ffn.quiescent_kernel3Ideal, Ffn.quiescent_reference3Ideal,
      Experts.quiescent_kernel4, Experts.quiescent_kernel4Ideal, Experts.quiescent_reference4Ideal, Experts.quiescent_reference4Ideal_pre,
      trivial, InProj.algebraic, trivial, Ffn.algebraic2, trivial, Ffn.algebraic3, trivial, Experts.algebraic4⟩⟩

end Cert.Proof

end
